-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecIdeal_decay_finite [hPre_decay_finite : Cert.Pre_decay_finite.Facts] (m : (ℓ : Loc Cert.RecIdeal.nD Cert.RecIdeal.τ Cert.RecIdeal.sig) → Buf (Elt Ideal) ℓ) : Prop :=
  ∀ c : Dev Cert.RecIdeal.nD,
    (Cert.Pre_decay_finite.fn (F := Ideal) (m ((c.tc : Thread Cert.RecIdeal.nD Cert.RecIdeal.τ).loc Cert.RecIdeal.main_arg0)) (m ((c.tc : Thread Cert.RecIdeal.nD Cert.RecIdeal.τ).loc Cert.RecIdeal.main_arg1)) (m ((c.tc : Thread Cert.RecIdeal.nD Cert.RecIdeal.τ).loc Cert.RecIdeal.main_arg2))) = (fun _ => 1#1)

def Pre_RecRefIdeal (m : (ℓ : Loc Cert.RecRefIdeal.nD Cert.RecRefIdeal.τ Cert.RecRefIdeal.sig) → Buf (Elt Ideal) ℓ) : Prop :=
  True

def Pre_RecRefIdeal_decay_finite [hPre_decay_finite : Cert.Pre_decay_finite.Facts] (m : (ℓ : Loc Cert.RecRefIdeal.nD Cert.RecRefIdeal.τ Cert.RecRefIdeal.sig) → Buf (Elt Ideal) ℓ) : Prop :=
  ∀ c : Dev Cert.RecRefIdeal.nD,
    (Cert.Pre_decay_finite.fn (F := Ideal) (m ((c.tc : Thread Cert.RecRefIdeal.nD Cert.RecRefIdeal.τ).loc Cert.RecRefIdeal.main_arg0)) (m ((c.tc : Thread Cert.RecRefIdeal.nD Cert.RecRefIdeal.τ).loc Cert.RecRefIdeal.main_arg1)) (m ((c.tc : Thread Cert.RecRefIdeal.nD Cert.RecRefIdeal.τ).loc Cert.RecRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_lower_bound_finite [hPre_lower_bound_finite : Cert.Pre_lower_bound_finite.Facts] (m : (ℓ : Loc Cert.InIdeal.nD Cert.InIdeal.τ Cert.InIdeal.sig) → Buf (Elt Ideal) ℓ) : Prop :=
  ∀ c : Dev Cert.InIdeal.nD,
    (Cert.Pre_lower_bound_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))) = (fun _ => 1#1)

def Pre_InRefIdeal (m : (ℓ : Loc Cert.InRefIdeal.nD Cert.InRefIdeal.τ Cert.InRefIdeal.sig) → Buf (Elt Ideal) ℓ) : Prop :=
  True

def Pre_InRefIdeal_lower_bound_finite [hPre_lower_bound_finite : Cert.Pre_lower_bound_finite.Facts] (m : (ℓ : Loc Cert.InRefIdeal.nD Cert.InRefIdeal.τ Cert.InRefIdeal.sig) → Buf (Elt Ideal) ℓ) : Prop :=
  ∀ c : Dev Cert.InRefIdeal.nD,
    (Cert.Pre_lower_bound_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1)
      ∧ r.2.mem ((c.tc : Thread Cert.Rec.nD Cert.Rec.τ).loc Cert.Rec.main_arg2) = m ((c.tc : Thread Cert.Rec.nD Cert.Rec.τ).loc Cert.Rec.main_arg2))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2))
      ∧ r.2.sem = fun _ => 0)

def quiescent_RecIdeal_pre_decay_finite [hRecIdeal : Cert.RecIdeal.Facts] [hPre_decay_finite : Cert.Pre_decay_finite.Facts] : Prop :=
  ∀ (m : (ℓ : Loc Cert.RecIdeal.nD Cert.RecIdeal.τ Cert.RecIdeal.sig) → Buf (Elt Ideal) ℓ) (g : Dev Cert.RecIdeal.nD → PrngReg), Pre_RecIdeal_decay_finite m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2))
      ∧ r.2.sem = fun _ => 0)

def quiescent_RecRefIdeal [hRecRefIdeal : Cert.RecRefIdeal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2))
      ∧ r.2.sem = fun _ => 0)

def quiescent_RecRefIdeal_pre_decay_finite [hRecRefIdeal : Cert.RecRefIdeal.Facts] [hPre_decay_finite : Cert.Pre_decay_finite.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal_decay_finite m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_lower_bound_finite [hInIdeal : Cert.InIdeal.Facts] [hPre_lower_bound_finite : Cert.Pre_lower_bound_finite.Facts] : Prop :=
  ∀ (m : (ℓ : Loc Cert.InIdeal.nD Cert.InIdeal.τ Cert.InIdeal.sig) → Buf (Elt Ideal) ℓ) (g : Dev Cert.InIdeal.nD → PrngReg), Pre_InIdeal_lower_bound_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_lower_bound_finite [hInRefIdeal : Cert.InRefIdeal.Facts] [hPre_lower_bound_finite : Cert.Pre_lower_bound_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_lower_bound_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def preserves_Attn_AttnIdeal : Prop :=
  True

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v9)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v9) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v88) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Rec_RecIdeal : Prop :=
  True

def algebraic_RecIdeal_RecRefIdeal_pre_decay_finite [hRecIdeal : Cert.RecIdeal.Facts] [hRecRefIdeal : Cert.RecRefIdeal.Facts] [hPre_decay_finite : Cert.Pre_decay_finite.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecRefIdeal.nD Cert.RecRefIdeal.τ Cert.RecRefIdeal.sig) → Buf (Elt Ideal) ℓ) (g' : Dev Cert.RecRefIdeal.nD → PrngReg), Pre_RecIdeal_decay_finite m →
    (∀ c : Dev Cert.RecIdeal.nD,
      m' ((c.tc : Thread Cert.RecRefIdeal.nD Cert.RecRefIdeal.τ).loc Cert.RecRefIdeal.main_arg0) = m ((c.tc : Thread Cert.RecIdeal.nD Cert.RecIdeal.τ).loc Cert.RecIdeal.main_arg0)
      ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)
      ∧ m' ((c.tc : Thread Cert.RecRefIdeal.nD Cert.RecRefIdeal.τ).loc Cert.RecRefIdeal.main_arg2) = m ((c.tc : Thread Cert.RecIdeal.nD Cert.RecIdeal.τ).loc Cert.RecIdeal.main_arg2)) →
    ∃ (v0 : (c : Dev Cert.RecIdeal.nD) → Buf (Elt Ideal) ((c.tc : Thread Cert.RecIdeal.nD Cert.RecIdeal.τ).loc Cert.RecIdeal.main_v0)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v0) = v0 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
          ∧ r.2.mem ((c.tc : Thread Cert.RecIdeal.nD Cert.RecIdeal.τ).loc Cert.RecIdeal.main_arg2) = m ((c.tc : Thread Cert.RecIdeal.nD Cert.RecIdeal.τ).loc Cert.RecIdeal.main_arg2))
      ∧ θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
          r.2.mem ((c.tc : Thread Cert.RecRefIdeal.nD Cert.RecRefIdeal.τ).loc Cert.RecRefIdeal.main_v34) = v0 c
          ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
          ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
          ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v33) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v20) = v0 c
          ∧ r.2.mem ((c.tc : Thread Cert.OutRefIdeal.nD Cert.OutRefIdeal.τ).loc Cert.OutRefIdeal.main_v35) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_In_InIdeal : Prop :=
  True

def algebraic_InIdeal_InRefIdeal_pre_lower_bound_finite [hInIdeal : Cert.InIdeal.Facts] [hInRefIdeal : Cert.InRefIdeal.Facts] [hPre_lower_bound_finite : Cert.Pre_lower_bound_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_lower_bound_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v3_0)) (v1 : (c : Dev Cert.InIdeal.nD) → Buf (Elt Ideal) ((c.tc : Thread Cert.InIdeal.nD Cert.InIdeal.τ).loc Cert.InIdeal.main_v3_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3_0) = v0 c
          ∧ r.2.mem ((c.tc : Thread Cert.InIdeal.nD Cert.InIdeal.τ).loc Cert.InIdeal.main_v3_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v98) = v0 c
          ∧ r.2.mem ((c.tc : Thread Cert.InRefIdeal.nD Cert.InRefIdeal.τ).loc Cert.InRefIdeal.main_v58) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def Claim : Prop :=
  ∃ (hAttn : Cert.Attn.Facts) (hAttnIdeal : Cert.AttnIdeal.Facts) (hAttnRefIdeal : Cert.AttnRefIdeal.Facts) (hRec : Cert.Rec.Facts) (hRecIdeal : Cert.RecIdeal.Facts) (hRecRefIdeal : Cert.RecRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hPre_scores_finite : Cert.Pre_scores_finite.Facts) (hPre_decay_finite : Cert.Pre_decay_finite.Facts) (hPre_lower_bound_finite : Cert.Pre_lower_bound_finite.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_Rec (hRec := hRec)
    ∧ quiescent_RecIdeal (hRecIdeal := hRecIdeal)
    ∧ quiescent_RecIdeal_pre_decay_finite (hRecIdeal := hRecIdeal) (hPre_decay_finite := hPre_decay_finite)
    ∧ quiescent_RecRefIdeal (hRecRefIdeal := hRecRefIdeal)
    ∧ quiescent_RecRefIdeal_pre_decay_finite (hRecRefIdeal := hRecRefIdeal) (hPre_decay_finite := hPre_decay_finite)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InIdeal_pre_lower_bound_finite (hInIdeal := hInIdeal) (hPre_lower_bound_finite := hPre_lower_bound_finite)
    ∧ quiescent_InRefIdeal (hInRefIdeal := hInRefIdeal)
    ∧ quiescent_InRefIdeal_pre_lower_bound_finite (hInRefIdeal := hInRefIdeal) (hPre_lower_bound_finite := hPre_lower_bound_finite)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_Rec_RecIdeal
    ∧ algebraic_RecIdeal_RecRefIdeal_pre_decay_finite (hRecIdeal := hRecIdeal) (hRecRefIdeal := hRecRefIdeal) (hPre_decay_finite := hPre_decay_finite)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal_pre_lower_bound_finite (hInIdeal := hInIdeal) (hInRefIdeal := hInRefIdeal) (hPre_lower_bound_finite := hPre_lower_bound_finite)
-- ==== Pre_decay_finite.lean ====
abbrev S16384x7168 : Shape := ⟨2, ![16384, 7168]⟩
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x7168 .bf16) (main_arg1 : FVec F S16384x1024 .f32) (main_arg2 : FVec F S1x1024 .f32) : IVec S16384x1024 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  main_v2
-- ==== Pre_lower_bound_finite.lean ====
abbrev S1x16384x2048 : Shape := ⟨3, ![1, 16384, 2048]⟩
abbrev S1x2048 : Shape := ⟨2, ![1, 2048]⟩
abbrev S1x2048x7168 : Shape := ⟨3, ![1, 2048, 7168]⟩
abbrev S2x1024 : Shape := ⟨2, ![2, 1024]⟩
abbrev S1x128 : Shape := ⟨2, ![1, 128]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S1x16384x2048 .f32) (main_arg1 : FVec F S1x2048 .f32) (main_arg2 : FVec F S1x2048x7168 .f32) (main_arg3 : FVec F S2x1024 .f32) (main_arg4 : FVec F S1x128 .f32) (main_arg5 : FVec F S1x128 .f32) : IVec S2x1024 1 :=
  let main_v0 : FVec F S2x1024 .f32 := Host.absf main_arg3
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  main_v2
-- ==== Pre_scores_finite.lean ====
abbrev S16384x7168 : Shape := ⟨2, ![16384, 7168]⟩
abbrev S1x8x257 : Shape := ⟨3, ![1, 8, 257]⟩
abbrev S16384x2048 : Shape := ⟨2, ![16384, 2048]⟩
abbrev S_ : Shape := ⟨0, ![]⟩

class Facts : Prop where
  slices_S16384x7168_S16384x2048_0_4096 : S16384x7168.Slices ![0, 4096] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x8x257 : S_.BroadcastsInDim S1x8x257 (![] : Fin 0 → Fin S1x8x257.rank)
  reducesTo_S1x8x257_S_d0_1_2 : S1x8x257.ReducesTo [0, 1, 2] S_

variable [Facts]

def fn {F : FTy → Type} [FloatOps F] (main_arg0 : FVec F S16384x7168 .bf16) (main_arg1 : FVec F S1x8x257 .f32) : IVec S_ 1 :=
  let main_v0 : FVec F S16384x2048 .bf16 := (extractStridedSlice S16384x2048 ![0, 4096] · slices_S16384x7168_S16384x2048_0_4096) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S1x8x257 .f32 := Host.absf main_arg1
  let main_cst_0 : FVec F S_ .f32 := constant S_ .f32 0x7F800000#32
  let main_v7 : FVec F S1x8x257 .f32 := broadcastInDim S1x8x257 ![] bcast_S_S1x8x257 main_cst_0
  let main_v8 : IVec S1x8x257 1 := cmpf .olt main_v6 main_v7
  let main_c_1 : IVec S_ 1 := constantI S_ 1 1#1
  let main_v9 : IVec S_ 1 := (fun x v => Host.reduce IntOp.andi x v reducesTo_S1x8x257_S_d0_1_2 h_S_) main_v8 main_c_1
  let main_v10 : IVec S_ 1 := andi main_v5 main_v9
  main_v10
-- ==== Attn.lean ====
abbrev S16384x7168 : Shape := ⟨2, ![16384, 7168]⟩
abbrev S1x8x257 : Shape := ⟨3, ![1, 8, 257]⟩
abbrev S8x257 : Shape := ⟨2, ![8, 257]⟩
abbrev S8x1 : Shape := ⟨2, ![8, 1]⟩
abbrev S8x384 : Shape := ⟨2, ![8, 384]⟩
abbrev S8x256 : Shape := ⟨2, ![8, 256]⟩
abbrev S8x128 : Shape := ⟨2, ![8, 128]⟩
abbrev S8x768 : Shape := ⟨2, ![8, 768]⟩
abbrev S8x1x768 : Shape := ⟨3, ![8, 1, 768]⟩
abbrev S8x128x640 : Shape := ⟨3, ![8, 128, 640]⟩
abbrev S1x1x768 : Shape := ⟨3, ![1, 1, 768]⟩
abbrev S1x128x640 : Shape := ⟨3, ![1, 128, 640]⟩
abbrev S1x768 : Shape := ⟨2, ![1, 768]⟩
abbrev S1x256 : Shape := ⟨2, ![1, 256]⟩
abbrev S1x1024 : Shape := ⟨2, ![1, 1024]⟩
abbrev S128x1024 : Shape := ⟨2, ![128, 1024]⟩
abbrev S128x640 : Shape := ⟨2, ![128, 640]⟩
abbrev S16384x1024 : Shape := ⟨2, ![16384, 1024]⟩
abbrev S512x128 : Shape := ⟨2, ![512, 128]⟩
abbrev S1024x128 : Shape := ⟨2, ![1024, 128]⟩
abbrev S128x128 : Shape := ⟨2, ![128, 128]⟩
abbrev S640x128 : Shape := ⟨2, ![640, 128]⟩
abbrev S128 : Shape := ⟨1, ![128]⟩
abbrev S128x1 : Shape := ⟨2, ![128, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x7168, .bf16⟩
  | .hbm, ⟨1, _⟩ => ⟨S1x8x257, .f32⟩
  | .hbm, ⟨2, _⟩ => ⟨S8x257, .f32⟩
  | .hbm, ⟨3, _⟩ => ⟨S8x1, .f32⟩
  | .hbm, ⟨4, _⟩ => ⟨S8x384, .f32⟩
  | .hbm, ⟨5, _⟩ => ⟨S8x256, .f32⟩
  | .hbm, ⟨6, _⟩ => ⟨S8x256, .f32⟩
  | .hbm, ⟨7, _⟩ => ⟨S8x128, .f32⟩
  | .hbm, ⟨8, _⟩ => ⟨S8x768, .f32⟩
  | .hbm, ⟨9, _⟩ => ⟨S8x1x768, .f32⟩
  | .hbm, ⟨10, _⟩ => ⟨S8x128x640, .f32⟩
  | .hbm, ⟨11, _⟩ => ⟨S16384x1024, .bf16⟩
  | .local _ .vmem, ⟨0, _⟩ => ⟨S1x1x768, .f32⟩
  | .local _ .vmem, ⟨1, _⟩ => ⟨S1x1x768, .f32⟩
  | .local _ .vmem, ⟨2, _⟩ => ⟨S1x128x640, .f32⟩
  | .local _ .vmem, ⟨3, _⟩ => ⟨S1x128x640, .f32⟩
  | .local _ .vmem, ⟨4, _⟩ => ⟨S1x128x640, .f32⟩
  | .local _ .vmem, ⟨5, _⟩ => ⟨S1x128x640, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c40_i32 : BitVec 32 := 40#32
  let v2 : BitVec 32 := Scalar.addi c40_i32 arg0
  let c0_i32_0 : BitVec 32 := 0#32
  ![v1.toNat, v2.toNat]

def cc1_transform_3 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c48_i32 : BitVec 32 := 48#32
  let v2 : BitVec 32 := Scalar.addi c48_i32 arg0
  let c0_i32_0 : BitVec 32 := 0#32
  ![v1.toNat, v2.toNat]

def cc1_transform_5 (i : grid1.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1x128x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AttnRefIdeal.lean ====
abbrev S16384x7168 : Shape := ⟨2, ![16384, 7168]⟩
abbrev S1x8x257 : Shape := ⟨3, ![1, 8, 257]⟩
abbrev S8x257 : Shape := ⟨2, ![8, 257]⟩
abbrev S16384x1024 : Shape := ⟨2, ![16384, 1024]⟩
abbrev S1x16384x8x128 : Shape := ⟨4, ![1, 16384, 8, 128]⟩
abbrev S1x256x64x8x128 : Shape := ⟨5, ![1, 256, 64, 8, 128]⟩
abbrev S_ : Shape := ⟨0, ![]⟩
abbrev S1x264x64x8x128 : Shape := ⟨5, ![1, 264, 64, 8, 128]⟩
abbrev S256 : Shape := ⟨1, ![256]⟩
abbrev S256x1 : Shape := ⟨2, ![256, 1]⟩
abbrev S9 : Shape := ⟨1, ![9]⟩
abbrev S1x9 : Shape := ⟨2, ![1, 9]⟩
abbrev S256x9 : Shape := ⟨2, ![256, 9]⟩
abbrev S256x9x1 : Shape := ⟨3, ![256, 9, 1]⟩
abbrev S1x256x9x64x8x128 : Shape := ⟨6, ![1, 256, 9, 64, 8, 128]⟩
abbrev S1x256x576x8x128 : Shape := ⟨5, ![1, 256, 576, 8, 128]⟩
abbrev S1x8x256x64x576 : Shape := ⟨5, ![1, 8, 256, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S256x9x64 : Shape := ⟨3, ![256, 9, 64]⟩
abbrev S256x576 : Shape := ⟨2, ![256, 576]⟩
abbrev S1x1x256x1x576 : Shape := ⟨5, ![1, 1, 256, 1, 576]⟩
abbrev S1x8x1x64x576 : Shape := ⟨5, ![1, 8, 1, 64, 576]⟩
abbrev S1x8x256x64 : Shape := ⟨4, ![1, 8, 256, 64]⟩
abbrev S1x8x256x64x1 : Shape := ⟨5, ![1, 8, 256, 64, 1]⟩
abbrev S1x256x8x128x64 : Shape := ⟨5, ![1, 256, 8, 128, 64]⟩

abbrev nBuf : Space → Nat
  | .hbm => 119
  | .vmem => 0
  | .smem => 0
  | _ => 0

abbrev bufTy : (tb : Table) → Fin (tcTables nBuf tb) → BufTy
  | .hbm, ⟨0, _⟩ => ⟨S16384x7168, .bf16⟩
  | .hbm, ⟨1, _⟩ => ⟨S1x8x257, .f32⟩
  | .hbm, ⟨2, _⟩ => ⟨S8x257, .f32⟩
  | .hbm, ⟨3, _⟩ => ⟨S16384x7168, .f32⟩
  | .hbm, ⟨4, _⟩ => ⟨S16384x1024, .f32⟩
  | .hbm, ⟨5, _⟩ => ⟨S1x16384x8x128, .f32⟩
  | .hbm, ⟨6, _⟩ => ⟨S16384x1024, .f32⟩
  | .hbm, ⟨7, _⟩ => ⟨S1x16384x8x128, .f32⟩
  | .hbm, ⟨8, _⟩ => ⟨S16384x1024, .f32⟩
  | .hbm, ⟨9, _⟩ => ⟨S1x16384x8x128, .f32⟩
  | .hbm, ⟨10, _⟩ => ⟨S1x256x64x8x128, .f32⟩
  | .hbm, ⟨11, _⟩ => ⟨S1x256x64x8x128, .f32⟩
  | .hbm, ⟨12, _⟩ => ⟨S_, .i32⟩
  | .hbm, ⟨13, _⟩ => ⟨S_, .f32⟩
  | .hbm, ⟨14, _⟩ => ⟨S1x264x64x8x128, .f32⟩
  | .hbm, ⟨15, _⟩ => ⟨S1x256x64x8x128, .f32⟩
  | .hbm, ⟨16, _⟩ => ⟨S_, .i32⟩
  | .hbm, ⟨17, _⟩ => ⟨S_, .f32⟩
  | .hbm, ⟨18, _⟩ => ⟨S1x264x64x8x128, .f32⟩
  | .hbm, ⟨19, _⟩ => ⟨S256, .i32⟩
  | .hbm, ⟨20, _⟩ => ⟨S256x1, .i32⟩
  | .hbm, ⟨21, _⟩ => ⟨S9, .i32⟩
  | .hbm, ⟨22, _⟩ => ⟨S1x9, .i32⟩
  | .hbm, ⟨23, _⟩ => ⟨S256x9, .i32⟩
  | .hbm, ⟨24, _⟩ => ⟨S256x9, .i32⟩
  | .hbm, ⟨25, _⟩ => ⟨S256x9, .i32⟩
  | .hbm, ⟨26, _⟩ => ⟨S_, .i32⟩
  | .hbm, ⟨27, _⟩ => ⟨S256x9, .i32⟩
  | .hbm, ⟨28, _⟩ => ⟨S256x9, .i1⟩
  | .hbm, ⟨29, _⟩ => ⟨S_, .i32⟩
  | .hbm, ⟨30, _⟩ => ⟨S256x9, .i32⟩
  | .hbm, ⟨31, _⟩ => ⟨S256x9, .i32⟩
  | .hbm, ⟨32, _⟩ => ⟨S256x9, .i32⟩
  | .hbm, ⟨33, _⟩ => ⟨S256x9x1, .i32⟩
  | .hbm, ⟨34, _⟩ => ⟨S1x256x9x64x8x128, .f32⟩
  | .hbm, ⟨35, _⟩ => ⟨S1x256x576x8x128, .f32⟩
  | .hbm, ⟨36, _⟩ => ⟨S_, .i32⟩
  | .hbm, ⟨37, _⟩ => ⟨S256x9, .i32⟩
  | .hbm, ⟨38, _⟩ => ⟨S256x9, .i1⟩
  | .hbm, ⟨39, _⟩ => ⟨S_, .i32⟩
  | .hbm, ⟨40, _⟩ => ⟨S256x9, .i32⟩
  | .hbm, ⟨41, _⟩ => ⟨S256x9, .i32⟩
  | .hbm, ⟨42, _⟩ => ⟨S256x9, .i32⟩
  | .hbm, ⟨43, _⟩ => ⟨S256x9x1, .i32⟩
  | .hbm, ⟨44, _⟩ => ⟨S1x256x9x64x8x128, .f32⟩
  | .hbm, ⟨45, _⟩ => ⟨S1x256x576x8x128, .f32⟩
  | .hbm, ⟨46, _⟩ => ⟨S1x8x256x64x576, .f32⟩
  | .hbm, ⟨47, _⟩ => ⟨S64, .i32⟩
  | .hbm, ⟨48, _⟩ => ⟨S576, .i32⟩
  | .hbm, ⟨49, _⟩ => ⟨S64x1, .i32⟩
  | .hbm, ⟨50, _⟩ => ⟨S_, .i32⟩
  | .hbm, ⟨51, _⟩ => ⟨S64x1, .i32⟩
  | .hbm, ⟨52, _⟩ => ⟨S64x1, .i32⟩
  | .hbm, ⟨53, _⟩ => ⟨S1x576, .i32⟩
  | .hbm, ⟨54, _⟩ => ⟨S64x576, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S64x576, .i32⟩
  | .hbm, ⟨61, _⟩ => ⟨S64x576, .i32⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S_, .i32⟩
  | .hbm, ⟨69, _⟩ => ⟨S64x576, .i32⟩
  | .hbm, ⟨70, _⟩ => ⟨S64x576, .i1⟩
  | .hbm, ⟨71, _⟩ => ⟨S_, .i32⟩
  | .hbm, ⟨72, _⟩ => ⟨S64x576, .i32⟩
  | .hbm, ⟨73, _⟩ => ⟨S64x576, .i32⟩
  | .hbm, ⟨74, _⟩ => ⟨S64x576, .i32⟩
  | .hbm, ⟨75, _⟩ => ⟨S64x576x1, .i32⟩
  | .hbm, ⟨76, _⟩ => ⟨S8x64x576, .f32⟩
  | .hbm, ⟨77, _⟩ => ⟨S256, .i32⟩
  | .hbm, ⟨78, _⟩ => ⟨S256x1, .i32⟩
  | .hbm, ⟨79, _⟩ => ⟨S_, .i32⟩
  | .hbm, ⟨80, _⟩ => ⟨S256x1, .i32⟩
  | .hbm, ⟨81, _⟩ => ⟨S256x1, .i32⟩
  | .hbm, ⟨82, _⟩ => ⟨S9, .i32⟩
  | .hbm, ⟨83, _⟩ => ⟨S1x9, .i32⟩
  | .hbm, ⟨84, _⟩ => ⟨S256x9, .i32⟩
  | .hbm, ⟨85, _⟩ => ⟨S256x9, .i32⟩
  | .hbm, ⟨86, _⟩ => ⟨S256x9, .i32⟩
  | .hbm, ⟨87, _⟩ => ⟨S_, .i32⟩
  | .hbm, ⟨88, _⟩ => ⟨S256x9, .i32⟩
  | .hbm, ⟨89, _⟩ => ⟨S256x9, .i1⟩
  | .hbm, ⟨90, _⟩ => ⟨S256x9x64, .i1⟩
  | .hbm, ⟨91, _⟩ => ⟨S256x576, .i1⟩
  | .hbm, ⟨92, _⟩ => ⟨S1x1x256x1x576, .i1⟩
  | .hbm, ⟨93, _⟩ => ⟨S1x8x1x64x576, .f32⟩
  | .hbm, ⟨94, _⟩ => ⟨S1x8x256x64x576, .f32⟩
  | .hbm, ⟨95, _⟩ => ⟨S1x8x256x64x576, .f32⟩
  | .hbm, ⟨96, _⟩ => ⟨S_, .f32⟩
  | .hbm, ⟨97, _⟩ => ⟨S_, .f32⟩
  | .hbm, ⟨98, _⟩ => ⟨S1x8x256x64x576, .i1⟩
  | .hbm, ⟨99, _⟩ => ⟨S1x8x256x64x576, .f32⟩
  | .hbm, ⟨100, _⟩ => ⟨S1x8x256x64x576, .f32⟩
  | .hbm, ⟨101, _⟩ => ⟨S_, .f32⟩
  | .hbm, ⟨102, _⟩ => ⟨S1x8x256x64, .f32⟩
  | .hbm, ⟨103, _⟩ => ⟨S_, .f32⟩
  | .hbm, ⟨104, _⟩ => ⟨S1x8x256x64, .f32⟩
  | .hbm, ⟨105, _⟩ => ⟨S1x8x256x64, .f32⟩
  | .hbm, ⟨106, _⟩ => ⟨S1x8x256x64x1, .f32⟩
  | .hbm, ⟨107, _⟩ => ⟨S1x8x256x64x576, .f32⟩
  | .hbm, ⟨108, _⟩ => ⟨S1x8x256x64x576, .f32⟩
  | .hbm, ⟨109, _⟩ => ⟨S1x8x256x64x576, .f32⟩
  | .hbm, ⟨110, _⟩ => ⟨S_, .f32⟩
  | .hbm, ⟨111, _⟩ => ⟨S1x8x256x64, .f32⟩
  | .hbm, ⟨112, _⟩ => ⟨S1x8x256x64x1, .f32⟩
  | .hbm, ⟨113, _⟩ => ⟨S1x8x256x64x576, .f32⟩
  | .hbm, ⟨114, _⟩ => ⟨S1x8x256x64x576, .f32⟩
  | .hbm, ⟨115, _⟩ => ⟨S1x256x8x128x64, .f32⟩
  | .hbm, ⟨116, _⟩ => ⟨S1x256x64x8x128, .f32⟩
  | .hbm, ⟨117, _⟩ => ⟨S16384x1024, .f32⟩
  | .hbm, ⟨118, _⟩ => ⟨S16384x1024, .bf16⟩
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_c_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Rec.lean ====
abbrev S16384x7168 : Shape := ⟨2, ![16384, 7168]⟩
abbrev S16384x1024 : Shape := ⟨2, ![16384, 1024]⟩
abbrev S1x1024 : Shape := ⟨2, ![1, 1024]⟩
abbrev S512x64 : Shape := ⟨2, ![512, 64]⟩
abbrev S256x128 : Shape := ⟨2, ![256, 128]⟩
abbrev S1x128 : Shape := ⟨2, ![1, 128]⟩
abbrev S128x128 : Shape := ⟨2, ![128, 128]⟩
abbrev S64x128 : Shape := ⟨2, ![64, 128]⟩
abbrev S64x64 : Shape := ⟨2, ![64, 64]⟩
abbrev S64x256 : Shape := ⟨2, ![64, 256]⟩
abbrev S512x256 : Shape := ⟨2, ![512, 256]⟩
abbrev S512x128 : Shape := ⟨2, ![512, 128]⟩
abbrev S64 : Shape := ⟨1, ![64]⟩
abbrev S64x1 : Shape := ⟨2, ![64, 1]⟩

abbrev nBuf : Space → Nat
  | .hbm => 5
  | .vmem => 16
  | .smem => 0
  | _ => 0

abbrev bufTy : (tb : Table) → Fin (tcTables nBuf tb) → BufTy
  | .hbm, ⟨0, _⟩ => ⟨S16384x7168, .bf16⟩
  | .hbm, ⟨1, _⟩ => ⟨S16384x1024, .f32⟩
  | .hbm, ⟨2, _⟩ => ⟨S1x1024, .f32⟩
  | .hbm, ⟨3, _⟩ => ⟨S512x64, .bf16⟩
  | .hbm, ⟨4, _⟩ => ⟨S16384x1024, .bf16⟩
  | .local _ .vmem, ⟨0, _⟩ => ⟨S512x64, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .f32⟩
  | .local _ .vmem, ⟨8, _⟩ => ⟨S256x128, .f32⟩
  | .local _ .vmem, ⟨9, _⟩ => ⟨S256x128, .bf16⟩
  | .local _ .vmem, ⟨10, _⟩ => ⟨S256x128, .bf16⟩
  | .local _ .vmem, ⟨11, _⟩ => ⟨S1x128, .f32⟩
  | .local _ .vmem, ⟨12, _⟩ => ⟨S1x128, .f32⟩
  | .local _ .vmem, ⟨13, _⟩ => ⟨S256x128, .bf16⟩
  | .local _ .vmem, ⟨14, _⟩ => ⟨S256x128, .bf16⟩
  | .local _ .vmem, ⟨15, _⟩ => ⟨S128x128, .f32⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RecRefIdeal.lean ====
abbrev S16384x7168 : Shape := ⟨2, ![16384, 7168]⟩
abbrev S16384x1024 : Shape := ⟨2, ![16384, 1024]⟩
abbrev S1x1024 : Shape := ⟨2, ![1, 1024]⟩
abbrev S_ : Shape := ⟨0, ![]⟩
abbrev S8x128x128 : Shape := ⟨3, ![8, 128, 128]⟩
abbrev S256x64x8x128 : Shape := ⟨4, ![256, 64, 8, 128]⟩
abbrev S256x8x64x128 : Shape := ⟨4, ![256, 8, 64, 128]⟩
abbrev S1x8x64x128 : Shape := ⟨4, ![1, 8, 64, 128]⟩
abbrev S8x64x128 : Shape := ⟨3, ![8, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64x1 : Shape := ⟨4, ![1, 64, 64, 1]⟩
abbrev S8x1x64x128 : Shape := ⟨4, ![8, 1, 64, 128]⟩
abbrev S8x64x64x128 : Shape := ⟨4, ![8, 64, 64, 128]⟩
abbrev S8x64x1x128 : Shape := ⟨4, ![8, 64, 1, 128]⟩
abbrev S8x64x64 : Shape := ⟨3, ![8, 64, 64]⟩
abbrev S8x1x128 : Shape := ⟨3, ![8, 1, 128]⟩
abbrev S8x128 : Shape := ⟨2, ![8, 128]⟩
abbrev S8x128x1 : Shape := ⟨3, ![8, 128, 1]⟩
abbrev S16384x8x128 : Shape := ⟨3, ![16384, 8, 128]⟩
abbrev S16384x8 : Shape := ⟨2, ![16384, 8]⟩
abbrev S16384x8x1 : Shape := ⟨3, ![16384, 8, 1]⟩
abbrev S1024 : Shape := ⟨1, ![1024]⟩

abbrev nBuf : Space → Nat
  | .hbm => 132
  | .vmem => 0
  | .smem => 0
  | _ => 0

abbrev hbmTy0_0 (i : Nat) : BufTy := match i % 128 with
  | 0 => ⟨S16384x7168, .bf16⟩
  | 1 => ⟨S16384x1024, .f32⟩
  | 2 => ⟨S1x1024, .f32⟩
  | 3 => ⟨S16384x7168, .f32⟩
  | 4 => ⟨S_, .f32⟩
  | 5 => ⟨S8x128x128, .f32⟩
  | 6 => ⟨S16384x1024, .f32⟩
  | 7 => ⟨S16384x1024, .f32⟩
  | 8 => ⟨S16384x1024, .f32⟩
  | 9 => ⟨S256x64x8x128, .f32⟩
  | 10 => ⟨S256x8x64x128, .f32⟩
  | 11 => ⟨S256x64x8x128, .f32⟩
  | 12 => ⟨S256x8x64x128, .f32⟩
  | 13 => ⟨S256x64x8x128, .f32⟩
  | 14 => ⟨S256x8x64x128, .f32⟩
  | 15 => ⟨S256x64x8x128, .f32⟩
  | 16 => ⟨S256x8x64x128, .f32⟩
  | 17 => ⟨S_, .f32⟩
  | 18 => ⟨S256x8x64x128, .f32⟩
  | 19 => ⟨S_, .i32⟩
  | 20 => ⟨S256x8x64x128, .f32⟩
  | 21 => ⟨S256x8x64x128, .f32⟩
  | 22 => ⟨S256x8x64x128, .f32⟩
  | 23 => ⟨S256x8x64x128, .f32⟩
  | 24 => ⟨S_, .i32⟩
  | 25 => ⟨S8x128x128, .f32⟩
  | 26 => ⟨S256x8x64x128, .f32⟩
  | 27 => ⟨S_, .i32⟩
  | 28 => ⟨S_, .i1⟩
  | 29 => ⟨S_, .i32⟩
  | 30 => ⟨S_, .i32⟩
  | 31 => ⟨S_, .i32⟩
  | 32 => ⟨S1x8x64x128, .f32⟩
  | 33 => ⟨S8x64x128, .f32⟩
  | 34 => ⟨S_, .i32⟩
  | 35 => ⟨S_, .i32⟩
  | 36 => ⟨S_, .i32⟩
  | 37 => ⟨S1x8x64x128, .f32⟩
  | 38 => ⟨S8x64x128, .f32⟩
  | 39 => ⟨S_, .i32⟩
  | 40 => ⟨S_, .i32⟩
  | 41 => ⟨S_, .i32⟩
  | 42 => ⟨S1x8x64x128, .f32⟩
  | 43 => ⟨S8x64x128, .f32⟩
  | 44 => ⟨S_, .i32⟩
  | 45 => ⟨S_, .i32⟩
  | 46 => ⟨S_, .i32⟩
  | 47 => ⟨S1x8x64x128, .f32⟩
  | 48 => ⟨S8x64x128, .f32⟩
  | 49 => ⟨S64, .i32⟩
  | 50 => ⟨S64x1, .i32⟩
  | 51 => ⟨S1x64, .i32⟩
  | 52 => ⟨S64x64, .i32⟩
  | 53 => ⟨S64x64, .i32⟩
  | 54 => ⟨S64x64, .i1⟩
  | 55 => ⟨S1x64x64x1, .i1⟩
  | 56 => ⟨S8x1x64x128, .f32⟩
  | 57 => ⟨S_, .f32⟩
  | 58 => ⟨S_, .f32⟩
  | 59 => ⟨S8x64x64x128, .i1⟩
  | 60 => ⟨S8x64x64x128, .f32⟩
  | 61 => ⟨S8x64x64x128, .f32⟩
  | 62 => ⟨S8x64x64x128, .f32⟩
  | 63 => ⟨S_, .f32⟩
  | 64 => ⟨S8x64x128, .f32⟩
  | 65 => ⟨S8x64x128, .f32⟩
  | 66 => ⟨S8x64x128, .f32⟩
  | 67 => ⟨S8x64x128, .f32⟩
  | 68 => ⟨S8x64x1x128, .f32⟩
  | 69 => ⟨S8x1x64x128, .f32⟩
  | 70 => ⟨S8x64x64x128, .f32⟩
  | 71 => ⟨S8x64x64x128, .f32⟩
  | 72 => ⟨S8x64x64x128, .f32⟩
  | 73 => ⟨S_, .f32⟩
  | 74 => ⟨S_, .f32⟩
  | 75 => ⟨S8x64x64x128, .i1⟩
  | 76 => ⟨S8x64x64x128, .f32⟩
  | 77 => ⟨S8x64x64x128, .f32⟩
  | 78 => ⟨S8x64x64x128, .f32⟩
  | 79 => ⟨S8x64x1x128, .f32⟩
  | 80 => ⟨S8x64x64x128, .f32⟩
  | 81 => ⟨S8x64x64x128, .f32⟩
  | 82 => ⟨S8x1x64x128, .f32⟩
  | 83 => ⟨S8x64x64x128, .f32⟩
  | 84 => ⟨S8x64x64x128, .f32⟩
  | 85 => ⟨S_, .f32⟩
  | 86 => ⟨S8x64x64, .f32⟩
  | 87 => ⟨S8x64x128, .f32⟩
  | 88 => ⟨S8x1x128, .f32⟩
  | 89 => ⟨S8x128, .f32⟩
  | 90 => ⟨S8x128, .f32⟩
  | 91 => ⟨S8x128x1, .f32⟩
  | 92 => ⟨S8x128x128, .f32⟩
  | 93 => ⟨S8x128x128, .f32⟩
  | 94 => ⟨S8x1x128, .f32⟩
  | 95 => ⟨S8x64x128, .f32⟩
  | 96 => ⟨S8x64x128, .f32⟩
  | 97 => ⟨S8x64x128, .f32⟩
  | 98 => ⟨S8x64x128, .f32⟩
  | 99 => ⟨S8x128x128, .f32⟩
  | 100 => ⟨S8x128x128, .f32⟩
  | 101 => ⟨S8x64x128, .f32⟩
  | 102 => ⟨S1x8x64x128, .f32⟩
  | 103 => ⟨S_, .i32⟩
  | 104 => ⟨S_, .i32⟩
  | 105 => ⟨S_, .i32⟩
  | 106 => ⟨S256x8x64x128, .f32⟩
  | 107 => ⟨S_, .i32⟩
  | 108 => ⟨S_, .i32⟩
  | 109 => ⟨S256x64x8x128, .f32⟩
  | 110 => ⟨S16384x8x128, .f32⟩
  | 111 => ⟨S16384x8x128, .f32⟩
  | 112 => ⟨S_, .f32⟩
  | 113 => ⟨S16384x8, .f32⟩
  | 114 => ⟨S16384x8x1, .f32⟩
  | 115 => ⟨S_, .f32⟩
  | 116 => ⟨S16384x8x1, .f32⟩
  | 117 => ⟨S16384x8x1, .f32⟩
  | 118 => ⟨S_, .f32⟩
  | 119 => ⟨S16384x8x1, .f32⟩
  | 120 => ⟨S16384x8x1, .f32⟩
  | 121 => ⟨S16384x8x1, .f32⟩
  | 122 => ⟨S16384x8x128, .f32⟩
  | 123 => ⟨S16384x8x128, .f32⟩
  | 124 => ⟨S16384x1024, .f32⟩
  | 125 => ⟨S1024, .f32⟩
  | 126 => ⟨S1x1024, .f32⟩
  | 127 => ⟨S16384x1024, .f32⟩
  | _ => ⟨S16384x7168, .bf16⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .bf16⟩
  | _ => ⟨S16384x7168, .bf16⟩

abbrev hbmTy (i : Nat) : BufTy := match i / 128 with
  | 0 => hbmTy0_0 i
  | 1 => hbmTy0_1 i
  | _ => ⟨S16384x7168, .bf16⟩

abbrev bufTy : (tb : Table) → Fin (tcTables nBuf tb) → BufTy
  | .hbm, ⟨i, _⟩ => hbmTy i
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_c : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev main_while0c_c_10 : Ref sig .tc := ⟨.hbm, 27, rfl⟩
abbrev main_while0c_v35 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_c_1 : Ref sig .tc := ⟨.hbm, 31, rfl⟩
abbrev main_while0b_call0_v0 : Ref sig .tc := ⟨.hbm, 32, rfl⟩
abbrev main_while0b_v35 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_c_1 : Ref sig .tc := ⟨.hbm, 36, rfl⟩
abbrev main_while0b_call1_v0 : Ref sig .tc := ⟨.hbm, 37, rfl⟩
abbrev main_while0b_v36 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_c_1 : Ref sig .tc := ⟨.hbm, 41, rfl⟩
abbrev main_while0b_call2_v0 : Ref sig .tc := ⟨.hbm, 42, rfl⟩
abbrev main_while0b_v37 : Ref sig .tc := ⟨.hbm, 43, rfl⟩
abbrev main_while0b_call3_c : Ref sig .tc := ⟨.hbm, 44, rfl⟩
abbrev main_while0b_call3_c_0 : Ref sig .tc := ⟨.hbm, 45, rfl⟩
abbrev main_while0b_call3_c_1 : Ref sig .tc := ⟨.hbm, 46, rfl⟩
abbrev main_while0b_call3_v0 : Ref sig .tc := ⟨.hbm, 47, rfl⟩
abbrev main_while0b_v38 : Ref sig .tc := ⟨.hbm, 48, rfl⟩
abbrev main_while0b_v39 : Ref sig .tc := ⟨.hbm, 49, rfl⟩
abbrev main_while0b_v40 : Ref sig .tc := ⟨.hbm, 50, rfl⟩
abbrev main_while0b_v41 : Ref sig .tc := ⟨.hbm, 51, rfl⟩
abbrev main_while0b_v42 : Ref sig .tc := ⟨.hbm, 52, rfl⟩
abbrev main_while0b_v43 : Ref sig .tc := ⟨.hbm, 53, rfl⟩
abbrev main_while0b_v44 : Ref sig .tc := ⟨.hbm, 54, rfl⟩
abbrev main_while0b_v45 : Ref sig .tc := ⟨.hbm, 55, rfl⟩
abbrev main_while0b_v46 : Ref sig .tc := ⟨.hbm, 56, rfl⟩
abbrev main_while0b_cst_10 : Ref sig .tc := ⟨.hbm, 57, rfl⟩
abbrev main_while0b_call4_v0 : Ref sig .tc := ⟨.hbm, 58, rfl⟩
abbrev main_while0b_call4_v1 : Ref sig .tc := ⟨.hbm, 59, rfl⟩
abbrev main_while0b_call4_v2 : Ref sig .tc := ⟨.hbm, 60, rfl⟩
abbrev main_while0b_call4_v3 : Ref sig .tc := ⟨.hbm, 61, rfl⟩
abbrev main_while0b_v47 : Ref sig .tc := ⟨.hbm, 62, rfl⟩
abbrev main_while0b_cst_11 : Ref sig .tc := ⟨.hbm, 63, rfl⟩
abbrev main_while0b_v48 : Ref sig .tc := ⟨.hbm, 64, rfl⟩
abbrev main_while0b_v49 : Ref sig .tc := ⟨.hbm, 65, rfl⟩
abbrev main_while0b_v50 : Ref sig .tc := ⟨.hbm, 66, rfl⟩
abbrev main_while0b_v51 : Ref sig .tc := ⟨.hbm, 67, rfl⟩
abbrev main_while0b_v52 : Ref sig .tc := ⟨.hbm, 68, rfl⟩
abbrev main_while0b_v53 : Ref sig .tc := ⟨.hbm, 69, rfl⟩
abbrev main_while0b_v54 : Ref sig .tc := ⟨.hbm, 70, rfl⟩
abbrev main_while0b_v55 : Ref sig .tc := ⟨.hbm, 71, rfl⟩
abbrev main_while0b_v56 : Ref sig .tc := ⟨.hbm, 72, rfl⟩
abbrev main_while0b_cst_12 : Ref sig .tc := ⟨.hbm, 73, rfl⟩
abbrev main_while0b_call5_v0 : Ref sig .tc := ⟨.hbm, 74, rfl⟩
abbrev main_while0b_call5_v1 : Ref sig .tc := ⟨.hbm, 75, rfl⟩
abbrev main_while0b_call5_v2 : Ref sig .tc := ⟨.hbm, 76, rfl⟩
abbrev main_while0b_v57 : Ref sig .tc := ⟨.hbm, 77, rfl⟩
abbrev main_while0b_v58 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_cst_13 : Ref sig .tc := ⟨.hbm, 85, rfl⟩
abbrev main_while0b_v65 : Ref sig .tc := ⟨.hbm, 86, rfl⟩
abbrev main_while0b_v66 : Ref sig .tc := ⟨.hbm, 87, rfl⟩
abbrev main_while0b_v67 : Ref sig .tc := ⟨.hbm, 88, rfl⟩
abbrev main_while0b_v68 : Ref sig .tc := ⟨.hbm, 89, rfl⟩
abbrev main_while0b_v69 : Ref sig .tc := ⟨.hbm, 90, rfl⟩
abbrev main_while0b_v70 : Ref sig .tc := ⟨.hbm, 91, rfl⟩
abbrev main_while0b_v71 : Ref sig .tc := ⟨.hbm, 92, rfl⟩
abbrev main_while0b_v72 : Ref sig .tc := ⟨.hbm, 93, rfl⟩
abbrev main_while0b_v73 : Ref sig .tc := ⟨.hbm, 94, rfl⟩
abbrev main_while0b_v74 : Ref sig .tc := ⟨.hbm, 95, rfl⟩
abbrev main_while0b_v75 : Ref sig .tc := ⟨.hbm, 96, rfl⟩
abbrev main_while0b_v76 : Ref sig .tc := ⟨.hbm, 97, rfl⟩
abbrev main_while0b_v77 : Ref sig .tc := ⟨.hbm, 98, rfl⟩
abbrev main_while0b_v78 : Ref sig .tc := ⟨.hbm, 99, rfl⟩
abbrev main_while0b_v79 : Ref sig .tc := ⟨.hbm, 100, rfl⟩
abbrev main_while0b_v80 : Ref sig .tc := ⟨.hbm, 101, rfl⟩
abbrev main_while0b_call6_v0 : Ref sig .tc := ⟨.hbm, 102, rfl⟩
abbrev main_while0b_call6_c : Ref sig .tc := ⟨.hbm, 103, rfl⟩
abbrev main_while0b_call6_c_0 : Ref sig .tc := ⟨.hbm, 104, rfl⟩
abbrev main_while0b_call6_c_1 : Ref sig .tc := ⟨.hbm, 105, rfl⟩
abbrev main_while0b_v81 : Ref sig .tc := ⟨.hbm, 106, rfl⟩
abbrev main_while0b_c_14 : Ref sig .tc := ⟨.hbm, 107, rfl⟩
abbrev main_while0b_v82 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_cst_1 : Ref sig .tc := ⟨.hbm, 112, rfl⟩
abbrev main_v18 : Ref sig .tc := ⟨.hbm, 113, rfl⟩
abbrev main_v19 : Ref sig .tc := ⟨.hbm, 114, rfl⟩
abbrev main_cst_2 : Ref sig .tc := ⟨.hbm, 115, rfl⟩
abbrev main_v20 : Ref sig .tc := ⟨.hbm, 116, rfl⟩
abbrev main_v21 : Ref sig .tc := ⟨.hbm, 117, rfl⟩
abbrev main_cst_3 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩

abbrev nD : Nat := 1
abbrev τ : Topo := Topo.v7x

variable {F : FTy → Type} [FloatOps F]

abbrev main_while0_count : Scf.Loop 32 := ⟨0#32, 256#32, 1#32⟩
-- ==== Down.lean ====
abbrev S16384x5632 : Shape := ⟨2, ![16384, 5632]⟩
abbrev S1x5632x2048 : Shape := ⟨3, ![1, 5632, 2048]⟩
abbrev S16384x2048 : Shape := ⟨2, ![16384, 2048]⟩
abbrev S5632x2048 : Shape := ⟨2, ![5632, 2048]⟩
abbrev S512x5632 : Shape := ⟨2, ![512, 5632]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1x5632x2048, .f32⟩
  | .hbm, ⟨2, _⟩ => ⟨S16384x2048, .f32⟩
  | .hbm, ⟨3, _⟩ => ⟨S5632x2048, .f32⟩
  | .hbm, ⟨4, _⟩ => ⟨S5632x2048, .bf16⟩
  | .hbm, ⟨5, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S16384x5632 : Shape := ⟨2, ![16384, 5632]⟩
abbrev S1x5632x2048 : Shape := ⟨3, ![1, 5632, 2048]⟩
abbrev S16384x2048 : Shape := ⟨2, ![16384, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1x5632x2048, .f32⟩
  | .hbm, ⟨2, _⟩ => ⟨S16384x2048, .f32⟩
  | .hbm, ⟨3, _⟩ => ⟨S16384x5632, .f32⟩
  | .hbm, ⟨4, _⟩ => ⟨S5632x2048, .f32⟩
  | .hbm, ⟨5, _⟩ => ⟨S16384x2048, .f32⟩
  | .hbm, ⟨6, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S16384x2048 : Shape := ⟨2, ![16384, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S2048x11264 : Shape := ⟨2, ![2048, 11264]⟩
abbrev S3x11264 : Shape := ⟨2, ![3, 11264]⟩
abbrev S16384x5632 : Shape := ⟨2, ![16384, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S512x512 : Shape := ⟨2, ![512, 512]⟩
abbrev S8x512 : Shape := ⟨2, ![8, 512]⟩
abbrev S16x512 : Shape := ⟨2, ![16, 512]⟩

abbrev nBuf : Space → Nat
  | .hbm => 8
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S1x3x11264, .f32⟩
  | .hbm, ⟨3, _⟩ => ⟨S1x11264, .f32⟩
  | .hbm, ⟨4, _⟩ => ⟨S2048x11264, .f32⟩
  | .hbm, ⟨5, _⟩ => ⟨S2048x11264, .bf16⟩
  | .hbm, ⟨6, _⟩ => ⟨S3x11264, .f32⟩
  | .hbm, ⟨7, _⟩ => ⟨S16384x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S8x512, .f32⟩
  | .local _ .vmem, ⟨17, _⟩ => ⟨S8x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S16384x2048 : Shape := ⟨2, ![16384, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S2048x11264 : Shape := ⟨2, ![2048, 11264]⟩
abbrev S16384x11264 : Shape := ⟨2, ![16384, 11264]⟩
abbrev S_ : Shape := ⟨0, ![]⟩
abbrev S16386x11264 : Shape := ⟨2, ![16386, 11264]⟩
abbrev S3x11264 : Shape := ⟨2, ![3, 11264]⟩
abbrev S11264 : Shape := ⟨1, ![11264]⟩
abbrev S16384x5632 : Shape := ⟨2, ![16384, 5632]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S1x3x11264, .f32⟩
  | .hbm, ⟨3, _⟩ => ⟨S1x11264, .f32⟩
  | .hbm, ⟨4, _⟩ => ⟨S16384x2048, .f32⟩
  | .hbm, ⟨5, _⟩ => ⟨S2048x11264, .f32⟩
  | .hbm, ⟨6, _⟩ => ⟨S16384x11264, .f32⟩
  | .hbm, ⟨7, _⟩ => ⟨S_, .i32⟩
  | .hbm, ⟨8, _⟩ => ⟨S_, .f32⟩
  | .hbm, ⟨9, _⟩ => ⟨S16386x11264, .f32⟩
  | .hbm, ⟨10, _⟩ => ⟨S3x11264, .f32⟩
  | .hbm, ⟨11, _⟩ => ⟨S16384x11264, .f32⟩
  | .hbm, ⟨12, _⟩ => ⟨S1x11264, .f32⟩
  | .hbm, ⟨13, _⟩ => ⟨S11264, .f32⟩
  | .hbm, ⟨14, _⟩ => ⟨S1x11264, .f32⟩
  | .hbm, ⟨15, _⟩ => ⟨S16384x11264, .f32⟩
  | .hbm, ⟨16, _⟩ => ⟨S16384x11264, .f32⟩
  | .hbm, ⟨17, _⟩ => ⟨S16384x11264, .f32⟩
  | .hbm, ⟨18, _⟩ => ⟨S1x11264, .f32⟩
  | .hbm, ⟨19, _⟩ => ⟨S11264, .f32⟩
  | .hbm, ⟨20, _⟩ => ⟨S1x11264, .f32⟩
  | .hbm, ⟨21, _⟩ => ⟨S16384x11264, .f32⟩
  | .hbm, ⟨22, _⟩ => ⟨S16384x11264, .f32⟩
  | .hbm, ⟨23, _⟩ => ⟨S16384x11264, .f32⟩
  | .hbm, ⟨24, _⟩ => ⟨S16384x11264, .f32⟩
  | .hbm, ⟨25, _⟩ => ⟨S1x11264, .f32⟩
  | .hbm, ⟨26, _⟩ => ⟨S11264, .f32⟩
  | .hbm, ⟨27, _⟩ => ⟨S1x11264, .f32⟩
  | .hbm, ⟨28, _⟩ => ⟨S16384x11264, .f32⟩
  | .hbm, ⟨29, _⟩ => ⟨S16384x11264, .f32⟩
  | .hbm, ⟨30, _⟩ => ⟨S16384x11264, .f32⟩
  | .hbm, ⟨31, _⟩ => ⟨S11264, .f32⟩
  | .hbm, ⟨32, _⟩ => ⟨S1x11264, .f32⟩
  | .hbm, ⟨33, _⟩ => ⟨S16384x11264, .f32⟩
  | .hbm, ⟨34, _⟩ => ⟨S16384x11264, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S_, .f32⟩
  | .hbm, ⟨40, _⟩ => ⟨S16384x5632, .f32⟩
  | .hbm, ⟨41, _⟩ => ⟨S16384x5632, .f32⟩
  | .hbm, ⟨42, _⟩ => ⟨S_, .f32⟩
  | .hbm, ⟨43, _⟩ => ⟨S16384x5632, .f32⟩
  | .hbm, ⟨44, _⟩ => ⟨S16384x5632, .f32⟩
  | .hbm, ⟨45, _⟩ => ⟨S16384x5632, .f32⟩
  | .hbm, ⟨46, _⟩ => ⟨S16384x5632, .f32⟩
  | .hbm, ⟨47, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Out.lean ====
abbrev S16384x1024 : Shape := ⟨2, ![16384, 1024]⟩
abbrev S1x16384x2048 : Shape := ⟨3, ![1, 16384, 2048]⟩
abbrev S1x2048x2048 : Shape := ⟨3, ![1, 2048, 2048]⟩
abbrev S1x1024 : Shape := ⟨2, ![1, 1024]⟩
abbrev S1x2048 : Shape := ⟨2, ![1, 2048]⟩
abbrev S16384x2048 : Shape := ⟨2, ![16384, 2048]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x16384x2048, .f32⟩
  | .hbm, ⟨3, _⟩ => ⟨S1x2048x2048, .f32⟩
  | .hbm, ⟨4, _⟩ => ⟨S1x1024, .f32⟩
  | .hbm, ⟨5, _⟩ => ⟨S1x2048, .f32⟩
  | .hbm, ⟨6, _⟩ => ⟨S16384x2048, .f32⟩
  | .hbm, ⟨7, _⟩ => ⟨S2048x2048, .f32⟩
  | .hbm, ⟨8, _⟩ => ⟨S2048x2048, .bf16⟩
  | .hbm, ⟨9, _⟩ => ⟨S16384x2048, .f32⟩
  | .hbm, ⟨10, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x1024, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S16384x1024 : Shape := ⟨2, ![16384, 1024]⟩
abbrev S1x16384x2048 : Shape := ⟨3, ![1, 16384, 2048]⟩
abbrev S1x2048x2048 : Shape := ⟨3, ![1, 2048, 2048]⟩
abbrev S1x1024 : Shape := ⟨2, ![1, 1024]⟩
abbrev S1x2048 : Shape := ⟨2, ![1, 2048]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S2048x2048 : Shape := ⟨2, ![2048, 2048]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x16384x2048, .f32⟩
  | .hbm, ⟨3, _⟩ => ⟨S1x2048x2048, .f32⟩
  | .hbm, ⟨4, _⟩ => ⟨S1x1024, .f32⟩
  | .hbm, ⟨5, _⟩ => ⟨S1x2048, .f32⟩
  | .hbm, ⟨6, _⟩ => ⟨S16384x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S16384x2048, .f32⟩
  | .hbm, ⟨27, _⟩ => ⟨S2048x2048, .f32⟩
  | .hbm, ⟨28, _⟩ => ⟨S16384x2048, .f32⟩
  | .hbm, ⟨29, _⟩ => ⟨S16384x2048, .f32⟩
  | .hbm, ⟨30, _⟩ => ⟨S2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== In.lean ====
abbrev S1x16384x2048 : Shape := ⟨3, ![1, 16384, 2048]⟩
abbrev S1x2048 : Shape := ⟨2, ![1, 2048]⟩
abbrev S1x2048x7168 : Shape := ⟨3, ![1, 2048, 7168]⟩
abbrev S2x1024 : Shape := ⟨2, ![2, 1024]⟩
abbrev S1x128 : Shape := ⟨2, ![1, 128]⟩
abbrev S16384x2048 : Shape := ⟨2, ![16384, 2048]⟩
abbrev S2048x7168 : Shape := ⟨2, ![2048, 7168]⟩
abbrev S16384x7168 : Shape := ⟨2, ![16384, 7168]⟩
abbrev S16384x1024 : Shape := ⟨2, ![16384, 1024]⟩
abbrev S256x2048 : Shape := ⟨2, ![256, 2048]⟩
abbrev S256x7168 : Shape := ⟨2, ![256, 7168]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S1x1024 : Shape := ⟨2, ![1, 1024]⟩
abbrev S256x128 : Shape := ⟨2, ![256, 128]⟩

abbrev nBuf : Space → Nat
  | .hbm => 11
  | .vmem => 11
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x7168, .f32⟩
  | .hbm, ⟨3, _⟩ => ⟨S2x1024, .f32⟩
  | .hbm, ⟨4, _⟩ => ⟨S1x128, .f32⟩
  | .hbm, ⟨5, _⟩ => ⟨S1x128, .f32⟩
  | .hbm, ⟨6, _⟩ => ⟨S16384x2048, .f32⟩
  | .hbm, ⟨7, _⟩ => ⟨S2048x7168, .f32⟩
  | .hbm, ⟨8, _⟩ => ⟨S2048x7168, .bf16⟩
  | .hbm, ⟨9, _⟩ => ⟨S16384x7168, .bf16⟩
  | .hbm, ⟨10, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x7168, .bf16⟩
  | .local _ .vmem, ⟨4, _⟩ => ⟨S2x1024, .f32⟩
  | .local _ .vmem, ⟨5, _⟩ => ⟨S1x128, .f32⟩
  | .local _ .vmem, ⟨6, _⟩ => ⟨S1x128, .f32⟩
  | .local _ .vmem, ⟨7, _⟩ => ⟨S256x7168, .bf16⟩
  | .local _ .vmem, ⟨8, _⟩ => ⟨S256x7168, .bf16⟩
  | .local _ .vmem, ⟨9, _⟩ => ⟨S256x1024, .f32⟩
  | .local _ .vmem, ⟨10, _⟩ => ⟨S256x1024, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InRefIdeal.lean ====
abbrev S1x16384x2048 : Shape := ⟨3, ![1, 16384, 2048]⟩
abbrev S1x2048 : Shape := ⟨2, ![1, 2048]⟩
abbrev S1x2048x7168 : Shape := ⟨3, ![1, 2048, 7168]⟩
abbrev S2x1024 : Shape := ⟨2, ![2, 1024]⟩
abbrev S1x128 : Shape := ⟨2, ![1, 128]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x7168 : Shape := ⟨2, ![2048, 7168]⟩
abbrev S16384x7168 : Shape := ⟨2, ![16384, 7168]⟩
abbrev S16384x1024 : Shape := ⟨2, ![16384, 1024]⟩
abbrev S1024 : Shape := ⟨1, ![1024]⟩
abbrev S1x1024 : Shape := ⟨2, ![1, 1024]⟩
abbrev S16384x8x128 : Shape := ⟨3, ![16384, 8, 128]⟩
abbrev S128 : Shape := ⟨1, ![128]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 151
  | .vmem => 0
  | .smem => 0
  | _ => 0

abbrev hbmTy0_0 (i : Nat) : BufTy := match i % 128 with
  | 0 => ⟨S1x16384x2048, .f32⟩
  | 1 => ⟨S1x2048, .f32⟩
  | 2 => ⟨S1x2048x7168, .f32⟩
  | 3 => ⟨S2x1024, .f32⟩
  | 4 => ⟨S1x128, .f32⟩
  | 5 => ⟨S1x128, .f32⟩
  | 6 => ⟨S16384x2048, .f32⟩
  | 7 => ⟨S2048, .f32⟩
  | 8 => ⟨S16384x2048, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x2048, .f32⟩
  | 20 => ⟨S16384x2048, .f32⟩
  | 21 => ⟨S1x2048, .f32⟩
  | 22 => ⟨S16384x2048, .f32⟩
  | 23 => ⟨S16384x2048, .f32⟩
  | 24 => ⟨S2048x7168, .f32⟩
  | 25 => ⟨S16384x7168, .f32⟩
  | 26 => ⟨S16384x1024, .f32⟩
  | 27 => ⟨S16384x1024, .f32⟩
  | 28 => ⟨S16384x1024, .f32⟩
  | 29 => ⟨S16384x1024, .f32⟩
  | 30 => ⟨S16384x1024, .f32⟩
  | 31 => ⟨S16384x1024, .f32⟩
  | 32 => ⟨S16384x1024, .f32⟩
  | 33 => ⟨S_, .f32⟩
  | 34 => ⟨S1024, .f32⟩
  | 35 => ⟨S_, .f32⟩
  | 36 => ⟨S1024, .f32⟩
  | 37 => ⟨S1024, .f32⟩
  | 38 => ⟨S1x1024, .f32⟩
  | 39 => ⟨S2x1024, .f32⟩
  | 40 => ⟨S2x1024, .f32⟩
  | 41 => ⟨S2x1024, .f32⟩
  | 42 => ⟨S_, .f32⟩
  | 43 => ⟨S1024, .f32⟩
  | 44 => ⟨S1x1024, .f32⟩
  | 45 => ⟨S2x1024, .f32⟩
  | 46 => ⟨S2x1024, .f32⟩
  | 47 => ⟨S_, .f32⟩
  | 48 => ⟨S_, .f32⟩
  | 49 => ⟨S2x1024, .f32⟩
  | 50 => ⟨S1x1024, .f32⟩
  | 51 => ⟨S1024, .f32⟩
  | 52 => ⟨S1024, .f32⟩
  | 53 => ⟨S1024, .f32⟩
  | 54 => ⟨S1024, .f32⟩
  | 55 => ⟨S16384x1024, .f32⟩
  | 56 => ⟨S_, .f32⟩
  | 57 => ⟨S16384x1024, .f32⟩
  | 58 => ⟨S16384x1024, .f32⟩
  | 59 => ⟨S16384x1024, .f32⟩
  | 60 => ⟨S16384x1024, .f32⟩
  | 61 => ⟨S16384x1024, .i1⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S1x1024, .f32⟩
  | 72 => ⟨S16384x1024, .f32⟩
  | 73 => ⟨S16384x1024, .f32⟩
  | 74 => ⟨S1x1024, .f32⟩
  | 75 => ⟨S16384x1024, .f32⟩
  | 76 => ⟨S16384x1024, .f32⟩
  | 77 => ⟨S16384x1024, .f32⟩
  | 78 => ⟨S16384x1024, .f32⟩
  | 79 => ⟨S16384x1024, .i1⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S_, .f32⟩
  | 93 => ⟨S16384x1024, .f32⟩
  | 94 => ⟨S16384x1024, .f32⟩
  | 95 => ⟨S_, .f32⟩
  | 96 => ⟨S16384x1024, .f32⟩
  | 97 => ⟨S16384x1024, .f32⟩
  | 98 => ⟨S16384x1024, .f32⟩
  | 99 => ⟨S16384x8x128, .f32⟩
  | 100 => ⟨S128, .f32⟩
  | 101 => ⟨S16384x8x128, .f32⟩
  | 102 => ⟨S_, .f32⟩
  | 103 => ⟨S16384x8, .f32⟩
  | 104 => ⟨S16384x8x1, .f32⟩
  | 105 => ⟨S_, .f32⟩
  | 106 => ⟨S16384x8x1, .f32⟩
  | 107 => ⟨S16384x8x1, .f32⟩
  | 108 => ⟨S_, .f32⟩
  | 109 => ⟨S16384x8x1, .f32⟩
  | 110 => ⟨S16384x8x1, .f32⟩
  | 111 => ⟨S16384x8x1, .f32⟩
  | 112 => ⟨S16384x8x128, .f32⟩
  | 113 => ⟨S16384x8x128, .f32⟩
  | 114 => ⟨S1x1x128, .f32⟩
  | 115 => ⟨S16384x8x128, .f32⟩
  | 116 => ⟨S16384x8x128, .f32⟩
  | 117 => ⟨S16384x1024, .f32⟩
  | 118 => ⟨S_, .f32⟩
  | 119 => ⟨S16384x1024, .f32⟩
  | 120 => ⟨S16384x1024, .f32⟩
  | 121 => ⟨S16384x8x128, .f32⟩
  | 122 => ⟨S128, .f32⟩
  | 123 => ⟨S16384x8x128, .f32⟩
  | 124 => ⟨S_, .f32⟩
  | 125 => ⟨S16384x8, .f32⟩
  | 126 => ⟨S16384x8x1, .f32⟩
  | 127 => ⟨S_, .f32⟩
  | _ => ⟨S1x16384x2048, .f32⟩

abbrev hbmTy0_1 (i : Nat) : BufTy := match i % 128 with
  | 0 => ⟨S16384x8x1, .f32⟩
  | 1 => ⟨S16384x8x1, .f32⟩
  | 2 => ⟨S_, .f32⟩
  | 3 => ⟨S16384x8x1, .f32⟩
  | 4 => ⟨S16384x8x1, .f32⟩
  | 5 => ⟨S16384x8x1, .f32⟩
  | 6 => ⟨S16384x8x128, .f32⟩
  | 7 => ⟨S16384x8x128, .f32⟩
  | 8 => ⟨S1x1x128, .f32⟩
  | 9 => ⟨S16384x8x128, .f32⟩
  | 10 => ⟨S16384x8x128, .f32⟩
  | 11 => ⟨S16384x1024, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S16384x7168, .f32⟩
  | 22 => ⟨S16384x7168, .bf16⟩
  | _ => ⟨S1x16384x2048, .f32⟩

abbrev hbmTy (i : Nat) : BufTy := match i / 128 with
  | 0 => hbmTy0_0 i
  | 1 => hbmTy0_1 i
  | _ => ⟨S1x16384x2048, .f32⟩

abbrev bufTy : (tb : Table) → Fin (tcTables nBuf tb) → BufTy
  | .hbm, ⟨i, _⟩ => hbmTy i
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_call0_cst : Ref sig .tc := ⟨.hbm, 47, rfl⟩
abbrev main_call0_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call1_v0 : Ref sig .tc := ⟨.hbm, 55, rfl⟩
abbrev main_call1_call0_cst : Ref sig .tc := ⟨.hbm, 56, rfl⟩
abbrev main_call1_call0_v0 : Ref sig .tc := ⟨.hbm, 57, rfl⟩
abbrev main_call1_call0_v1 : Ref sig .tc := ⟨.hbm, 58, rfl⟩
abbrev main_call1_call0_v2 : Ref sig .tc := ⟨.hbm, 59, rfl⟩
abbrev main_call1_call0_v3 : Ref sig .tc := ⟨.hbm, 60, rfl⟩
abbrev main_call1_call0_v4 : Ref sig .tc := ⟨.hbm, 61, rfl⟩
abbrev main_call1_call0_v5 : Ref sig .tc := ⟨.hbm, 62, rfl⟩
abbrev main_call1_call0_v6 : Ref sig .tc := ⟨.hbm, 63, rfl⟩
abbrev main_call1_call0_v7 : Ref sig .tc := ⟨.hbm, 64, rfl⟩
abbrev main_call1_call0_v8 : Ref sig .tc := ⟨.hbm, 65, rfl⟩
abbrev main_call1_call0_v9 : Ref sig .tc := ⟨.hbm, 66, rfl⟩
abbrev main_call1_call0_v10 : Ref sig .tc := ⟨.hbm, 67, rfl⟩
abbrev main_call1_call0_v11 : Ref sig .tc := ⟨.hbm, 68, rfl⟩
abbrev main_call1_v1 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_5 : Ref sig .tc := ⟨.hbm, 102, rfl⟩
abbrev main_v65 : Ref sig .tc := ⟨.hbm, 103, rfl⟩
abbrev main_v66 : Ref sig .tc := ⟨.hbm, 104, rfl⟩
abbrev main_cst_6 : Ref sig .tc := ⟨.hbm, 105, rfl⟩
abbrev main_v67 : Ref sig .tc := ⟨.hbm, 106, rfl⟩
abbrev main_v68 : Ref sig .tc := ⟨.hbm, 107, rfl⟩
abbrev main_cst_7 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_8 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_9 : Ref sig .tc := ⟨.hbm, 124, rfl⟩
abbrev main_v83 : Ref sig .tc := ⟨.hbm, 125, rfl⟩
abbrev main_v84 : Ref sig .tc := ⟨.hbm, 126, rfl⟩
abbrev main_cst_10 : Ref sig .tc := ⟨.hbm, 127, rfl⟩
abbrev main_v85 : Ref sig .tc := ⟨.hbm, 128, rfl⟩
abbrev main_v86 : Ref sig .tc := ⟨.hbm, 129, rfl⟩
abbrev main_cst_11 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_call3_v0 : Ref sig .tc := ⟨.hbm, 140, rfl⟩
abbrev main_call3_v1 : Ref sig .tc := ⟨.hbm, 141, rfl⟩
abbrev main_call3_cst : Ref sig .tc := ⟨.hbm, 142, rfl⟩
abbrev main_call3_v2 : Ref sig .tc := ⟨.hbm, 143, rfl⟩
abbrev main_call3_v3 : Ref sig .tc := ⟨.hbm, 144, rfl⟩
abbrev main_call3_cst_0 : Ref sig .tc := ⟨.hbm, 145, rfl⟩
abbrev main_call3_v4 : Ref sig .tc := ⟨.hbm, 146, rfl⟩
abbrev main_call3_v5 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩

abbrev nD : Nat := 1
abbrev τ : Topo := Topo.v7x

variable {F : FTy → Type} [FloatOps F]
-- ==== Proof.AttnRun.lean ====
module

public import proofs.«01_k».proof.Proof.Gen.AttnIdeal.Frame
public import Idealize.ShloMosaic.Lib.StableHlo.RunRead

/-! The attention's two calls in a row: what the result array holds at the end, and what the first call is given. -/

@[expose] public section

set_option maxRecDepth 16384

noncomputable section

namespace Cert.AttnIdeal.Proved

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Both calls run to the end; the result array then holds what the second call's blocks leave in it, and the arguments
    are as launched. -/
theorem run : θ_run defs (onTc (τ := τ) (main (F := F))) ⟨m, fun _ => 0, ρ⟩ (fun r => ∀ c : Dev nD,
      r.2.mem ((c.tc : Thread nD τ).loc main_v9) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v9 (by decide))).trans (W3_arr m ρ c 6), (h c _ (mem_uc main_arg0 (by decide))).trans (W3_main_arg0 m ρ c),
        (h c _ (mem_uc main_arg1 (by decide))).trans (W3_main_arg1 m ρ c)⟩)

/-- The bias table. -/
abbrev table (c : Dev nD) : S8x257.Idx → F .f32 := shapeCast S8x257 (m ((c : Thread nD τ).loc main_arg1)) shapeCasts_S1x8x257_S8x257

/-- The bias of the clipped distances by row of the first call's argument: far ones at both ends, the table's columns
    from the last to the second between them. -/
abbrev ext (c : Dev nD) : S8x1x768.Idx → F .f32 :=
  shapeCast S8x1x768 (concatenate S8x768 1
    [⟨S8x384, broadcastInDim S8x384 ![0, 1] bcast_S8x1_S8x384_0_1 (extractStridedSlice S8x1 ![0, 256] (table m c) slices_S8x257_S8x1_0_256)⟩,
     ⟨S8x256, Host.reverse [1] (extractStridedSlice S8x256 ![0, 1] (table m c) slices_S8x257_S8x256_0_1)⟩,
     ⟨S8x128, broadcastInDim S8x128 ![0, 1] bcast_S8x1_S8x128_0_1 (extractStridedSlice S8x1 ![0, 256] (table m c) slices_S8x257_S8x1_0_256)⟩]
    concatenates_S8x384_S8x256_S8x128_S8x768_d1) shapeCasts_S8x768_S8x1x768

/-- The first call's argument. -/
theorem entry_row (c : Dev nD) : W1 m ρ c (Proc.devRef .tc main_v7) = ext m c := by
  have hW : W0 m ρ c (Proc.devRef .tc main_arg1) = m ((c : Thread nD τ).loc main_arg1) := W0_args m ρ c main_arg1 (by decide)
  have h2 : StableHlo.after (hostOps0.take 6) (W0 m ρ c) (Proc.devRef .tc main_v2)
      = broadcastInDim S8x384 ![0, 1] bcast_S8x1_S8x384_0_1 (extractStridedSlice S8x1 ![0, 256] (table m c) slices_S8x257_S8x1_0_256) := by
    unfold hostOps0
    simp only [List.take]
    generalize W0 m ρ c = W at *
    after_results_simp
    rw [hW]
    rfl
  have h4 : StableHlo.after (hostOps0.take 6) (W0 m ρ c) (Proc.devRef .tc main_v4)
      = Host.reverse [1] (extractStridedSlice S8x256 ![0, 1] (table m c) slices_S8x257_S8x256_0_1) := by
    unfold hostOps0
    simp only [List.take]
    generalize W0 m ρ c = W at *
    after_results_simp
    rw [hW]
    rfl
  have h5 : StableHlo.after (hostOps0.take 6) (W0 m ρ c) (Proc.devRef .tc main_v5)
      = broadcastInDim S8x128 ![0, 1] bcast_S8x1_S8x128_0_1 (extractStridedSlice S8x1 ![0, 256] (table m c) slices_S8x257_S8x1_0_256) := by
    unfold hostOps0
    simp only [List.take]
    generalize W0 m ρ c = W at *
    after_results_simp
    rw [hW]
    rfl
  show StableHlo.after (hostOps0.drop 6) (StableHlo.after (hostOps0.take 6) (W0 m ρ c)) (Proc.devRef .tc main_v7) = _
  generalize StableHlo.after (hostOps0.take 6) (W0 m ρ c) = U at *
  unfold hostOps0
  simp only [List.drop]
  after_results_simp
  show shapeCast S8x1x768 (concatenate S8x768 1 [⟨S8x384, U (Proc.devRef .tc main_v2)⟩, ⟨S8x256, U (Proc.devRef .tc main_v4)⟩,
    ⟨S8x128, U (Proc.devRef .tc main_v5)⟩] concatenates_S8x384_S8x256_S8x128_S8x768_d1) shapeCasts_S8x768_S8x1x768 = _
  rw [h2, h4, h5]

/-- The second call's bias is what the first call leaves. -/
theorem entry_bias (c : Dev nD) : V2 m ρ c main_v8 = (dat0 (V1 m ρ) c).arrAt 1 cfg0.N := W2_arr m ρ c 1

/-- The second call's other argument is the projection as launched. -/
theorem entry_proj (c : Dev nD) : V2 m ρ c main_arg0 = m ((c : Thread nD τ).loc main_arg0) := W2_args m ρ c main_arg0 (by decide)

end Cert.AttnIdeal.Proved

end
-- ==== Proof.AttnBias.lean ====
module

public import proofs.«01_k».proof.Defs
public import proofs.«01_k».proof.Proof.AttnRun
public import Idealize.ShloMosaic.Lib.Pipeline.ValueKit
public import Idealize.ShloMosaic.Lib.Pointwise
public import Idealize.ShloMosaic.Lib.Claim

/-! The first of the attention's two calls: the bias of a head's rows and slots. -/

@[expose] public section

set_option maxRecDepth 16384

noncomputable section

namespace Cert.AttnIdeal.Proved

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The bias table as launched. -/
abbrev rb (c : Dev nD) : S1x8x257.Idx → EReal := m ((c : Thread nD τ).loc main_arg1)

/-- Where the first call's blocks lie at a point. -/
theorem idx0 : ∀ t : Fin grid0.N, win0_0.index t = ![t.val, 0, 0] ∧ win0_1.index t = ![t.val, 0, 0] := by decide +kernel

/-- The bias of a head's row and slot: minus infinity outside the row's window. -/
abbrev biasOf (x1 : S1x8x257.Idx → EReal) (h : Fin 8) (r : Fin 128) (u : Fin 640) : EReal :=
  if r.val / 64 * 64 ≤ u.val ∧ u.val < r.val / 64 * 64 + 576 then x1 (ix3 0 h ⟨min (640 + r.val - u.val) 256, by omega⟩) else ⊥

/-- A head's row of biases at an index, from the table. -/
theorem ext_of (T : S8x257.Idx → EReal) (h : Fin 8) (k : Fin 768) :
    shapeCast S8x1x768 (concatenate S8x768 1
      [⟨S8x384, broadcastInDim S8x384 ![0, 1] bcast_S8x1_S8x384_0_1 (extractStridedSlice S8x1 ![0, 256] T slices_S8x257_S8x1_0_256)⟩,
       ⟨S8x256, Host.reverse [1] (extractStridedSlice S8x256 ![0, 1] T slices_S8x257_S8x256_0_1)⟩,
       ⟨S8x128, broadcastInDim S8x128 ![0, 1] bcast_S8x1_S8x128_0_1 (extractStridedSlice S8x1 ![0, 256] T slices_S8x257_S8x1_0_256)⟩]
      concatenates_S8x384_S8x256_S8x128_S8x768_d1) shapeCasts_S8x768_S8x1x768 (ix3 h 0 k)
      = T (ix2 h ⟨if 384 ≤ k.val ∧ k.val < 640 then 640 - k.val else 256, by split_ifs <;> omega⟩) := by
  pointwise
  have far : ∀ h' : ¬(384 ≤ k.val ∧ k.val < 640), T (ix2 h 256) = T (ix2 h ⟨if 384 ≤ k.val ∧ k.val < 640 then 640 - k.val else 256, by split_ifs <;> omega⟩) :=
    fun h' => congrArg T (congrArg (ix2 h) (Fin.ext (if_neg h').symm))
  by_cases h1 : k.val < 384
  · rw [dif_pos h1]
    exact far (by omega)
  rw [dif_neg h1]
  by_cases h2 : k.val - 384 < 256
  · rw [dif_pos h2]
    have a1 : (0 : Fin 2) ∉ ([1] : List (Fin 2)) := by decide
    have a2 : (1 : Fin 2) ∈ ([1] : List (Fin 2)) := by decide
    have e : 384 ≤ k.val ∧ k.val < 640 := by omega
    refine congrArg T (congrArg₂ ix2 (if_neg a1) (Fin.ext ?_))
    refine Eq.trans ?_ (if_pos e).symm
    refine (congrArg (fun f : Fin 256 => 1 + f.val) (if_pos a2)).trans ?_
    simp only [Fin.val_rev]
    omega
  · rw [dif_neg h2]
    exact far (by omega)

/-- The table at an index. -/
theorem table_of (x1 : S1x8x257.Idx → EReal) (h : Fin 8) (n : Fin 257) :
    shapeCast S8x257 x1 shapeCasts_S1x8x257_S8x257 (ix2 h n) = x1 (ix3 0 h n) := by
  pointwise

/-- A head's row of biases at an index. -/
theorem ext_at (c : Dev nD) (h : Fin 8) (k : Fin 768) (n : Fin 257) (hn : n.val = if 384 ≤ k.val ∧ k.val < 640 then 640 - k.val else 256) :
    ext m c (ix3 h 0 k) = rb m c (ix3 0 h n) := by
  unfold ext
  refine (ext_of (table m c) h k).trans ((table_of (rb m c) h _).trans ?_)
  exact congrArg (rb m c) (congrArg (ix3 0 h) (Fin.ext hn.symm))

/-- The first call's block at an index. -/
theorem read0 (c : Dev nD) (t : Fin grid0.N) (k : Fin 768) (h : Fin 8) (hh : h.val = t.val) :
    iblk0 (V1 m ρ) c 0 t (ix3 0 0 k) = ext m c (ix3 h 0 k) := by
  rw [← entry_row m ρ c]
  blk_point [iblk0, idx0 t, hh]

/-- The first slot of a row's window. -/
theorem lo_word : ∀ r : Fin 128, Scalar.select (IntOp.cmpi .slt (BitVec.ofNat 32 r.val) 64#32) 0#32 64#32 = BitVec.ofNat 32 (r.val / 64 * 64) := by
  decide +kernel

/-- The window's slots. -/
theorem window_bit (r : Fin 128) (u : Fin 640) :
    IntOp.andi (IntOp.cmpi .sge (BitVec.ofNat 32 u.val) (BitVec.ofNat 32 (r.val / 64 * 64)))
      (IntOp.cmpi .slt (BitVec.ofNat 32 u.val) (IntOp.addi (BitVec.ofNat 32 (r.val / 64 * 64)) 576#32))
      = BitVec.ofBool (decide (r.val / 64 * 64 ≤ u.val ∧ u.val < r.val / 64 * 64 + 576)) := by
  have hb : ∀ (b : Fin 2) (u : Fin 640), IntOp.andi (IntOp.cmpi .sge (BitVec.ofNat 32 u.val) (BitVec.ofNat 32 (b.val * 64)))
      (IntOp.cmpi .slt (BitVec.ofNat 32 u.val) (IntOp.addi (BitVec.ofNat 32 (b.val * 64)) 576#32))
      = BitVec.ofBool (decide (b.val * 64 ≤ u.val ∧ u.val < b.val * 64 + 576)) := by decide +kernel
  exact hb ⟨r.val / 64, by omega⟩ u

theorem sel_true (a b : EReal) : Scalar.select (BitVec.ofBool true) a b = a := rfl

theorem sel_false (a b : EReal) : Scalar.select (BitVec.ofBool false) a b = b := rfl

/-- The rotated row. -/
theorem pay_at (c : Dev nD) (t : Fin grid0.N) (h : Fin 8) (hh : h.val = t.val) (r : Fin 128) (u : Fin 640) :
    k0_pay1 (iblk0 (V1 m ρ) c 0 t) (iblk0 (V1 m ρ) c 0 t) (ix3 0 r u) = biasOf (rb m c) h r u := by
  have hr : ∀ k, iblk0 (V1 m ρ) c 0 t (ix3 0 0 k) = ext m c (ix3 h 0 k) := fun k => read0 m ρ c t k h hh
  pointwise [k0_pay1]
  rw [lo_word, window_bit]
  unfold biasOf
  by_cases hw : r.val / 64 * 64 ≤ u.val ∧ u.val < r.val / 64 * 64 + 576
  · rw [if_pos hw, decide_eq_true hw]
    refine (sel_true _ _).trans ?_
    obtain ⟨h1, h2⟩ := hw
    by_cases h3 : (u.val + 1024 - r.val % 1024) % 1024 < 768
    · rw [dif_pos h3]
      refine (hr _).trans (ext_at m c h _ _ ?_)
      dsimp only
      split_ifs with h4 <;> omega
    · rw [dif_neg h3]
      refine (hr _).trans (ext_at m c h _ _ ?_)
      dsimp only
      split_ifs with h4 <;> omega
  · rw [if_neg hw, decide_eq_false hw]
    refine (sel_false _ _).trans ?_
    simp [Ideal.ofBits, Ideal.ieee]

/-- The biases after the first call. -/
theorem bias_final (c : Dev nD) : (dat0 (V1 m ρ) c).arrAt 1 cfg0.N = fun y : S8x128x640.Idx => biasOf (rb m c) (y 0) (y 1) (y 2) := by
  refine (dat0 (V1 m ρ) c).arrAt_eq_of_covers 1 _ (by decide +kernel) fun t hf y => ?_
  have ht : t.val < 8 := t.isLt
  blk_simp
  rw [after0_1]
  frame_out
  obtain ⟨a, r, u, rfl⟩ : ∃ (a : Fin 1) (r : Fin 128) (u : Fin 640), y = ix3 a r u := ⟨y 0, y 1, y 2, eq_ix3 y⟩
  obtain rfl : a = 0 := Subsingleton.elim _ _
  refine (pay_at m ρ c t ⟨t.val, ht⟩ rfl r u).trans ?_
  congr 1
  · exact Fin.ext (by blk_simp [idx0 t]; rfl)
  · exact Fin.ext (by blk_simp [idx0 t])
  · exact Fin.ext (by blk_simp [idx0 t])

end Cert.AttnIdeal.Proved

end
-- ==== Proof.AttnMath.lean ====
module

public import Idealize.ShloMosaic.Lib.Pointwise
public import Idealize.ShloMosaic.Lib.KernelVsHost

/-! The weighted average that attention takes of a window's values, in two forms: weights divided by their total before
    the sum over the window, and the sum over a longer list of slots divided by the total. -/

@[expose] public section

noncomputable section

namespace Cert.AttnIdeal.Proved

open Idealize.ShloMosaic

/-- A product by a real number that is not negative goes into a sum. -/
theorem real_mul_sum {ι : Type} (s : Finset ι) (r : ℝ) (hr : 0 ≤ r) (f : ι → EReal) : (r : EReal) * ∑ i ∈ s, f i = ∑ i ∈ s, (r : EReal) * f i :=
  map_sum (⟨⟨fun y => (r : EReal) * y, mul_zero _⟩,
    fun a b => EReal.left_distrib_of_nonneg_of_ne_top (EReal.coe_nonneg.2 hr) (EReal.coe_ne_top r) a b⟩ : EReal →+ EReal) f s

/-- A finite sum of real numbers is the real sum. -/
theorem coe_sum {ι : Type} (s : Finset ι) (f : ι → ℝ) : ((∑ i ∈ s, f i : ℝ) : EReal) = ∑ i ∈ s, (f i : EReal) :=
  map_sum (⟨⟨fun y : ℝ => (y : EReal), rfl⟩, EReal.coe_add⟩ : ℝ →+ EReal) f s

/-- The two forms agree: `e` places the window's slots among the longer list's, every other slot scores minus infinity,
    and the window's scores are real numbers or minus infinity, one at least a real number. A slot's value counts
    only where its score is not minus infinity. -/
theorem average {ι κ : Type} [Fintype ι] [Fintype κ] (e : ι → κ) (he : Function.Injective e) (s v : ι → EReal) (s' v' : κ → EReal)
    (hs : ∀ w, s' (e w) = s w) (hv : ∀ w, s w ≠ ⊥ → v' (e w) = v w) (hout : ∀ u, u ∉ Set.range e → s' u = ⊥)
    (hreal : ∀ w, s w = ⊥ ∨ ∃ r : ℝ, s w = r) (w₀ : ι) (r₀ : ℝ) (h₀ : s w₀ = r₀) :
    Ideal.div (∑ u, Ideal.exp (s' u - Finset.univ.sup s') * v' u) (∑ u, Ideal.exp (s' u - Finset.univ.sup s'))
      = ∑ w, v w * Ideal.div (Ideal.exp (s w - Finset.univ.sup s)) (∑ w, Ideal.exp (s w - Finset.univ.sup s)) := by
  -- the largest score, over either list, is one real number
  have hsup : Finset.univ.sup s' = Finset.univ.sup s := by
    refine le_antisymm (Finset.sup_le fun u _ => ?_) (Finset.sup_le fun w _ => ?_)
    · by_cases hu : u ∈ Set.range e
      · obtain ⟨w, rfl⟩ := hu
        rw [hs]
        exact Finset.le_sup (Finset.mem_univ w)
      · rw [hout u hu]; exact bot_le
    · rw [← hs w]
      exact Finset.le_sup (Finset.mem_univ (e w))
  obtain ⟨wm, -, hm⟩ := Finset.exists_mem_eq_sup Finset.univ ⟨w₀, Finset.mem_univ w₀⟩ s
  have hM : ∃ M : ℝ, Finset.univ.sup s = M := by
    rcases hreal wm with h | ⟨r, h⟩
    · have h1 : s w₀ ≤ Finset.univ.sup s := Finset.le_sup (Finset.mem_univ w₀)
      rw [hm, h, h₀] at h1
      exact absurd (le_bot_iff.1 h1) (EReal.coe_ne_bot r₀)
    · exact ⟨r, hm.trans h⟩
  obtain ⟨M, hM⟩ := hM
  rw [hsup, hM]
  -- a slot's exponential is a real number that is not negative
  have hexp : ∀ w, ∃ x : ℝ, 0 ≤ x ∧ Ideal.exp (s w - (M : EReal)) = x ∧ (s w = ⊥ → x = 0) := fun w => by
    rcases hreal w with h | ⟨r, h⟩
    · refine ⟨0, le_refl _, ?_, fun _ => rfl⟩
      rw [h, EReal.bot_sub, Ideal.exp_bot]; rfl
    · refine ⟨Real.exp (r - M), (Real.exp_pos _).le, ?_, fun hb => absurd (h.symm.trans hb) (EReal.coe_ne_bot r)⟩
      rw [h, ← EReal.coe_sub, Ideal.exp_coe]
  choose x hx0 hx hxb using hexp
  have hout0 : ∀ u, u ∉ Set.range e → Ideal.exp (s' u - (M : EReal)) = 0 := fun u hu => by
    rw [hout u hu, EReal.bot_sub, Ideal.exp_bot]
  have hden : ∑ u, Ideal.exp (s' u - (M : EReal)) = ∑ w, Ideal.exp (s w - (M : EReal)) :=
    (Fintype.sum_of_injective e he _ _ hout0 fun w => by rw [hs]).symm
  have hnum : ∑ u, Ideal.exp (s' u - (M : EReal)) * v' u = ∑ w, (x w : EReal) * v w :=
    (Fintype.sum_of_injective e he _ _ (fun u hu => by rw [hout0 u hu, zero_mul]) fun w => by
      rw [hs, hx]
      by_cases hb : s w = ⊥
      · rw [hxb w hb, EReal.coe_zero, zero_mul, zero_mul]
      · rw [hv w hb]).symm
  rw [hden, hnum]
  simp only [hx]
  rw [← coe_sum]
  -- the total is at least one, the largest score's exponential
  have hone : x wm = 1 := by
    have h := hx wm
    rw [← hm, hM, ← EReal.coe_sub, Ideal.exp_coe, sub_self, Real.exp_zero] at h
    exact (EReal.coe_injective h).symm
  have hpos : 0 < ∑ w, x w := lt_of_lt_of_le (by rw [hone]; exact one_pos)
    (Finset.single_le_sum (f := x) (fun w _ => hx0 w) (Finset.mem_univ wm))
  have hinv : 0 ≤ 1 / ∑ w, x w := (one_div_pos.2 hpos).le
  rw [Ideal.div_coe hpos.ne', mul_comm, real_mul_sum _ _ hinv]
  refine Finset.sum_congr rfl fun w _ => ?_
  rw [Ideal.div_coe hpos.ne', mul_comm, mul_comm (v w), mul_right_comm]

end Cert.AttnIdeal.Proved
-- ==== Proof.AttnRef.lean ====
module

public import proofs.«01_k».proof.Defs
public import proofs.«01_k».proof.Proof.Gen.AttnRefIdeal.Read
public import Idealize.ShloMosaic.Lib.Pointwise
public import Idealize.ShloMosaic.Lib.KernelVsHost

/-! What the reference of the attention holds at an index: chunk `n`, row `t` of the chunk, head `h`, the window's
    slot `w`. -/

@[expose] public section

set_option maxRecDepth 16384

noncomputable section

namespace Cert.AttnRefIdeal.Proved

open Cert.AttnRefIdeal Cert.AttnRefIdeal.Read Idealize.ShloMosaic

variable (x0 : S16384x7168.Idx → EReal) (x1 : S1x8x257.Idx → EReal)

/-- The gather of whole chunks, at an index: the chunk at the start index, read signed and clamped. -/
theorem gather_chunks (x : S1x264x64x8x128.Idx → EReal) (idx : IVec S256x9x1 32) (b : Fin 1) (n : Fin 256) (w : Fin 9) (t : Fin 64) (h : Fin 8)
    (z : Fin 128) :
    Host.gather gather_S1x264x64x8x128_S256x9x1_S1x256x9x64x8x128_0345_1_n_n_1_2_11648128 x idx (ix6 b n w t h z)
      = x (ix5 b ⟨min (idx (ix3 n w 0)).toInt.toNat 263, by omega⟩ t h z) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  unfold GatherDims.start GatherDims.offCoord
  have hall : ∀ a : Fin 5, a = 0 ∨ a = 1 ∨ a = 2 ∨ a = 3 ∨ a = 4 := by decide
  rcases hall a with rfl | rfl | rfl | rfl | rfl
  · rw [dif_neg (by decide), dif_pos (by decide)]; simp only [Nat.add_zero, Nat.zero_add]; rfl
  · rw [dif_pos (by decide), dif_neg (by decide)]
    simp only [Nat.add_zero]
    refine congrArg (fun k => min (BitVec.toInt (idx k)).toNat 263) (funext fun b => Fin.ext ?_)
    match b with
    | ⟨0, _⟩ => rfl
    | ⟨1, _⟩ => rfl
    | ⟨2, _⟩ => rfl
  · rw [dif_neg (by decide), dif_pos (by decide)]; simp only [Nat.add_zero, Nat.zero_add]; rfl
  · rw [dif_neg (by decide), dif_pos (by decide)]; simp only [Nat.add_zero, Nat.zero_add]; rfl
  · rw [dif_neg (by decide), dif_pos (by decide)]; simp only [Nat.add_zero, Nat.zero_add]; rfl

/-- The gather of the bias table's columns, at an index. -/
theorem gather_cols (x : S8x257.Idx → EReal) (idx : IVec S64x576x1 32) (h : Fin 8) (t : Fin 64) (w : Fin 576) :
    Host.gather gather_S8x257_S64x576x1_S8x64x576_0_1_n_n_1_2_81 x idx (ix3 h t w)
      = x (ix2 h ⟨min (idx (ix3 t w 0)).toInt.toNat 256, by omega⟩) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  unfold GatherDims.start GatherDims.offCoord
  have hall : ∀ a : Fin 2, a = 0 ∨ a = 1 := by decide
  rcases hall a with rfl | rfl
  · rw [dif_neg (by decide), dif_pos (by decide)]; simp only [Nat.add_zero, Nat.zero_add]; rfl
  · rw [dif_pos (by decide), dif_neg (by decide)]
    simp only [Nat.add_zero]
    refine congrArg (fun k => min (BitVec.toInt (idx k)).toNat 256) (funext fun b => Fin.ext ?_)
    match b with
    | ⟨0, _⟩ => rfl
    | ⟨1, _⟩ => rfl
    | ⟨2, _⟩ => rfl

/-- The queries by chunk. -/
theorem query (n : Fin 256) (t : Fin 64) (h : Fin 8) (z : Fin 128) :
    val_main_v8 (F := Ideal) x0 (ix5 0 n t h z) = x0 (ix2 ⟨n.val * 64 + t.val, by omega⟩ ⟨4096 + (h.val * 128 + z.val), by omega⟩) := by
  pointwise [val_main_v8, val_main_v3, val_main_v2, val_main_v1]

/-- The value that the padding puts in front of the keys and of the values is zero. -/
theorem pad_zero (i : S_.Idx) : val_main_call0_v0 (F := Ideal) i = 0 := by
  pointwise [val_main_call0_v0, val_main_c]
  exact sitofp_zero (φ := .f32)

theorem pad_zero' (i : S_.Idx) : val_main_call1_v0 (F := Ideal) i = 0 := by
  pointwise [val_main_call1_v0, val_main_c_0]
  exact sitofp_zero (φ := .f32)

/-- The start index of a slot's chunk is the chunk's number in the padded sequence. -/
theorem band_start (n : Fin 256) (w : Fin 9) : (val_main_v25 (F := Ideal) (ix3 n w 0)).toInt.toNat = n.val + w.val := by
  pointwise [val_main_v25, val_main_v24, val_main_v23, val_main_v22, val_main_v21, val_main_v20, val_main_v19, val_main_v18, val_main_v17,
    val_main_v16, val_main_v15, val_main_v14, val_main_v13, val_main_c_1, val_main_c_2]
  revert n w
  decide +kernel

theorem band_start' (n : Fin 256) (w : Fin 9) : (val_main_v33 (F := Ideal) (ix3 n w 0)).toInt.toNat = n.val + w.val := by
  pointwise [val_main_v33, val_main_v32, val_main_v31, val_main_v30, val_main_v29, val_main_v28, val_main_v19, val_main_v18, val_main_v17,
    val_main_v16, val_main_v15, val_main_v14, val_main_v13, val_main_c_3, val_main_c_4]
  revert n w
  decide +kernel

/-- The columns that begin at `b`, at a slot of a chunk's window: the row `512` rows before the slot's, zero before the
    sequence's start. -/
abbrev slot (b : ℕ) (hb : b + 1024 ≤ 7168) (n : Fin 256) (w : Fin 576) (h : Fin 8) (z : Fin 128) : EReal :=
  if hv : 512 ≤ n.val * 64 + w.val then x0 (ix2 ⟨n.val * 64 + w.val - 512, by omega⟩ ⟨b + (h.val * 128 + z.val), by omega⟩) else 0

theorem key_slot (n : Fin 256) (w : Fin 576) (h : Fin 8) (z : Fin 128) :
    val_main_v27 (F := Ideal) x0 (ix5 0 n w h z) = slot x0 5120 (by decide) n w h z := by
  have hs := band_start n ⟨w.val / 64, by omega⟩
  dsimp only at hs
  pointwise [val_main_v27, val_main_v26, gather_chunks]
  pointwise [val_main_v10, val_main_v9, val_main_v5, val_main_v4, val_main_v1, pad_zero]
  unfold slot
  split_ifs with h1 h2 h2
  · refine congrArg x0 (congrArg (ix2 · _) (Fin.ext ?_))
    dsimp only
    omega
  · exact absurd h1.1 (by omega)
  · exact absurd (show _ ∧ _ from ⟨by omega, by omega⟩) h1
  · rfl

theorem value_slot (n : Fin 256) (w : Fin 576) (h : Fin 8) (z : Fin 128) :
    val_main_v35 (F := Ideal) x0 (ix5 0 n w h z) = slot x0 6144 (by decide) n w h z := by
  have hs := band_start' n ⟨w.val / 64, by omega⟩
  dsimp only at hs
  pointwise [val_main_v35, val_main_v34, gather_chunks]
  pointwise [val_main_v12, val_main_v11, val_main_v7, val_main_v6, val_main_v1, pad_zero']
  unfold slot
  split_ifs with h1 h2 h2
  · refine congrArg x0 (congrArg (ix2 · _) (Fin.ext ?_))
    dsimp only
    omega
  · exact absurd h1.1 (by omega)
  · exact absurd (show _ ∧ _ from ⟨by omega, by omega⟩) h1
  · rfl

/-- The clipped distance's column of the table, from the distance. -/
theorem clip_column : ∀ d : Fin 640, (Scalar.select
      (IntOp.cmpi .slt (IntOp.addi (IntOp.minsi 128#32 (IntOp.maxsi 4294967168#32 (BitVec.ofNat 32 d.val - 63#32))) 128#32) 0#32)
      (IntOp.addi (IntOp.addi (IntOp.minsi 128#32 (IntOp.maxsi 4294967168#32 (BitVec.ofNat 32 d.val - 63#32))) 128#32) 257#32)
      (IntOp.addi (IntOp.minsi 128#32 (IntOp.maxsi 4294967168#32 (BitVec.ofNat 32 d.val - 63#32))) 128#32)).toInt.toNat = min (d.val + 65) 256 := by
  decide +kernel

theorem dist_word (t : Fin 64) (w : Fin 576) :
    IntOp.subi (IntOp.addi 512#32 (BitVec.ofNat 32 t.val)) (BitVec.ofNat 32 w.val) = BitVec.ofNat 32 (575 + t.val - w.val) - 63#32 := by
  apply BitVec.eq_of_toNat_eq
  have h1 := t.isLt
  have h2 := w.isLt
  simp only [IntOp.subi, IntOp.addi, BitVec.toNat_sub, BitVec.toNat_add, BitVec.toNat_ofNat]
  omega

theorem bias_start (t : Fin 64) (w : Fin 576) : (val_main_v54 (F := Ideal) (ix3 t w 0)).toInt.toNat = min (640 + t.val - w.val) 256 := by
  have hd := clip_column ⟨575 + t.val - w.val, by omega⟩
  dsimp only at hd
  rw [← dist_word] at hd
  pointwise [val_main_v54, val_main_v53, val_main_v52, val_main_v51, val_main_v50, val_main_v49, val_main_v48, val_main_v47, val_main_v46,
    val_main_call2_v2, val_main_call2_v4, val_main_call2_v3, val_main_call2_v1, val_main_call2_v0, val_main_c_6, val_main_c_7, val_main_c_8,
    val_main_c_9, val_main_c_10]
  pointwise [val_main_v45, val_main_v44, val_main_v43, val_main_v42, val_main_v41, val_main_v40, val_main_v39, val_main_v38, val_main_v37, val_main_c_5]
  refine Eq.trans ?_ (hd.trans (by omega))
  rfl

/-- The bias of a row and a slot. -/
theorem bias_at (h : Fin 8) (t : Fin 64) (w : Fin 576) :
    val_main_v55 (F := Ideal) x1 (ix3 h t w) = x1 (ix3 0 h ⟨min (640 + t.val - w.val) 256, by omega⟩) := by
  have hs := bias_start t w
  pointwise [val_main_v55, gather_cols, val_main_v0]
  refine congrArg x1 (congrArg (ix3 0 h) (Fin.ext ?_))
  dsimp only
  omega

/-- A slot is valid when it is not before the sequence's start. -/
theorem valid_at (n : Fin 256) (w : Fin 576) :
    val_main_v69 (F := Ideal) (ix5 0 0 n 0 w) = BitVec.ofBool (decide (8 ≤ n.val + w.val / 64)) := by
  have hv : ∀ (n : Fin 256) (w : Fin 9), IntOp.cmpi .sge (IntOp.addi (IntOp.subi (BitVec.ofNat 32 n.val) 8#32) (BitVec.ofNat 32 w.val)) 0#32
      = BitVec.ofBool (decide (8 ≤ n.val + w.val)) := by decide +kernel
  pointwise [val_main_v69, val_main_v68, val_main_v67, val_main_v66, val_main_v65, val_main_v64, val_main_v63, val_main_v62, val_main_v61,
    val_main_v60, val_main_v59, val_main_v58, val_main_v57, val_main_v56, val_main_c_11, val_main_c_12]
  exact hv n ⟨w.val / 64, by omega⟩

/-- A row's score of a slot: the product of the query and the slot's key with the bias added, minus infinity where the
    slot is not valid. -/
abbrev score (n : Fin 256) (t : Fin 64) (h : Fin 8) (w : Fin 576) : EReal :=
  if 512 ≤ n.val * 64 + w.val then
    (∑ z : Fin 128, x0 (ix2 ⟨n.val * 64 + t.val, by omega⟩ ⟨4096 + (h.val * 128 + z.val), by omega⟩) * slot x0 5120 (by decide) n w h z)
      + x1 (ix3 0 h ⟨min (640 + t.val - w.val) 256, by omega⟩)
  else ⊥

theorem score_at (n : Fin 256) (t : Fin 64) (h : Fin 8) (w : Fin 576) :
    val_main_v73 (F := Ideal) x0 x1 (ix5 0 h n t w) = score x0 x1 n t h w := by
  have hdot : val_main_v36 (F := Ideal) x0 (ix5 0 h n t w)
      = ∑ z : Fin 128, x0 (ix2 ⟨n.val * 64 + t.val, by omega⟩ ⟨4096 + (h.val * 128 + z.val), by omega⟩) * slot x0 5120 (by decide) n w h z := by
    pointwise [val_main_v36]
    exact Finset.sum_congr rfl fun z _ => congrArg₂ (· * ·) (query x0 n t h z) (key_slot x0 n w h z)
  have hinf : val_main_cst (F := Ideal) ix0 = ⊥ := by pointwise [val_main_cst]; simp [Ideal.ofBits, Ideal.ieee]
  pointwise [val_main_v73, val_main_call3_v1, val_main_call3_v2, val_main_call3_v0, val_main_v72, val_main_v71, val_main_v70]
  rw [valid_at, hdot, bias_at, show (id (val_main_cst (F := Ideal)) ix0) = ⊥ from hinf]
  unfold score
  by_cases hv : 512 ≤ n.val * 64 + w.val
  · rw [if_pos hv, decide_eq_true (show 8 ≤ n.val + w.val / 64 by omega)]; rfl
  · rw [if_neg hv, decide_eq_false (show ¬ 8 ≤ n.val + w.val / 64 by omega)]; rfl

theorem max_at (a b : FVec Ideal S1x8x256x64 .f32) (i : S1x8x256x64.Idx) : maximumf a b i = max (a i) (b i) := by
  pointwise

theorem fold_max_bot (f : Fin 576 → EReal) : Finset.fold max ⊥ f Finset.univ = Finset.univ.sup f := rfl

/-- The row's largest score. -/
theorem top_at (n : Fin 256) (t : Fin 64) (h : Fin 8) :
    val_main_v76 (F := Ideal) x0 x1 (ix4 0 h n t) = Finset.univ.sup (score x0 x1 n t h) := by
  have hinf : ∀ i : S_.Idx, val_main_cst_13 (F := Ideal) i = ⊥ := fun i => by pointwise [val_main_cst_13]; simp [Ideal.ofBits, Ideal.ieee]
  have hinf' : ∀ i : S_.Idx, val_main_cst_14 (F := Ideal) i = ⊥ := fun i => by pointwise [val_main_cst_14]; simp [Ideal.ofBits, Ideal.ieee]
  have h74 : val_main_v74 (F := Ideal) x0 x1 (ix4 0 h n t) = Finset.univ.sup (score x0 x1 n t h) := by
    pointwise [val_main_v74]
    rw [hinf]
    rw [fold_max_bot]
    exact congrArg _ (funext fun w => score_at x0 x1 n t h w)
  have h75 : val_main_v75 (F := Ideal) (ix4 0 h n t) = ⊥ := by
    pointwise [val_main_v75]
    exact hinf' _
  unfold val_main_v76
  rw [max_at, h74, h75]
  exact max_eq_right bot_le

/-- A slot's exponential. -/
theorem exp_at (n : Fin 256) (t : Fin 64) (h : Fin 8) (w : Fin 576) :
    val_main_v80 (F := Ideal) x0 x1 (ix5 0 h n t w) = Ideal.exp (score x0 x1 n t h w - Finset.univ.sup (score x0 x1 n t h)) := by
  pointwise [val_main_v80, val_main_v79, val_main_v78, val_main_v77]
  rw [score_at, top_at]

/-- The row's sum of exponentials. -/
theorem total_at (n : Fin 256) (t : Fin 64) (h : Fin 8) :
    val_main_v81 (F := Ideal) x0 x1 (ix4 0 h n t)
      = ∑ w : Fin 576, Ideal.exp (score x0 x1 n t h w - Finset.univ.sup (score x0 x1 n t h)) := by
  have hz : ∀ i : S_.Idx, val_main_cst_15 (F := Ideal) i = 0 := fun i => by pointwise [val_main_cst_15]
  pointwise [val_main_v81]
  rw [hz, zero_add]
  exact Finset.sum_congr rfl fun w _ => exp_at x0 x1 n t h w

/-- A slot's weight. -/
theorem weight_at (n : Fin 256) (t : Fin 64) (h : Fin 8) (w : Fin 576) :
    val_main_v84 (F := Ideal) x0 x1 (ix5 0 h n t w) = Ideal.div (Ideal.exp (score x0 x1 n t h w - Finset.univ.sup (score x0 x1 n t h)))
      (∑ w : Fin 576, Ideal.exp (score x0 x1 n t h w - Finset.univ.sup (score x0 x1 n t h))) := by
  pointwise [val_main_v84, val_main_v83, val_main_v82]
  rw [exp_at, total_at]

/-- The reference's result: the values of the window, each with its weight. -/
theorem result_at (i : Fin 16384) (h : Fin 8) (z : Fin 128) (n : Fin 256) (t : Fin 64) (hi : i.val = n.val * 64 + t.val) :
    val_main_v88 (F := Ideal) x0 x1 (ix2 i ⟨h.val * 128 + z.val, by omega⟩)
      = ∑ w : Fin 576, slot x0 6144 (by decide) n w h z * Ideal.div (Ideal.exp (score x0 x1 n t h w - Finset.univ.sup (score x0 x1 n t h)))
          (∑ w : Fin 576, Ideal.exp (score x0 x1 n t h w - Finset.univ.sup (score x0 x1 n t h))) := by
  pointwise [val_main_v88, val_main_v87, val_main_v86, val_main_v85]
  refine Finset.sum_congr rfl fun w _ => ?_
  refine (congrArg₂ (· * ·) (value_slot x0 _ w h z) (weight_at x0 x1 _ _ h w)).trans ?_
  rw [show (⟨i.val / 64, by omega⟩ : Fin 256) = n from Fin.ext (by dsimp only; omega), show (⟨i.val % 64, by omega⟩ : Fin 64) = t from Fin.ext (by dsimp only; omega)]

end Cert.AttnRefIdeal.Proved
-- ==== Proof.AttnBlock.lean ====
module

public import proofs.«01_k».proof.Defs
public import proofs.«01_k».proof.Proof.AttnMath
public import proofs.«01_k».proof.Proof.AttnRef
public import proofs.«01_k».proof.Proof.AttnBias
public import Idealize.ShloMosaic.Lib.Pointwise

/-! One sub-block of the attention's second call: 128 rows of a head against 640 slots, and why it is the reference's
    average over each row's window of 576 slots. -/

@[expose] public section

set_option maxRecDepth 16384

noncomputable section

namespace Cert.AttnIdeal.Proved

open Cert.AttnIdeal Cert.AttnIdeal.Gen Idealize.ShloMosaic
open Cert.AttnRefIdeal.Proved (slot score result_at)
open Cert.AttnRefIdeal.Read (val_main_v88)

/-- The scores of the sub-block's rows and slots: minus infinity in the first `cut` slots if the bit is set. -/
abbrev scores (first : BitVec 1) (cut : BitVec 32) (K : FVec Ideal S640x128 .bf16) (b : FVec Ideal S128x640 .f32) (q : FVec Ideal S128x128 .bf16) :
    FVec Ideal S128x640 .f32 :=
  select (cmpi .slt (iota .tc S128x640 32 [1] iota_S128x640_d1_w32) (broadcast S128x640 (Scalar.select first cut 0#32)))
    (broadcast S128x640 (Scalar.ofBits .f32 0xFF800000#32))
    (addf (matmul dot_S128x128_S640x128_S128x640_1_1_0_0_n_n none q K (constant S128x640 .f32 0x00000000#32)) b)

/-- The exponentials of the scores less their row's largest. -/
abbrev exps (s : FVec Ideal S128x640 .f32) : FVec Ideal S128x640 .f32 :=
  exp (subf s (broadcastTo S128x640 (shapeCast S128x1 (multiReduction .maximumf [1] S128 s 0xFF800000#32 reduces_S128x640_S128 (.inl rfl) rfl)
    shapeCasts_S128_S128x1) broadcasts_S128x1_S128x640))

/-- The average of the values under the exponentials. -/
abbrev avg (p : FVec Ideal S128x640 .f32) (V : FVec Ideal S640x128 .bf16) : FVec Ideal S128x128 .bf16 :=
  truncf .bf16 (divf (matmul dot_S128x640_S640x128_S128x128_1_0_0_1_n_n none (truncf .bf16 p bitsLt_bf16_f32) V (constant S128x128 .f32 0x00000000#32))
    (broadcastTo S128x128 (shapeCast S128x1 (multiReduction .add [1] S128 p 0x00000000#32 reduces_S128x640_S128 (.inl rfl) rfl) shapeCasts_S128_S128x1)
      broadcasts_S128x1_S128x128)) bitsLt_bf16_f32

theorem scores_at (first : BitVec 1) (cut : BitVec 32) (K : FVec Ideal S640x128 .bf16) (b : FVec Ideal S128x640 .f32) (q : FVec Ideal S128x128 .bf16)
    (r : Fin 128) (u : Fin 640) :
    scores first cut K b q (ix2 r u) = Scalar.select (IntOp.cmpi .slt (BitVec.ofNat 32 u.val) (Scalar.select first cut 0#32)) (⊥ : EReal)
      (∑ z : Fin 128, q (ix2 r z) * K (ix2 u z) + b (ix2 r u)) := by
  have hb : Ideal.ofBits .f32 0xFF800000#32 = ⊥ := by simp [Ideal.ofBits, Ideal.ieee]
  pointwise
  rw [hb]

theorem fold_max_row (f : Fin 640 → EReal) : Finset.fold max ⊥ f Finset.univ = Finset.univ.sup f := rfl

theorem exps_at (s : FVec Ideal S128x640 .f32) (r : Fin 128) (u : Fin 640) :
    exps s (ix2 r u) = Ideal.exp (s (ix2 r u) - Finset.univ.sup fun u => s (ix2 r u)) := by
  have hb : Ideal.ofBits .f32 0xFF800000#32 = ⊥ := by simp [Ideal.ofBits, Ideal.ieee]
  pointwise
  rw [hb, fold_max_row]

theorem avg_at (p : FVec Ideal S128x640 .f32) (V : FVec Ideal S640x128 .bf16) (r : Fin 128) (z : Fin 128) :
    avg p V (ix2 r z) = Ideal.div (∑ u : Fin 640, p (ix2 r u) * V (ix2 u z)) (∑ u : Fin 640, p (ix2 r u)) := by
  pointwise

/-- The bit that says a row of blocks is the first. -/
theorem first_bit : ∀ i : Fin 32, Scalar.cmpi .eq (BitVec.ofNat 32 i.val) 0#32 = BitVec.ofBool (decide (i.val = 0)) := by decide +kernel

/-- Which slots are masked. -/
theorem mask_bit (f : Bool) (j : Fin 4) (u : Fin 640) :
    IntOp.cmpi .slt (BitVec.ofNat 32 u.val) (Scalar.select (BitVec.ofBool f) (BitVec.ofNat 32 (512 - 128 * j.val)) 0#32)
      = BitVec.ofBool (f && decide (128 * j.val + u.val < 512)) := by
  have h : ∀ (f : Bool) (j : Fin 4) (u : Fin 640),
      IntOp.cmpi .slt (BitVec.ofNat 32 u.val) (Scalar.select (BitVec.ofBool f) (BitVec.ofNat 32 (512 - 128 * j.val)) 0#32)
        = BitVec.ofBool (f && decide (128 * j.val + u.val < 512)) := by decide +kernel
  exact h f j u

/-- The sub-block's average is the reference's result, if its arrays are cut from the arguments: the queries of 128 rows, the
    keys and the values of the 640 rows from 512 before the first of them where there are any, the bias of the windows. -/
theorem block_at (x0 : S16384x7168.Idx → EReal) (x1 : S1x8x257.Idx → EReal)
    (f0 : ∀ (i : Fin 16384) (k : Fin 7168), 4096 ≤ k.val → k.val < 6144 → ∃ a : ℝ, x0 (ix2 i k) = a) (f1 : ∀ j, ∃ a : ℝ, x1 j = a)
    (h : Fin 8) (i : Fin 32) (j : Fin 4) (K V : FVec Ideal S640x128 .bf16) (b : FVec Ideal S128x640 .f32) (q : FVec Ideal S128x128 .bf16)
    (hq : ∀ (r z : Fin 128) (R : Fin 16384) (Z : Fin 7168), R.val = i.val * 512 + (128 * j.val + r.val) → Z.val = 4096 + (h.val * 128 + z.val) →
      q (ix2 r z) = x0 (ix2 R Z))
    (hK : ∀ (u : Fin 640) (z : Fin 128) (R : Fin 16384) (Z : Fin 7168), R.val + 512 = i.val * 512 + (128 * j.val + u.val) →
      Z.val = 5120 + (h.val * 128 + z.val) → K (ix2 u z) = x0 (ix2 R Z))
    (hV : ∀ (u : Fin 640) (z : Fin 128) (R : Fin 16384) (Z : Fin 7168), R.val + 512 = i.val * 512 + (128 * j.val + u.val) →
      Z.val = 6144 + (h.val * 128 + z.val) → V (ix2 u z) = x0 (ix2 R Z))
    (hb : ∀ (r : Fin 128) (u : Fin 640), b (ix2 r u) = biasOf x1 h r u)
    (r z : Fin 128) (R : Fin 16384) (hR : R.val = i.val * 512 + (128 * j.val + r.val)) :
    avg (exps (scores (Scalar.cmpi .eq (BitVec.ofNat 32 i.val) 0#32) (BitVec.ofNat 32 (512 - 128 * j.val)) K b q)) V (ix2 r z)
      = val_main_v88 (F := Ideal) x0 x1 (ix2 R ⟨h.val * 128 + z.val, by omega⟩) := by
  have hn : i.val * 8 + 2 * j.val + r.val / 64 < 256 := by omega
  obtain ⟨n, en⟩ : ∃ n : Fin 256, n.val = i.val * 8 + 2 * j.val + r.val / 64 := ⟨⟨_, hn⟩, rfl⟩
  obtain ⟨t, et⟩ : ∃ t : Fin 64, t.val = r.val % 64 := ⟨⟨r.val % 64, by omega⟩, rfl⟩
  rw [result_at x0 x1 R h z n t (by omega), avg_at, first_bit]
  simp only [exps_at]
  have ej : ∀ w : Fin 576, r.val / 64 * 64 + w.val < 640 := fun w => by omega
  -- a slot's score is the reference's
  have key : ∀ (w : Fin 576) (z : Fin 128), 512 ≤ n.val * 64 + w.val →
      K (ix2 ⟨r.val / 64 * 64 + w.val, ej w⟩ z) = slot x0 5120 (by decide) n w h z := fun w z hv => by
    unfold slot
    rw [dif_pos hv]
    exact hK _ z _ _ (by dsimp only; omega) rfl
  have sc : ∀ w : Fin 576, scores (BitVec.ofBool (decide (i.val = 0))) (BitVec.ofNat 32 (512 - 128 * j.val)) K b q (ix2 r ⟨r.val / 64 * 64 + w.val, ej w⟩)
      = score x0 x1 n t h w := fun w => by
    rw [scores_at, mask_bit]
    unfold score
    by_cases hv : 512 ≤ n.val * 64 + w.val
    · rw [if_pos hv, show (decide (i.val = 0) && decide (128 * j.val + (r.val / 64 * 64 + w.val) < 512)) = false from by
        rw [Bool.and_eq_false_iff, decide_eq_false_iff_not, decide_eq_false_iff_not]; omega]
      refine (sel_false _ _).trans ?_
      rw [hb]
      unfold biasOf
      rw [if_pos (by constructor <;> dsimp only <;> omega)]
      refine congrArg₂ (· + ·) (Finset.sum_congr rfl fun z _ => congrArg₂ (· * ·) (hq r z _ _ (by dsimp only; omega) rfl) (key w z hv)) ?_
      exact congrArg x1 (congrArg (ix3 0 h) (Fin.ext (by dsimp only; omega)))
    · rw [if_neg hv, show (decide (i.val = 0) && decide (128 * j.val + (r.val / 64 * 64 + w.val) < 512)) = true from by
        rw [Bool.and_eq_true, decide_eq_true_eq, decide_eq_true_eq]; omega]
      exact sel_true _ _
  -- and a real number in a slot that holds a row
  have re : ∀ w : Fin 576, 512 ≤ n.val * 64 + w.val → ∃ a : ℝ, score x0 x1 n t h w = a := fun w hv => by
    obtain ⟨e, he⟩ := f1 (ix3 0 h ⟨min (640 + t.val - w.val) 256, by omega⟩)
    have hp : ∀ z : Fin 128, ∃ a : ℝ, x0 (ix2 ⟨n.val * 64 + t.val, by omega⟩ ⟨4096 + (h.val * 128 + z.val), by omega⟩) * slot x0 5120 (by decide) n w h z = a := fun z => by
      obtain ⟨a, ha⟩ := f0 ⟨n.val * 64 + t.val, by omega⟩ ⟨4096 + (h.val * 128 + z.val), by omega⟩ (by dsimp only; omega) (by dsimp only; omega)
      obtain ⟨d, hd⟩ := f0 ⟨n.val * 64 + w.val - 512, by omega⟩ ⟨5120 + (h.val * 128 + z.val), by omega⟩ (by dsimp only; omega) (by dsimp only; omega)
      unfold slot
      rw [dif_pos hv, ha, hd]
      exact ⟨a * d, (EReal.coe_mul a d).symm⟩
    choose g hg using hp
    unfold score
    rw [if_pos hv, he, Finset.sum_congr rfl fun z _ => hg z, ← coe_sum]
    exact ⟨_, (EReal.coe_add _ _).symm⟩
  have h575 : 512 ≤ n.val * 64 + (⟨575, by omega⟩ : Fin 576).val := by dsimp only; omega
  obtain ⟨a, ha⟩ := re ⟨575, by omega⟩ h575
  refine average (fun w : Fin 576 => (⟨r.val / 64 * 64 + w.val, ej w⟩ : Fin 640)) ?_ (score x0 x1 n t h) (fun w => slot x0 6144 (by decide) n w h z)
    (fun u => scores (BitVec.ofBool (decide (i.val = 0))) (BitVec.ofNat 32 (512 - 128 * j.val)) K b q (ix2 r u)) (fun u => V (ix2 u z)) sc ?_ ?_ ?_ ⟨575, by omega⟩ a ha
  · intro w w' e
    have e' := congrArg Fin.val e
    dsimp only at e'
    exact Fin.ext (by omega)
  · intro w hw
    have hv : 512 ≤ n.val * 64 + w.val := by
      by_contra hv
      exact hw (if_neg hv)
    unfold slot
    rw [dif_pos hv]
    exact hV _ z _ _ (by dsimp only; omega) rfl
  · intro u hu
    have hu' : ¬(r.val / 64 * 64 ≤ u.val ∧ u.val < r.val / 64 * 64 + 576) := fun ⟨a, b⟩ =>
      hu ⟨⟨u.val - r.val / 64 * 64, by omega⟩, Fin.ext (by dsimp only; omega)⟩
    show scores _ _ K b q (ix2 r u) = ⊥
    rw [scores_at, mask_bit, hb]
    unfold biasOf
    rw [if_neg hu', EReal.add_bot]
    cases (decide (i.val = 0) && decide (128 * j.val + u.val < 512))
    · exact sel_false _ _
    · exact sel_true _ _
  · intro w
    by_cases hv : 512 ≤ n.val * 64 + w.val
    · exact .inr (re w hv)
    · exact .inl (if_neg hv)

end Cert.AttnIdeal.Proved

end
-- ==== Proof.AttnValue.lean ====
module

public import proofs.«01_k».proof.Defs
public import proofs.«01_k».proof.Proof.AttnRun
public import proofs.«01_k».proof.Proof.AttnBias
public import proofs.«01_k».proof.Proof.AttnBlock
public import proofs.«01_k».proof.Proof.Gen.AttnRefIdeal.Run
public import proofs.«01_k».proof.Proof.Gen.AttnRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.ReduceAll

/-! The attention's result after the run is the reference's. -/

@[expose] public section

set_option maxRecDepth 16384

noncomputable section

namespace Cert.AttnIdeal.Proved

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The projection as launched. -/
abbrev pj (c : Dev nD) : S16384x7168.Idx → EReal := m ((c : Thread nD τ).loc main_arg0)

/-- The result as one function of the arguments: the reference's own. -/
abbrev G (c : Dev nD) : Buf (Elt Ideal) ((c : Thread nD τ).loc main_v9) :=
  Cert.AttnRefIdeal.Read.val_main_v88 (F := Ideal) (m ((c : Thread nD τ).loc main_arg0)) (m ((c : Thread nD τ).loc main_arg1))

/-- Where the second call's blocks lie at a point. -/
theorem idx1 : ∀ t : Fin grid1.N, win1_0.index t = ![t.val / 32, 0, 0] ∧ win1_1.index t = ![t.val % 32, 32 + t.val / 32]
    ∧ win1_2.index t = ![t.val % 32 - 1, 40 + t.val / 32] ∧ win1_3.index t = ![t.val % 32, 40 + t.val / 32]
    ∧ win1_4.index t = ![t.val % 32 - 1, 48 + t.val / 32] ∧ win1_5.index t = ![t.val % 32, 48 + t.val / 32]
    ∧ win1_6.index t = ![t.val % 32, t.val / 32] ∧ (grid1.coords t 1).val = t.val % 32 := by decide +kernel

theorem read1_0 (c : Dev nD) (t : Fin grid1.N) (h : Fin 8) (hh : h.val = t.val / 32) (r : Fin 128) (u : Fin 640) :
    iblk1 (V2 m ρ) c 0 t (ix3 0 r u) = biasOf (rb m c) h r u := by
  have e := (entry_bias m ρ c).trans (bias_final m ρ c)
  refine Eq.trans (b := V2 m ρ c main_v8 (ix3 h r u)) ?_ (congrFun e (ix3 h r u))
  blk_point [iblk1, idx1 t, hh]

theorem read1_1 (c : Dev nD) (t : Fin grid1.N) (r : Fin 512) (z : Fin 128) (R : Fin 16384) (Z : Fin 7168)
    (hR : R.val = t.val % 32 * 512 + r.val) (hZ : Z.val = (32 + t.val / 32) * 128 + z.val) :
    iblk1 (V2 m ρ) c 1 t (ix2 r z) = pj m c (ix2 R Z) := by
  rw [show pj m c = V2 m ρ c main_arg0 from (entry_proj m ρ c).symm]
  blk_point [iblk1, idx1 t, hR, hZ]

theorem read1_2 (c : Dev nD) (t : Fin grid1.N) (r : Fin 512) (z : Fin 128) (R : Fin 16384) (Z : Fin 7168)
    (hR : R.val = (t.val % 32 - 1) * 512 + r.val) (hZ : Z.val = (40 + t.val / 32) * 128 + z.val) :
    iblk1 (V2 m ρ) c 2 t (ix2 r z) = pj m c (ix2 R Z) := by
  rw [show pj m c = V2 m ρ c main_arg0 from (entry_proj m ρ c).symm]
  blk_point [iblk1, idx1 t, hR, hZ]

theorem read1_3 (c : Dev nD) (t : Fin grid1.N) (r : Fin 512) (z : Fin 128) (R : Fin 16384) (Z : Fin 7168)
    (hR : R.val = t.val % 32 * 512 + r.val) (hZ : Z.val = (40 + t.val / 32) * 128 + z.val) :
    iblk1 (V2 m ρ) c 3 t (ix2 r z) = pj m c (ix2 R Z) := by
  rw [show pj m c = V2 m ρ c main_arg0 from (entry_proj m ρ c).symm]
  blk_point [iblk1, idx1 t, hR, hZ]

theorem read1_4 (c : Dev nD) (t : Fin grid1.N) (r : Fin 512) (z : Fin 128) (R : Fin 16384) (Z : Fin 7168)
    (hR : R.val = (t.val % 32 - 1) * 512 + r.val) (hZ : Z.val = (48 + t.val / 32) * 128 + z.val) :
    iblk1 (V2 m ρ) c 4 t (ix2 r z) = pj m c (ix2 R Z) := by
  rw [show pj m c = V2 m ρ c main_arg0 from (entry_proj m ρ c).symm]
  blk_point [iblk1, idx1 t, hR, hZ]

theorem read1_5 (c : Dev nD) (t : Fin grid1.N) (r : Fin 512) (z : Fin 128) (R : Fin 16384) (Z : Fin 7168)
    (hR : R.val = t.val % 32 * 512 + r.val) (hZ : Z.val = (48 + t.val / 32) * 128 + z.val) :
    iblk1 (V2 m ρ) c 5 t (ix2 r z) = pj m c (ix2 R Z) := by
  rw [show pj m c = V2 m ρ c main_arg0 from (entry_proj m ρ c).symm]
  blk_point [iblk1, idx1 t, hR, hZ]

/-- The previous block's keys before the block's own. -/
theorem keys_at (c : Dev nD) (t : Fin grid1.N) (u : Fin 1024) (z : Fin 128) (R : Fin 16384) (Z : Fin 7168)
    (hR : R.val + 512 = t.val % 32 * 512 + u.val) (hZ : Z.val = (40 + t.val / 32) * 128 + z.val) :
    k1_pay3 (iblk1 (V2 m ρ) c 2 t) (iblk1 (V2 m ρ) c 3 t) (ix2 u z) = pj m c (ix2 R Z) := by
  pointwise [k1_pay3]
  by_cases hu : u.val < 512
  · rw [dif_pos hu]
    exact read1_2 m ρ c t _ z R Z (by dsimp only; omega) hZ
  · rw [dif_neg hu]
    exact read1_3 m ρ c t _ z R Z (by dsimp only; omega) hZ

/-- The previous block's values before the block's own. -/
theorem values_at (c : Dev nD) (t : Fin grid1.N) (u : Fin 1024) (z : Fin 128) (R : Fin 16384) (Z : Fin 7168)
    (hR : R.val + 512 = t.val % 32 * 512 + u.val) (hZ : Z.val = (48 + t.val / 32) * 128 + z.val) :
    k1_pay4 (iblk1 (V2 m ρ) c 4 t) (iblk1 (V2 m ρ) c 5 t) (ix2 u z) = pj m c (ix2 R Z) := by
  pointwise [k1_pay4]
  by_cases hu : u.val < 512
  · rw [dif_pos hu]
    exact read1_4 m ρ c t _ z R Z (by dsimp only; omega) hZ
  · rw [dif_neg hu]
    exact read1_5 m ρ c t _ z R Z (by dsimp only; omega) hZ

theorem bias_at (c : Dev nD) (t : Fin grid1.N) (h : Fin 8) (hh : h.val = t.val / 32) (r : Fin 128) (u : Fin 640) :
    k1_pay5 (iblk1 (V2 m ρ) c 0 t) (ix2 r u) = biasOf (rb m c) h r u := by
  pointwise [k1_pay5]
  exact read1_0 m ρ c t h hh r u

/-- A sub-block of the second call at a point. -/
theorem part_at (c : Dev nD) (t : Fin grid1.N)
    (f0 : ∀ (i : Fin 16384) (k : Fin 7168), 4096 ≤ k.val → k.val < 6144 → ∃ a : ℝ, pj m c (ix2 i k) = a) (f1 : ∀ j, ∃ a : ℝ, rb m c j = a)
    (j : Fin 4) (K V : FVec Ideal S640x128 .bf16) (q : FVec Ideal S128x128 .bf16)
    (hK : ∀ (u : Fin 640) (z : Fin 128), K (ix2 u z) = k1_pay3 (iblk1 (V2 m ρ) c 2 t) (iblk1 (V2 m ρ) c 3 t) (ix2 ⟨128 * j.val + u.val, by omega⟩ z))
    (hV : ∀ (u : Fin 640) (z : Fin 128), V (ix2 u z) = k1_pay4 (iblk1 (V2 m ρ) c 4 t) (iblk1 (V2 m ρ) c 5 t) (ix2 ⟨128 * j.val + u.val, by omega⟩ z))
    (cut : BitVec 32) (hc : cut = BitVec.ofNat 32 (512 - 128 * j.val))
    (hq : ∀ (r z : Fin 128), q (ix2 r z) = iblk1 (V2 m ρ) c 1 t (ix2 ⟨128 * j.val + r.val, by omega⟩ z))
    (r z : Fin 128) (R : Fin 16384) (Z : Fin 1024) (hR : R.val = t.val % 32 * 512 + (128 * j.val + r.val)) (hZ : Z.val = t.val / 32 * 128 + z.val) :
    avg (exps (scores (Scalar.cmpi .eq (BitVec.ofNat 32 (grid1.coords t 1).val) 0#32) cut K
      (k1_pay5 (iblk1 (V2 m ρ) c 0 t)) q)) V (ix2 r z) = G m c (ix2 R Z) := by
  have ht : t.val < 256 := t.isLt
  subst hc
  rw [(idx1 t).2.2.2.2.2.2.2]
  refine (block_at (pj m c) (rb m c) f0 f1 ⟨t.val / 32, by omega⟩ ⟨t.val % 32, by omega⟩ j K V _ q ?_ ?_ ?_ ?_ r z R hR).trans
    (congrArg (G m c) (congrArg (ix2 R) (Fin.ext hZ.symm)))
  · intro r z R Z hR hZ
    dsimp only at hR hZ
    exact (hq r z).trans (read1_1 m ρ c t _ z R Z (by dsimp only; omega) (by omega))
  · intro u z R Z hR hZ
    dsimp only at hR hZ
    exact (hK u z).trans (keys_at m ρ c t _ z R Z (by dsimp only; omega) (by omega))
  · intro u z R Z hR hZ
    dsimp only at hR hZ
    exact (hV u z).trans (values_at m ρ c t _ z R Z (by dsimp only; omega) (by omega))
  · exact fun r u => bias_at m ρ c t ⟨t.val / 32, by omega⟩ rfl r u

theorem slice_at (x : S1024x128.Idx → EReal) (o : ℕ) (ho : o + 640 ≤ 1024) (hs : S1024x128.Slices ![o, 0] S640x128) (u : Fin 640) (z : Fin 128)
    (v : Fin 1024) (hv : v.val = o + u.val) : extractStridedSlice S640x128 ![o, 0] x hs (ix2 u z) = x (ix2 v z) :=
  congrArg x (funext fun a => Fin.ext (by
    match a with
    | ⟨0, _⟩ => show o + u.val = v.val; omega
    | ⟨1, _⟩ => show 0 + z.val = z.val; omega))

/-- The reference's result on the block at a point. -/
abbrev block (c : Dev nD) (t : Fin grid1.N) : S512x128.Idx → EReal := fun y =>
  G m c (ix2 ⟨t.val % 32 * 512 + (y 0).val, by have hy : (y 0).val < 512 := (y 0).isLt; omega⟩
    ⟨t.val / 32 * 128 + (y 1).val, by have ht : t.val < 256 := t.isLt; have hy : (y 1).val < 128 := (y 1).isLt; omega⟩)

theorem pay2_eq (first : BitVec 1) (K V : FVec Ideal S1024x128 .bf16) (b : FVec Ideal S128x640 .f32) (q : FVec Ideal S128x128 .bf16) :
    k1_pay2 first K V b (iota .tc S128x640 32 [1] iota_S128x640_d1_w32) q = avg (exps (scores first 128#32 (extractStridedSlice S640x128 ![384, 0] K slices_S1024x128_o384_0_S640x128) b q))
      (extractStridedSlice S640x128 ![384, 0] V slices_S1024x128_o384_0_S640x128) := rfl

theorem pay18_eq (first : BitVec 1) (K V : FVec Ideal S1024x128 .bf16) (b : FVec Ideal S128x640 .f32) (q : FVec Ideal S128x128 .bf16) :
    k1_pay1 (k1_pay8 first K b (iota .tc S128x640 32 [1] iota_S128x640_d1_w32) q) (k1_pay9 first K V b (iota .tc S128x640 32 [1] iota_S128x640_d1_w32) q)
      = avg (exps (scores first 256#32 (extractStridedSlice S640x128 ![256, 0] K slices_S1024x128_o256_0_S640x128) b q))
      (extractStridedSlice S640x128 ![256, 0] V slices_S1024x128_o256_0_S640x128) := rfl

theorem pay7_eq (first : BitVec 1) (K V : FVec Ideal S1024x128 .bf16) (b : FVec Ideal S128x640 .f32) (q : FVec Ideal S128x128 .bf16) :
    k1_pay7 first K V b (iota .tc S128x640 32 [1] iota_S128x640_d1_w32) q = avg (exps (scores first 384#32 (extractStridedSlice S640x128 ![128, 0] K slices_S1024x128_o128_0_S640x128) b q))
      (extractStridedSlice S640x128 ![128, 0] V slices_S1024x128_o128_0_S640x128) := rfl

theorem pay6_eq (i : grid1.Coords) (k k' v v' : FVec Ideal S512x128 .bf16) (b : FVec Ideal S1x128x640 .f32) (q : FVec Ideal S128x128 .bf16) :
    k1_pay6 i k k' v v' b q = avg (exps (scores (Scalar.cmpi .eq (BitVec.ofNat 32 (i 1).val) 0#32) 512#32
      (extractStridedSlice S640x128 ![0, 0] (k1_pay3 k k') slices_S1024x128_o0_0_S640x128) (k1_pay5 b) q))
      (extractStridedSlice S640x128 ![0, 0] (k1_pay4 v v') slices_S1024x128_o0_0_S640x128) := rfl

theorem ld_rows (x : Vec Ideal S512x128 .bf16) : View.ld (Val := Elt Ideal) x r1_0 = x :=
  funext fun y => congrArg x (funext fun a => Fin.ext (by
    match a with
    | ⟨0, _⟩ => show 0 + 1 * (y 0).val = (y 0).val; omega
    | ⟨1, _⟩ => show 0 + 1 * (y 1).val = (y 1).val; omega))

theorem ld_bias (x : Vec Ideal S1x128x640 .f32) : View.ld (Val := Elt Ideal) x r1_1 = x :=
  funext fun y => congrArg x (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

/-- The rows of the queries a sub-block reads. -/
theorem ld_at (x : Vec Ideal S512x128 .bf16) (o : ℕ) (hi) (r z : Fin 128) (v : Fin 512) (hv : v.val = o + r.val) :
    View.ld (Val := Elt Ideal) x (Rect.unit (s := S512x128) ![o, 0] S128x128.size hi) (ix2 r z) = x (ix2 v z) :=
  congrArg x (funext fun a => Fin.ext (by
    match a with
    | ⟨0, _⟩ => show o + 1 * r.val = v.val; omega
    | ⟨1, _⟩ => show 0 + 1 * z.val = z.val; omega))

theorem store3_eq (i : grid1.Coords) (x0 : Vec Ideal S1x128x640 .f32) (x1 x2 x3 x4 x5 : Vec Ideal S512x128 .bf16) :
    k1_pay2 (Scalar.cmpi .eq (BitVec.ofNat 32 (i 1).val) 0#32) (k1_pay11 i x0 x1 x2 x3 x4 x5) (k1_pay12 i x0 x1 x2 x3 x4 x5) (k1_pay13 i x0 x1 x2 x3 x4 x5) (k1_pay10 i x0 x1 x2 x3 x4 x5) (View.ld (Val := Elt Ideal) x1 r1_5)
      = avg (exps (scores (Scalar.cmpi .eq (BitVec.ofNat 32 (i 1).val) 0#32) 128#32 (extractStridedSlice S640x128 ![384, 0] (k1_pay3 x2 x3) slices_S1024x128_o384_0_S640x128) (k1_pay5 x0) (View.ld (Val := Elt Ideal) x1 r1_5)))
        (extractStridedSlice S640x128 ![384, 0] (k1_pay4 x4 x5) slices_S1024x128_o384_0_S640x128) := by
  unfold k1_pay10 k1_pay11 k1_pay12 k1_pay13
  rw [ld_rows x2, ld_rows x3, ld_rows x4, ld_rows x5, ld_bias x0]
  exact pay2_eq _ _ _ _ _

/-- The last sub-block's store. -/
theorem store3_at (c : Dev nD) (t : Fin grid1.N)
    (f0 : ∀ (i : Fin 16384) (k : Fin 7168), 4096 ≤ k.val → k.val < 6144 → ∃ a : ℝ, pj m c (ix2 i k) = a) (f1 : ∀ j, ∃ a : ℝ, rb m c j = a)
    (r z : Fin 128) (R : Fin 16384) (Z : Fin 1024) (hR : R.val = t.val % 32 * 512 + (384 + r.val)) (hZ : Z.val = t.val / 32 * 128 + z.val)
    (i : grid1.Coords) (hi : i = grid1.coords t) (x0 : Vec Ideal S1x128x640 .f32) (x1 x2 x3 x4 x5 : Vec Ideal S512x128 .bf16)
    (h0 : x0 = iblk1 (V2 m ρ) c 0 t) (h1 : x1 = iblk1 (V2 m ρ) c 1 t) (h2 : x2 = iblk1 (V2 m ρ) c 2 t) (h3 : x3 = iblk1 (V2 m ρ) c 3 t)
    (h4 : x4 = iblk1 (V2 m ρ) c 4 t) (h5 : x5 = iblk1 (V2 m ρ) c 5 t) :
    (k1_pay2 (Scalar.cmpi .eq (BitVec.ofNat 32 (i 1).val) 0#32) (k1_pay11 i x0 x1 x2 x3 x4 x5) (k1_pay12 i x0 x1 x2 x3 x4 x5) (k1_pay13 i x0 x1 x2 x3 x4 x5) (k1_pay10 i x0 x1 x2 x3 x4 x5) (View.ld (Val := Elt Ideal) x1 r1_5)) (ix2 r z) = G m c (ix2 R Z) := by
  rw [store3_eq, h0, h2, h3, h4, h5, hi]
  refine part_at m ρ c t f0 f1 3 _ _ _ ?_ ?_ _ (by decide) ?_ r z R Z hR hZ
  · exact fun u z => slice_at _ 384 (by decide) _ u z _ rfl
  · exact fun u z => slice_at _ 384 (by decide) _ u z _ rfl
  · exact fun r z => (ld_at x1 384 _ r z _ rfl).trans (congrFun h1 _)

theorem store2_eq (i : grid1.Coords) (x0 : Vec Ideal S1x128x640 .f32) (x1 x2 x3 x4 x5 : Vec Ideal S512x128 .bf16) :
    k1_pay1 (k1_pay8 (Scalar.cmpi .eq (BitVec.ofNat 32 (i 1).val) 0#32) (k1_pay11 i x0 x1 x2 x3 x4 x5) (k1_pay13 i x0 x1 x2 x3 x4 x5) (k1_pay10 i x0 x1 x2 x3 x4 x5) (View.ld (Val := Elt Ideal) x1 r1_4)) (k1_pay9 (Scalar.cmpi .eq (BitVec.ofNat 32 (i 1).val) 0#32) (k1_pay11 i x0 x1 x2 x3 x4 x5) (k1_pay12 i x0 x1 x2 x3 x4 x5) (k1_pay13 i x0 x1 x2 x3 x4 x5) (k1_pay10 i x0 x1 x2 x3 x4 x5) (View.ld (Val := Elt Ideal) x1 r1_4))
      = avg (exps (scores (Scalar.cmpi .eq (BitVec.ofNat 32 (i 1).val) 0#32) 256#32 (extractStridedSlice S640x128 ![256, 0] (k1_pay3 x2 x3) slices_S1024x128_o256_0_S640x128) (k1_pay5 x0) (View.ld (Val := Elt Ideal) x1 r1_4)))
        (extractStridedSlice S640x128 ![256, 0] (k1_pay4 x4 x5) slices_S1024x128_o256_0_S640x128) := by
  unfold k1_pay10 k1_pay11 k1_pay12 k1_pay13
  rw [ld_rows x2, ld_rows x3, ld_rows x4, ld_rows x5, ld_bias x0]
  exact pay18_eq _ _ _ _ _

/-- The third sub-block's store. -/
theorem store2_at (c : Dev nD) (t : Fin grid1.N)
    (f0 : ∀ (i : Fin 16384) (k : Fin 7168), 4096 ≤ k.val → k.val < 6144 → ∃ a : ℝ, pj m c (ix2 i k) = a) (f1 : ∀ j, ∃ a : ℝ, rb m c j = a)
    (r z : Fin 128) (R : Fin 16384) (Z : Fin 1024) (hR : R.val = t.val % 32 * 512 + (256 + r.val)) (hZ : Z.val = t.val / 32 * 128 + z.val)
    (i : grid1.Coords) (hi : i = grid1.coords t) (x0 : Vec Ideal S1x128x640 .f32) (x1 x2 x3 x4 x5 : Vec Ideal S512x128 .bf16)
    (h0 : x0 = iblk1 (V2 m ρ) c 0 t) (h1 : x1 = iblk1 (V2 m ρ) c 1 t) (h2 : x2 = iblk1 (V2 m ρ) c 2 t) (h3 : x3 = iblk1 (V2 m ρ) c 3 t)
    (h4 : x4 = iblk1 (V2 m ρ) c 4 t) (h5 : x5 = iblk1 (V2 m ρ) c 5 t) :
    (k1_pay1 (k1_pay8 (Scalar.cmpi .eq (BitVec.ofNat 32 (i 1).val) 0#32) (k1_pay11 i x0 x1 x2 x3 x4 x5) (k1_pay13 i x0 x1 x2 x3 x4 x5) (k1_pay10 i x0 x1 x2 x3 x4 x5) (View.ld (Val := Elt Ideal) x1 r1_4)) (k1_pay9 (Scalar.cmpi .eq (BitVec.ofNat 32 (i 1).val) 0#32) (k1_pay11 i x0 x1 x2 x3 x4 x5) (k1_pay12 i x0 x1 x2 x3 x4 x5) (k1_pay13 i x0 x1 x2 x3 x4 x5) (k1_pay10 i x0 x1 x2 x3 x4 x5) (View.ld (Val := Elt Ideal) x1 r1_4))) (ix2 r z) = G m c (ix2 R Z) := by
  rw [store2_eq, h0, h2, h3, h4, h5, hi]
  refine part_at m ρ c t f0 f1 2 _ _ _ ?_ ?_ _ (by decide) ?_ r z R Z hR hZ
  · exact fun u z => slice_at _ 256 (by decide) _ u z _ rfl
  · exact fun u z => slice_at _ 256 (by decide) _ u z _ rfl
  · exact fun r z => (ld_at x1 256 _ r z _ rfl).trans (congrFun h1 _)

theorem store1_eq (i : grid1.Coords) (x0 : Vec Ideal S1x128x640 .f32) (x1 x2 x3 x4 x5 : Vec Ideal S512x128 .bf16) :
    k1_pay7 (Scalar.cmpi .eq (BitVec.ofNat 32 (i 1).val) 0#32) (k1_pay11 i x0 x1 x2 x3 x4 x5) (k1_pay12 i x0 x1 x2 x3 x4 x5) (k1_pay13 i x0 x1 x2 x3 x4 x5) (k1_pay10 i x0 x1 x2 x3 x4 x5) (View.ld (Val := Elt Ideal) x1 r1_3)
      = avg (exps (scores (Scalar.cmpi .eq (BitVec.ofNat 32 (i 1).val) 0#32) 384#32 (extractStridedSlice S640x128 ![128, 0] (k1_pay3 x2 x3) slices_S1024x128_o128_0_S640x128) (k1_pay5 x0) (View.ld (Val := Elt Ideal) x1 r1_3)))
        (extractStridedSlice S640x128 ![128, 0] (k1_pay4 x4 x5) slices_S1024x128_o128_0_S640x128) := by
  unfold k1_pay10 k1_pay11 k1_pay12 k1_pay13
  rw [ld_rows x2, ld_rows x3, ld_rows x4, ld_rows x5, ld_bias x0]
  exact pay7_eq _ _ _ _ _

/-- The second sub-block's store. -/
theorem store1_at (c : Dev nD) (t : Fin grid1.N)
    (f0 : ∀ (i : Fin 16384) (k : Fin 7168), 4096 ≤ k.val → k.val < 6144 → ∃ a : ℝ, pj m c (ix2 i k) = a) (f1 : ∀ j, ∃ a : ℝ, rb m c j = a)
    (r z : Fin 128) (R : Fin 16384) (Z : Fin 1024) (hR : R.val = t.val % 32 * 512 + (128 + r.val)) (hZ : Z.val = t.val / 32 * 128 + z.val)
    (i : grid1.Coords) (hi : i = grid1.coords t) (x0 : Vec Ideal S1x128x640 .f32) (x1 x2 x3 x4 x5 : Vec Ideal S512x128 .bf16)
    (h0 : x0 = iblk1 (V2 m ρ) c 0 t) (h1 : x1 = iblk1 (V2 m ρ) c 1 t) (h2 : x2 = iblk1 (V2 m ρ) c 2 t) (h3 : x3 = iblk1 (V2 m ρ) c 3 t)
    (h4 : x4 = iblk1 (V2 m ρ) c 4 t) (h5 : x5 = iblk1 (V2 m ρ) c 5 t) :
    (k1_pay7 (Scalar.cmpi .eq (BitVec.ofNat 32 (i 1).val) 0#32) (k1_pay11 i x0 x1 x2 x3 x4 x5) (k1_pay12 i x0 x1 x2 x3 x4 x5) (k1_pay13 i x0 x1 x2 x3 x4 x5) (k1_pay10 i x0 x1 x2 x3 x4 x5) (View.ld (Val := Elt Ideal) x1 r1_3)) (ix2 r z) = G m c (ix2 R Z) := by
  rw [store1_eq, h0, h2, h3, h4, h5, hi]
  refine part_at m ρ c t f0 f1 1 _ _ _ ?_ ?_ _ (by decide) ?_ r z R Z hR hZ
  · exact fun u z => slice_at _ 128 (by decide) _ u z _ rfl
  · exact fun u z => slice_at _ 128 (by decide) _ u z _ rfl
  · exact fun r z => (ld_at x1 128 _ r z _ rfl).trans (congrFun h1 _)

theorem store0_eq (i : grid1.Coords) (x0 : Vec Ideal S1x128x640 .f32) (x1 x2 x3 x4 x5 : Vec Ideal S512x128 .bf16) :
    k1_pay6 i x2 x3 x4 x5 x0 (View.ld (Val := Elt Ideal) x1 r1_2)
      = avg (exps (scores (Scalar.cmpi .eq (BitVec.ofNat 32 (i 1).val) 0#32) 512#32 (extractStridedSlice S640x128 ![0, 0] (k1_pay3 x2 x3) slices_S1024x128_o0_0_S640x128) (k1_pay5 x0) (View.ld (Val := Elt Ideal) x1 r1_2)))
        (extractStridedSlice S640x128 ![0, 0] (k1_pay4 x4 x5) slices_S1024x128_o0_0_S640x128) := by
  exact pay6_eq _ _ _ _ _ _ _

/-- The first sub-block's store. -/
theorem store0_at (c : Dev nD) (t : Fin grid1.N)
    (f0 : ∀ (i : Fin 16384) (k : Fin 7168), 4096 ≤ k.val → k.val < 6144 → ∃ a : ℝ, pj m c (ix2 i k) = a) (f1 : ∀ j, ∃ a : ℝ, rb m c j = a)
    (r z : Fin 128) (R : Fin 16384) (Z : Fin 1024) (hR : R.val = t.val % 32 * 512 + (0 + r.val)) (hZ : Z.val = t.val / 32 * 128 + z.val)
    (i : grid1.Coords) (hi : i = grid1.coords t) (x0 : Vec Ideal S1x128x640 .f32) (x1 x2 x3 x4 x5 : Vec Ideal S512x128 .bf16)
    (h0 : x0 = iblk1 (V2 m ρ) c 0 t) (h1 : x1 = iblk1 (V2 m ρ) c 1 t) (h2 : x2 = iblk1 (V2 m ρ) c 2 t) (h3 : x3 = iblk1 (V2 m ρ) c 3 t)
    (h4 : x4 = iblk1 (V2 m ρ) c 4 t) (h5 : x5 = iblk1 (V2 m ρ) c 5 t) :
    (k1_pay6 i x2 x3 x4 x5 x0 (View.ld (Val := Elt Ideal) x1 r1_2)) (ix2 r z) = G m c (ix2 R Z) := by
  rw [store0_eq, h0, h2, h3, h4, h5, hi]
  refine part_at m ρ c t f0 f1 0 _ _ _ ?_ ?_ _ (by decide) ?_ r z R Z hR hZ
  · exact fun u z => slice_at _ 0 (by decide) _ u z _ rfl
  · exact fun u z => slice_at _ 0 (by decide) _ u z _ rfl
  · exact fun r z => (ld_at x1 0 _ r z _ rfl).trans (congrFun h1 _)

/-- The result array after the run is the reference's. -/
theorem final (c : Dev nD) (f0 : ∀ (i : Fin 16384) (k : Fin 7168), 4096 ≤ k.val → k.val < 6144 → ∃ a : ℝ, pj m c (ix2 i k) = a)
    (f1 : ∀ j, ∃ a : ℝ, rb m c j = a) : (dat1 (V2 m ρ) c).arrAt 6 cfg1.N = G m c := by
  refine (dat1 (V2 m ρ) c).arrAt_eq_of_covers 6 _ (by decide +kernel) fun t hf y => ?_
  have ht : t.val < 256 := t.isLt
  blk_simp
  rw [after1_6]
  frame_out
  refine Eq.trans (b := block m c t y) ?_ (congrArg (G m c) (funext fun a => Fin.ext (by
    match a with
    | ⟨0, _⟩ => blk_simp [idx1 t]; rfl
    | ⟨1, _⟩ => blk_simp [idx1 t]; rfl)))
  refine View.canon_apply_of_pieces (Val := Elt Ideal) (S := S512x128) (e := .bf16) (block m c t) _ ?_ y (View.cover_of_tiledBy _ ![128, 128] (by sl_kernel_rfl) y)
  refine List.forall_mem_cons.2 ⟨fun x => ?_, ?_⟩
  · obtain ⟨r, z, rfl⟩ : ∃ (r : Fin 128) (z : Fin 128), x = ix2 r z := ⟨x 0, x 1, eq_ix2 x⟩
    refine (store3_at m ρ c t f0 f1 r z ⟨t.val % 32 * 512 + (384 + r.val), by omega⟩ ⟨t.val / 32 * 128 + z.val, by omega⟩ rfl rfl
      _ rfl _ _ _ _ _ _ rfl rfl rfl rfl rfl rfl).trans (congrArg (G m c) (funext fun a => Fin.ext ?_))
    match a with
    | ⟨0, _⟩ => show t.val % 32 * 512 + (384 + r.val) = t.val % 32 * 512 + (384 + 1 * r.val); omega
    | ⟨1, _⟩ => show t.val / 32 * 128 + z.val = t.val / 32 * 128 + (0 + 1 * z.val); omega
  refine List.forall_mem_cons.2 ⟨fun x => ?_, ?_⟩
  · obtain ⟨r, z, rfl⟩ : ∃ (r : Fin 128) (z : Fin 128), x = ix2 r z := ⟨x 0, x 1, eq_ix2 x⟩
    refine (store2_at m ρ c t f0 f1 r z ⟨t.val % 32 * 512 + (256 + r.val), by omega⟩ ⟨t.val / 32 * 128 + z.val, by omega⟩ rfl rfl
      _ rfl _ _ _ _ _ _ rfl rfl rfl rfl rfl rfl).trans (congrArg (G m c) (funext fun a => Fin.ext ?_))
    match a with
    | ⟨0, _⟩ => show t.val % 32 * 512 + (256 + r.val) = t.val % 32 * 512 + (256 + 1 * r.val); omega
    | ⟨1, _⟩ => show t.val / 32 * 128 + z.val = t.val / 32 * 128 + (0 + 1 * z.val); omega
  refine List.forall_mem_cons.2 ⟨fun x => ?_, ?_⟩
  · obtain ⟨r, z, rfl⟩ : ∃ (r : Fin 128) (z : Fin 128), x = ix2 r z := ⟨x 0, x 1, eq_ix2 x⟩
    refine (store1_at m ρ c t f0 f1 r z ⟨t.val % 32 * 512 + (128 + r.val), by omega⟩ ⟨t.val / 32 * 128 + z.val, by omega⟩ rfl rfl
      _ rfl _ _ _ _ _ _ rfl rfl rfl rfl rfl rfl).trans (congrArg (G m c) (funext fun a => Fin.ext ?_))
    match a with
    | ⟨0, _⟩ => show t.val % 32 * 512 + (128 + r.val) = t.val % 32 * 512 + (128 + 1 * r.val); omega
    | ⟨1, _⟩ => show t.val / 32 * 128 + z.val = t.val / 32 * 128 + (0 + 1 * z.val); omega
  refine List.forall_mem_cons.2 ⟨fun x => ?_, ?_⟩
  · obtain ⟨r, z, rfl⟩ : ∃ (r : Fin 128) (z : Fin 128), x = ix2 r z := ⟨x 0, x 1, eq_ix2 x⟩
    refine (store0_at m ρ c t f0 f1 r z ⟨t.val % 32 * 512 + (0 + r.val), by omega⟩ ⟨t.val / 32 * 128 + z.val, by omega⟩ rfl rfl
      _ rfl _ _ _ _ _ _ rfl rfl rfl rfl rfl rfl).trans (congrArg (G m c) (funext fun a => Fin.ext ?_))
    match a with
    | ⟨0, _⟩ => show t.val % 32 * 512 + (0 + r.val) = t.val % 32 * 512 + (0 + 1 * r.val); omega
    | ⟨1, _⟩ => show t.val / 32 * 128 + z.val = t.val / 32 * 128 + (0 + 1 * z.val); omega
  exact fun p hp => absurd hp List.not_mem_nil

/-- The side conditions of the precondition's operations. -/
instance facts_pre : Cert.Pre_scores_finite.Facts := ⟨by decide, by decide, by decide, by decide, by decide, by decide, by decide⟩

/-- An extended real whose absolute value is below plus infinity is a real number. -/
theorem real_of_abs (x : EReal) (h : BitVec.ofBool (decide (max x (-x) < ⊤)) = 1#1) : ∃ a : ℝ, x = a := by
  have h'' : max x (-x) < (⊤ : EReal) := by
    by_contra hn
    rw [decide_eq_false hn] at h
    exact absurd h (by decide)
  obtain ⟨h1, h2⟩ := max_lt_iff.1 h''
  exact ⟨x.toReal, (EReal.coe_toReal h1.ne fun hb => by rw [hb, EReal.neg_bot] at h2; exact lt_irrefl _ h2).symm⟩

theorem and_one : ∀ a b : BitVec 1, IntOp.andi a b = 1#1 → a = 1#1 ∧ b = 1#1 := by decide

/-- The precondition at an index: the queries, the keys and the biases are real numbers. -/
theorem pre_real (x0 : S16384x7168.Idx → EReal) (x1 : S1x8x257.Idx → EReal) (h : Cert.Pre_scores_finite.fn (F := Ideal) x0 x1 = fun _ => 1#1) :
    (∀ (i : Fin 16384) (k : Fin 7168), 4096 ≤ k.val → k.val < 6144 → ∃ a : ℝ, x0 (ix2 i k) = a) ∧ ∀ j, ∃ a : ℝ, x1 j = a := by
  have hinf : Ideal.ofBits .f32 0x7F800000#32 = ⊤ := by simp [Ideal.ofBits, Ideal.ieee]
  have h' := congrFun h ix0
  unfold Cert.Pre_scores_finite.fn at h'
  dsimp only at h'
  obtain ⟨ha, hb⟩ := and_one _ _ h'
  have hs : Subsingleton Cert.Pre_scores_finite.S_.Idx := ⟨fun a b => funext fun i => i.elim0⟩
  constructor
  · intro i k hk hk'
    have e := Host.reduce_andi_all _ _ _ _ _ ha (ix2 i ⟨k.val - 4096, by omega⟩)
    pointwise at e
    rw [hinf] at e
    have e0 := real_of_abs _ e
    rwa [show (⟨4096 + (k.val - 4096), by omega⟩ : Fin 7168) = k from Fin.ext (by dsimp only; omega)] at e0
  · intro j
    have e := Host.reduce_andi_all _ _ _ _ _ hb j
    pointwise at e
    rw [hinf] at e
    exact real_of_abs _ e

/-- The kernel and the reference end with the same result. -/
theorem algebraic : algebraic_AttnIdeal_AttnRefIdeal_pre_scores_finite := fun m ρ m' ρ' hpre hag =>
  ⟨fun c => G m c,
    (θ_run _ _ _).mono (fun _ h c => ⟨(h c).1.trans (final m ρ c (pre_real _ _ (hpre c)).1 (pre_real _ _ (hpre c)).2), (h c).2⟩) (run m ρ),
    (θ_run _ _ _).mono (fun _ h c => by
      obtain ⟨a0, a1⟩ := hag c
      exact ⟨(h c).1.trans (by rw [Cert.AttnRefIdeal.Read.val_main_v88_eq, a0, a1]), (h c).2⟩) (Cert.AttnRefIdeal.Value.run m' ρ')⟩

/-- The reference changes no argument. -/
theorem frame_ref : quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

end Cert.AttnIdeal.Proved

end
-- ==== Proof.RecMath.lean ====
module

public import Idealize.ShloMosaic.Lib.Pointwise
public import Idealize.ShloMosaic.Lib.KernelVsHost

/-! One chunk of the recurrence in two forms. The plain form gives the weight of step `s` at step `t` the factor
    `exp (b t - b s)`, where `b` sums the logarithms of the decay up to a step. The other form halves the chunk six times:
    steps in the two halves of one block get the factor as a product of two, each up to the block's middle. -/

@[expose] public section

noncomputable section

namespace Cert.RecIdeal.Proved

open Idealize.ShloMosaic

/-- A chunk's rows. -/
abbrev Rows := Fin 64 → Fin 128 → EReal

/-- The sum of the logarithms up to a step. -/
def upTo (g : Rows) : Rows := fun t d => ∑ s : Fin 64, if s ≤ t then g s d else 0

/-- The weight of step `s` at step `t`. -/
def weight (q k g : Rows) (t s : Fin 64) : EReal :=
  ∑ d, q t d * Ideal.exp (if s ≤ t then upTo g t d - upTo g s d else ⊥) * k s d

/-- The chunk's rows before the normalisation, from the state before it. -/
def outR (q k v g : Rows) (S : Fin 128 → Fin 128 → EReal) : Rows := fun t w =>
  (∑ d, q t d * Ideal.exp (upTo g t d) * S d w) + ∑ s, weight q k g t s * v s w

/-- The state after the chunk. -/
def nextR (k v g : Rows) (S : Fin 128 → Fin 128 → EReal) : Fin 128 → Fin 128 → EReal := fun d w =>
  Ideal.exp (upTo g 63 d) * S d w + ∑ s, k s d * Ideal.exp (upTo g 63 d - upTo g s d) * v s w

/-- Step `t` lies in the second half of its block of `2 * m`. -/
def later (m t : ℕ) : Prop := m ≤ t % (2 * m)

/-- Steps `t` and `s` lie in one block of `2 * m`. -/
def together (m t s : ℕ) : Prop := t / (2 * m) = s / (2 * m)

/-- Step `s` lies between step `t` and the middle of `t`'s block of `2 * m`. -/
def toMiddle (m t s : ℕ) : Prop :=
  if m ≤ t % (2 * m) then t / (2 * m) * (2 * m) + m ≤ s ∧ s ≤ t else t < s ∧ s < t / (2 * m) * (2 * m) + m

instance (m t : ℕ) : Decidable (later m t) := by unfold later; infer_instance
instance (m t s : ℕ) : Decidable (together m t s) := by unfold together; infer_instance
instance (m t s : ℕ) : Decidable (toMiddle m t s) := by unfold toMiddle; infer_instance

/-- The row's relation `p` summed over the logarithms, and its exponential. -/
def decay (p : ℕ → ℕ → Prop) [∀ t s, Decidable (p t s)] (g : Rows) : Rows := fun t d =>
  Ideal.exp (∑ s : Fin 64, if p t s then g s d else 0)

/-- One halving's weights. -/
def half (m : ℕ) (q k E : Rows) (t s : Fin 64) : EReal :=
  if together m t s then ∑ d, (if later m t then q t d * E t d else 0) * (if later m s then 0 else k s d * E s d) else 0

/-- The weights, halving by halving. -/
def halves (q k g : Rows) (t s : Fin 64) : EReal :=
  (if t = s then ∑ d, q t d * k s d else 0) + half 32 q k (decay (toMiddle 32) g) t s + half 16 q k (decay (toMiddle 16) g) t s
    + half 8 q k (decay (toMiddle 8) g) t s + half 4 q k (decay (toMiddle 4) g) t s + half 2 q k (decay (toMiddle 2) g) t s
    + half 1 q k (decay (toMiddle 1) g) t s

theorem coe_sum {ι : Type} (s : Finset ι) (f : ι → ℝ) : ((∑ i ∈ s, f i : ℝ) : EReal) = ∑ i ∈ s, (f i : EReal) :=
  map_sum (⟨⟨fun y : ℝ => (y : EReal), rfl⟩, EReal.coe_add⟩ : ℝ →+ EReal) f s

/-- A sum of real numbers over the steps a condition selects. -/
theorem coe_sel (p : Fin 64 → Prop) [∀ s, Decidable (p s)] (g : Rows) (γ : Fin 64 → Fin 128 → ℝ) (hg : ∀ s d, g s d = γ s d) (d : Fin 128) :
    (∑ s : Fin 64, if p s then g s d else 0) = ((∑ s : Fin 64, if p s then γ s d else 0 : ℝ) : EReal) := by
  rw [coe_sum]
  refine Finset.sum_congr rfl fun s _ => ?_
  split_ifs
  · exact hg s d
  · rfl

section

variable (q k v g : Rows) (hg : ∀ s d, ∃ r : ℝ, g s d = r)

include hg

/-- Where two steps lie in the two halves of one block, the halving gives the plain weight; elsewhere it gives zero. -/
theorem half_eq (m : ℕ) (hm : m = 32 ∨ m = 16 ∨ m = 8 ∨ m = 4 ∨ m = 2 ∨ m = 1) (t s : Fin 64) :
    half m q k (decay (toMiddle m) g) t s = if together m t s ∧ later m t ∧ ¬ later m s then weight q k g t s else 0 := by
  choose γ hγ using hg
  unfold half
  by_cases h1 : together m t s
  · by_cases h2 : later m t
    · by_cases h3 : later m s
      · rw [if_pos h1, if_neg (fun h => h.2.2 h3)]
        refine Finset.sum_eq_zero fun d _ => ?_
        rw [if_pos h3, mul_zero]
      · rw [if_pos h1, if_pos ⟨h1, h2, h3⟩]
        refine Finset.sum_congr rfl fun d _ => ?_
        have hst : s ≤ t := by
          unfold together at h1; unfold later at h2 h3
          rcases hm with rfl | rfl | rfl | rfl | rfl | rfl <;> (refine Fin.le_def.2 ?_; omega)
        rw [if_pos h2, if_neg h3, if_pos hst]
        unfold decay upTo
        rw [coe_sel _ g γ hγ, coe_sel _ g γ hγ, coe_sel _ g γ hγ, coe_sel _ g γ hγ, ← EReal.coe_sub, Ideal.exp_coe, Ideal.exp_coe, Ideal.exp_coe,
          mul_mul_mul_comm, ← EReal.coe_mul, ← Real.exp_add]
        have key : (∑ u : Fin 64, if toMiddle m t u then γ u d else 0) + (∑ u : Fin 64, if toMiddle m s u then γ u d else 0)
            = (∑ u : Fin 64, if u ≤ t then γ u d else 0) - ∑ u : Fin 64, if u ≤ s then γ u d else 0 := by
          rw [← Finset.sum_add_distrib, ← Finset.sum_sub_distrib]
          refine Finset.sum_congr rfl fun u _ => ?_
          have hc : (toMiddle m t u ∧ ¬ toMiddle m s u ∧ u ≤ t ∧ ¬ u ≤ s) ∨ (¬ toMiddle m t u ∧ toMiddle m s u ∧ u ≤ t ∧ ¬ u ≤ s)
              ∨ (¬ toMiddle m t u ∧ ¬ toMiddle m s u ∧ ¬ u ≤ t ∧ ¬ u ≤ s) ∨ (¬ toMiddle m t u ∧ ¬ toMiddle m s u ∧ u ≤ t ∧ u ≤ s) := by
            unfold together at h1; unfold later at h2 h3; unfold toMiddle
            simp only [Fin.le_def]
            rcases hm with rfl | rfl | rfl | rfl | rfl | rfl <;> (rw [if_pos h2, if_neg h3]; omega)
          rcases hc with ⟨a, b, c, e⟩ | ⟨a, b, c, e⟩ | ⟨a, b, c, e⟩ | ⟨a, b, c, e⟩
          · rw [if_pos a, if_neg b, if_pos c, if_neg e]; ring
          · rw [if_neg a, if_pos b, if_pos c, if_neg e]; ring
          · rw [if_neg a, if_neg b, if_neg c, if_neg e]; ring
          · rw [if_neg a, if_neg b, if_pos c, if_pos e]; ring
        rw [key, mul_right_comm]
    · rw [if_pos h1, if_neg (fun h => h2 h.2.1)]
      refine Finset.sum_eq_zero fun d _ => ?_
      rw [if_neg h2, zero_mul]
  · rw [if_neg h1, if_neg (fun h => h1 h.1)]

omit hg in
/-- Two different steps are separated by one halving, two equal steps by none. -/
theorem separated : ∀ t s : Fin 64, (([32, 16, 8, 4, 2, 1].filter fun m => decide (together m t s ∧ later m t ∧ ¬ later m s)).length
    = if s < t then 1 else 0) := by decide +kernel

omit hg in
/-- The plain weight of a later step is zero. -/
theorem weight_zero (t s : Fin 64) (h : ¬ s ≤ t) : weight q k g t s = 0 := by
  unfold weight
  refine Finset.sum_eq_zero fun d _ => ?_
  rw [if_neg h, Ideal.exp_bot, mul_zero, zero_mul]

/-- The plain weight of the step itself. -/
theorem weight_self (t : Fin 64) : weight q k g t t = ∑ d, q t d * k t d := by
  choose γ hγ using hg
  unfold weight
  refine Finset.sum_congr rfl fun d _ => ?_
  unfold upTo
  rw [if_pos le_rfl, coe_sel _ g γ hγ, ← EReal.coe_sub, sub_self, Ideal.exp_coe, Real.exp_zero, EReal.coe_one, mul_one]

/-- Both forms of the weights agree. -/
theorem halves_eq (t s : Fin 64) : halves q k g t s = weight q k g t s := by
  have hs := separated t s
  unfold halves
  rw [half_eq q k g hg 32 (by decide), half_eq q k g hg 16 (by decide), half_eq q k g hg 8 (by decide), half_eq q k g hg 4 (by decide),
    half_eq q k g hg 2 (by decide), half_eq q k g hg 1 (by decide)]
  by_cases h : t = s
  · subst h
    rw [if_pos rfl, weight_self q k g hg t, if_neg (fun x => x.2.2 x.2.1), if_neg (fun x => x.2.2 x.2.1), if_neg (fun x => x.2.2 x.2.1),
      if_neg (fun x => x.2.2 x.2.1), if_neg (fun x => x.2.2 x.2.1), if_neg (fun x => x.2.2 x.2.1)]
    simp only [add_zero]
  · rw [if_neg h, zero_add]
    by_cases hlt : s < t
    · rw [if_pos hlt] at hs
      simp only [List.filter_cons, List.filter_nil, decide_eq_true_eq] at hs
      split_ifs at hs ⊢ <;> simp_all
    · rw [weight_zero q k g t s fun x => h (le_antisymm (not_lt.1 hlt) x)]
      simp only [ite_self, add_zero]

/-- The chunk's rows with the weights halving by halving, from the state with its axes exchanged. -/
theorem out_eq (S : Fin 128 → Fin 128 → EReal) (t : Fin 64) (w : Fin 128) :
    (∑ d, q t d * decay (fun t s => s ≤ t) g t d * S d w) + ∑ s, halves q k g t s * v s w = outR q k v g S t w := by
  unfold outR
  simp only [halves_eq q k g hg]
  rfl

/-- The state after the chunk, its products in the other order. -/
theorem next_eq (S : Fin 128 → Fin 128 → EReal) (d w : Fin 128) :
    S d w * decay (fun t s => s ≤ t) g 63 d + ∑ s, v s w * (k s d * decay (fun t s => t < s) g s d) = nextR k v g S d w := by
  choose γ hγ using hg
  unfold nextR
  refine congrArg₂ (· + ·) (mul_comm _ _) (Finset.sum_congr rfl fun s _ => ?_)
  rw [mul_comm]
  refine congrArg (k s d * · * v s w) ?_
  unfold decay upTo
  rw [coe_sel _ g γ hγ, coe_sel _ g γ hγ, coe_sel _ g γ hγ, ← EReal.coe_sub, ← Finset.sum_sub_distrib]
  refine congrArg (fun x : ℝ => Ideal.exp (x : EReal)) (Finset.sum_congr rfl fun u _ => ?_)
  have h63 : u ≤ (63 : Fin 64) := Fin.le_def.2 (by omega)
  by_cases h : u ≤ s
  · rw [if_pos h63, if_pos h, if_neg (by have := Fin.le_def.1 h; omega), sub_self]
  · rw [if_pos h63, if_neg h, if_pos (by have := fun x => h (Fin.le_def.2 x); omega), sub_zero]

end

end Cert.RecIdeal.Proved

end
-- ==== Proof.RecBits.lean ====
module

public import proofs.«01_k».proof.Proof.Gen.RecIdeal.Skeleton
public import proofs.«01_k».proof.Proof.RecMath
public import Idealize.ShloMosaic.Lib.Pointwise

/-! The recurrence's masks and its table of zeros and ones, read entry by entry. -/

@[expose] public section

set_option maxRecDepth 16384

noncomputable section

namespace Cert.RecIdeal.Proved

open Cert.RecIdeal Cert.RecIdeal.Gen Idealize.ShloMosaic Idealize.ShloMosaic.TcCoe Idealize.SL.Sem
open Idealize.ShloMosaic.Pipeline (Dat)

/-- The row and the column of an entry of a square of 64. -/
abbrev rowOf : IVec S64x64 32 := iota .tc S64x64 32 [0] iota_S64x64_d0_w32

abbrev colOf : IVec S64x64 32 := iota .tc S64x64 32 [1] iota_S64x64_d1_w32

/-- The masks of pairs in one block, a mask per halving. -/
abbrev keep32 : IVec S64x64 1 := k0_pay11 rowOf colOf 64#32 k0_pay9 k0_pay10 0#32

abbrev keep16 : IVec S64x64 1 := k0_pay15 rowOf colOf 32#32 (k0_pay12 rowOf) (k0_pay13 rowOf) (k0_pay14 rowOf)

abbrev keep8 : IVec S64x64 1 := k0_pay18 rowOf colOf 16#32 (k0_pay16 rowOf) (k0_pay17 rowOf)

abbrev keep4 : IVec S64x64 1 := k0_pay20 rowOf colOf 8#32 (k0_pay19 rowOf) 0#32

abbrev keep2 : IVec S64x64 1 := k0_pay25 (k0_pay21 rowOf 4#32) (k0_pay22 colOf) (k0_pay23 colOf) (k0_pay24 colOf)

abbrev keep1 : IVec S64x64 1 := k0_pay29 (k0_pay26 rowOf) (k0_pay27 colOf) (k0_pay28 colOf)

theorem keep32_at : ∀ t s : Fin 64, keep32 (ix2 t s) = BitVec.ofBool (decide (together 32 t s)) := by decide +kernel

theorem keep16_at : ∀ t s : Fin 64, keep16 (ix2 t s) = BitVec.ofBool (decide (together 16 t s)) := by decide +kernel

theorem keep8_at : ∀ t s : Fin 64, keep8 (ix2 t s) = BitVec.ofBool (decide (together 8 t s)) := by decide +kernel

theorem keep4_at : ∀ t s : Fin 64, keep4 (ix2 t s) = BitVec.ofBool (decide (together 4 t s)) := by decide +kernel

theorem keep2_at : ∀ t s : Fin 64, keep2 (ix2 t s) = BitVec.ofBool (decide (together 2 t s)) := by decide +kernel

theorem keep1_at : ∀ t s : Fin 64, keep1 (ix2 t s) = BitVec.ofBool (decide (together 1 t s)) := by decide +kernel

theorem same_at : ∀ t s : Fin 64, k0_pay30 rowOf colOf (ix2 t s) = BitVec.ofBool (decide (t = s)) := by decide +kernel

/-- The masks of rows in the second half of their block. -/
theorem later32_at : ∀ (t : Fin 64) (d : Fin 128), k0_pay3 (ix2 t d) = BitVec.ofBool (decide (later 32 t)) := by decide +kernel

theorem later16_at : ∀ (t : Fin 64) (d : Fin 128), k0_pay4 (ix2 t d) = BitVec.ofBool (decide (later 16 t)) := by decide +kernel

theorem later8_at : ∀ (t : Fin 64) (d : Fin 128), k0_pay5 (ix2 t d) = BitVec.ofBool (decide (later 8 t)) := by decide +kernel

theorem later4_at : ∀ (t : Fin 64) (d : Fin 128), k0_pay6 (ix2 t d) = BitVec.ofBool (decide (later 4 t)) := by decide +kernel

theorem later2_at : ∀ (t : Fin 64) (d : Fin 128), k0_pay7 (ix2 t d) = BitVec.ofBool (decide (later 2 t)) := by decide +kernel

theorem later1_at : ∀ (t : Fin 64) (d : Fin 128), k0_pay8 (ix2 t d) = BitVec.ofBool (decide (later 1 t)) := by decide +kernel

/-- The table's parts of 64 rows: a one where the part's relation holds. -/
abbrev one? (p : Prop) [Decidable p] : BitVec 16 := if p then 0x3F80#16 else 0#16

theorem table0 : ∀ t s : Fin 64, lit0 ⟨64 * (0 + t.val) + s.val, by omega⟩ = one? (s ≤ t) := by decide +kernel

theorem table1 : ∀ t s : Fin 64, lit0 ⟨64 * (64 + t.val) + s.val, by omega⟩ = one? (t < s) := by decide +kernel

theorem table2 : ∀ t s : Fin 64, lit0 ⟨64 * (128 + t.val) + s.val, by omega⟩ = one? (toMiddle 32 t s) := by decide +kernel

theorem table3 : ∀ t s : Fin 64, lit0 ⟨64 * (192 + t.val) + s.val, by omega⟩ = one? (toMiddle 16 t s) := by decide +kernel

theorem table4 : ∀ t s : Fin 64, lit0 ⟨64 * (256 + t.val) + s.val, by omega⟩ = one? (toMiddle 8 t s) := by decide +kernel

theorem table5 : ∀ t s : Fin 64, lit0 ⟨64 * (320 + t.val) + s.val, by omega⟩ = one? (toMiddle 4 t s) := by decide +kernel

theorem table6 : ∀ t s : Fin 64, lit0 ⟨64 * (384 + t.val) + s.val, by omega⟩ = one? (toMiddle 2 t s) := by decide +kernel

theorem table7 : ∀ t s : Fin 64, lit0 ⟨64 * (448 + t.val) + s.val, by omega⟩ = one? (toMiddle 1 t s) := by decide +kernel

end Cert.RecIdeal.Proved

end
-- ==== Proof.RecChunk.lean ====
module

public import proofs.«01_k».proof.Proof.RecBits
public import Idealize.ShloMosaic.Lib.Pointwise

/-! One chunk of the recurrence as the kernel computes it, over arrays cut from the call's blocks, and why it is the
    plain form. -/

@[expose] public section

set_option maxRecDepth 16384

noncomputable section

namespace Cert.RecIdeal.Proved

open Cert.RecIdeal Cert.RecIdeal.Gen Idealize.ShloMosaic Idealize.ShloMosaic.TcCoe Idealize.SL.Sem
open Idealize.ShloMosaic.Pipeline (Dat)

/-- The exponentials of the table's rows applied to the logarithms. -/
abbrev decs (M : FVec Ideal S512x64 .bf16) (g : FVec Ideal S64x128 .f32) : FVec Ideal S512x128 .f32 := k0_pay31 M g

/-- One halving's weights. -/
abbrev halfs (b : IVec S64x128 1) (p : IVec S64x64 1) (d : FVec Ideal S64x128 .f32) (q k : FVec Ideal S64x128 .bf16) : FVec Ideal S64x64 .f32 :=
  select p (matmul dot_S64x128_S64x128_S64x64_1_1_0_0_n_n none
      (truncf .bf16 (select b (mulf (extf .f32 q bitsLt_bf16_f32) d) (broadcast S64x128 (Scalar.ofBits .f32 0x00000000#32))) bitsLt_bf16_f32)
      (truncf .bf16 (select b (broadcast S64x128 (Scalar.ofBits .f32 0x00000000#32)) (mulf (extf .f32 k bitsLt_bf16_f32) d)) bitsLt_bf16_f32)
      (constant S64x64 .f32 0x00000000#32))
    (broadcast S64x64 (Scalar.ofBits .f32 0x00000000#32))

/-- The weights within the chunk. -/
abbrev weights (D : FVec Ideal S512x128 .f32) (q k : FVec Ideal S64x128 .bf16) : FVec Ideal S64x64 .f32 :=
  addf (addf (addf (addf (addf (addf (k0_pay34 rowOf colOf q k)
    (halfs k0_pay3 keep32 (extractStridedSlice S64x128 ![128, 0] D slices_S512x128_o128_0_S64x128) q k))
    (halfs k0_pay4 keep16 (extractStridedSlice S64x128 ![192, 0] D slices_S512x128_o192_0_S64x128) q k))
    (halfs k0_pay5 keep8 (extractStridedSlice S64x128 ![256, 0] D slices_S512x128_o256_0_S64x128) q k))
    (halfs k0_pay6 keep4 (extractStridedSlice S64x128 ![320, 0] D slices_S512x128_o320_0_S64x128) q k))
    (halfs k0_pay7 keep2 (extractStridedSlice S64x128 ![384, 0] D slices_S512x128_o384_0_S64x128) q k))
    (halfs k0_pay8 keep1 (extractStridedSlice S64x128 ![448, 0] D slices_S512x128_o448_0_S64x128) q k)

/-- The chunk's rows before the normalisation. -/
abbrev raw (D : FVec Ideal S512x128 .f32) (W : FVec Ideal S64x64 .f32) (q v : FVec Ideal S64x128 .bf16) (S : FVec Ideal S128x128 .f32) :
    FVec Ideal S64x128 .f32 :=
  addf (matmul dot_S64x128_S128x128_S64x128_1_1_0_0_n_n none
      (truncf .bf16 (mulf (extf .f32 q bitsLt_bf16_f32) (extractStridedSlice S64x128 ![0, 0] D slices_S512x128_o0_0_S64x128)) bitsLt_bf16_f32)
      (truncf .bf16 S bitsLt_bf16_f32) (constant S64x128 .f32 0x00000000#32))
    (matmul dot_S64x64_S64x128_S64x128_1_0_0_1_n_n none (truncf .bf16 W bitsLt_bf16_f32) v (constant S64x128 .f32 0x00000000#32))

/-- The chunk's rows after the normalisation, the gain and the gate. -/
abbrev rows (o : FVec Ideal S64x128 .f32) (gain : FVec Ideal S1x128 .f32) (gate : FVec Ideal S64x128 .bf16) : FVec Ideal S64x128 .bf16 :=
  truncf .bf16 (mulf (mulf (mulf o (broadcastTo S64x128 (rsqrt (addf (divf (shapeCast S64x1 (multiReduction .add [1] S64 (mulf o o) 0x00000000#32
      reduces_S64x128_S64 (.inl rfl) rfl) shapeCasts_S64_S64x1) (broadcast S64x1 (Scalar.ofBits .f32 0x43000000#32)))
      (broadcast S64x1 (Scalar.ofBits .f32 0x358637BD#32)))) broadcasts_S64x1_S64x128))
    (broadcastTo S64x128 gain broadcasts_S1x128_S64x128)) (extf .f32 gate bitsLt_bf16_f32)) bitsLt_bf16_f32

/-- The state after the chunk. -/
abbrev next (D : FVec Ideal S512x128 .f32) (k v : FVec Ideal S64x128 .bf16) (S : FVec Ideal S128x128 .f32) : FVec Ideal S128x128 .f32 :=
  k0_pay41 S v D (extf .f32 k bitsLt_bf16_f32)

theorem sel_ofBool (p : Prop) [Decidable p] (a b : EReal) : Scalar.select (BitVec.ofBool (decide p)) a b = if p then a else b := by
  by_cases h : p
  · rw [decide_eq_true h, if_pos h]; rfl
  · rw [decide_eq_false h, if_neg h]; rfl

/-- The table's entries as numbers. -/
structure Table (M : FVec Ideal S512x64 .bf16) : Prop where
  at0 : ∀ t s : Fin 64, M (ix2 ⟨0 + t.val, by omega⟩ s) = if s ≤ t then (1 : EReal) else 0
  at1 : ∀ t s : Fin 64, M (ix2 ⟨64 + t.val, by omega⟩ s) = if t < s then (1 : EReal) else 0
  at2 : ∀ t s : Fin 64, M (ix2 ⟨128 + t.val, by omega⟩ s) = if toMiddle 32 t s then (1 : EReal) else 0
  at3 : ∀ t s : Fin 64, M (ix2 ⟨192 + t.val, by omega⟩ s) = if toMiddle 16 t s then (1 : EReal) else 0
  at4 : ∀ t s : Fin 64, M (ix2 ⟨256 + t.val, by omega⟩ s) = if toMiddle 8 t s then (1 : EReal) else 0
  at5 : ∀ t s : Fin 64, M (ix2 ⟨320 + t.val, by omega⟩ s) = if toMiddle 4 t s then (1 : EReal) else 0
  at6 : ∀ t s : Fin 64, M (ix2 ⟨384 + t.val, by omega⟩ s) = if toMiddle 2 t s then (1 : EReal) else 0
  at7 : ∀ t s : Fin 64, M (ix2 ⟨448 + t.val, by omega⟩ s) = if toMiddle 1 t s then (1 : EReal) else 0

/-- An array's rows as a function. -/
abbrev fn (x : S64x128.Idx → EReal) : Rows := fun t d => x (ix2 t d)

theorem decs_at (M : FVec Ideal S512x64 .bf16) (g : FVec Ideal S64x128 .f32) (r : Fin 512) (d : Fin 128) :
    decs M g (ix2 r d) = Ideal.exp ((∑ s : Fin 64, M (ix2 r s) * g (ix2 s d)) + ∑ s : Fin 64, M (ix2 r s) * (g (ix2 s d) - g (ix2 s d))) := by
  have e : d.val < 128 := d.isLt
  pointwise [k0_pay31]

theorem halfs_at (m : ℕ) (b : IVec S64x128 1) (p : IVec S64x64 1) (d : FVec Ideal S64x128 .f32) (q k : FVec Ideal S64x128 .bf16)
    (hb : ∀ (t : Fin 64) (d : Fin 128), b (ix2 t d) = BitVec.ofBool (decide (later m t)))
    (hp : ∀ t s : Fin 64, p (ix2 t s) = BitVec.ofBool (decide (together m t s))) (t s : Fin 64) :
    halfs b p d q k (ix2 t s) = half m (fn q) (fn k) (fn d) t s := by
  unfold half
  have hz : Ideal.ofBits .f32 0x00000000#32 = 0 := by simp [Ideal.ofBits, Ideal.ieee]
  pointwise
  simp only [hb, hp, sel_ofBool, hz]
  refine if_congr Iff.rfl (Finset.sum_congr rfl fun x _ => ?_) rfl
  by_cases h1 : later m t <;> by_cases h2 : later m s <;> simp only [h1, h2, if_true, if_false, mul_zero, zero_mul]

theorem raw_at (D : FVec Ideal S512x128 .f32) (W : FVec Ideal S64x64 .f32) (q v : FVec Ideal S64x128 .bf16) (S : FVec Ideal S128x128 .f32)
    (t : Fin 64) (w : Fin 128) :
    raw D W q v S (ix2 t w) = (∑ d : Fin 128, q (ix2 t d) * D (ix2 ⟨0 + t.val, by omega⟩ d) * S (ix2 w d)) + ∑ s : Fin 64, W (ix2 t s) * v (ix2 s w) := by
  pointwise

theorem next_at (D : FVec Ideal S512x128 .f32) (k v : FVec Ideal S64x128 .bf16) (S : FVec Ideal S128x128 .f32) (w d : Fin 128) :
    next D k v S (ix2 w d) = S (ix2 w d) * D (ix2 63 d) + ∑ s : Fin 64, v (ix2 s w) * (k (ix2 s d) * D (ix2 ⟨64 + s.val, by omega⟩ d)) := by
  pointwise [k0_pay41]

theorem same_sum (q k : FVec Ideal S64x128 .bf16) (t s : Fin 64) :
    (k0_pay34 (F := Ideal) rowOf colOf q k (ix2 t s) : EReal) = if t = s then ∑ d : Fin 128, fn q t d * fn k s d else 0 := by
  have hz : Ideal.ofBits .f32 0x00000000#32 = 0 := by simp [Ideal.ofBits, Ideal.ieee]
  pointwise [k0_pay34]
  rw [same_at, sel_ofBool]

section

variable (M : FVec Ideal S512x64 .bf16) (hM : Table M) (gain : FVec Ideal S1x128 .f32)
variable (q k v gate : FVec Ideal S64x128 .bf16) (g : FVec Ideal S64x128 .f32) (hg : ∀ s d, ∃ r : ℝ, fn g s d = r) (S : FVec Ideal S128x128 .f32)

include hg in
/-- A row of the exponentials whose entries in the table are one where a relation holds. -/
theorem decs_eq (p : ℕ → ℕ → Prop) [∀ t s, Decidable (p t s)] (r : Fin 512) (t : Fin 64)
    (h : ∀ s : Fin 64, M (ix2 r s) = if p t s then (1 : EReal) else 0) (d : Fin 128) : decs M g (ix2 r d) = decay p (fn g) t d := by
  rw [decs_at]
  unfold decay
  refine congrArg Ideal.exp ?_
  refine (congrArg₂ (· + ·) (Finset.sum_congr rfl fun s _ => ?_) (Finset.sum_eq_zero fun s _ => ?_)).trans (add_zero _)
  · rw [h s]
    split_ifs
    · exact one_mul _
    · exact zero_mul _
  · obtain ⟨x, hx⟩ := hg s d
    have e : g (ix2 s d) - g (ix2 s d) = (0 : EReal) := by
      rw [show (g (ix2 s d) : EReal) = x from hx, ← EReal.coe_sub, sub_self]; rfl
    exact (congrArg _ e).trans (mul_zero _)

include hM hg

/-- The weights within the chunk are the plain ones. -/
theorem weights_at (t s : Fin 64) : weights (decs M g) q k (ix2 t s) = weight (fn q) (fn k) (fn g) t s := by
  refine Eq.trans ?_ (halves_eq (fn q) (fn k) (fn g) hg t s)
  have E : ∀ (o : ℕ) (ho : o + 64 ≤ 512) (hs : S512x128.Slices ![o, 0] S64x128) (p : ℕ → ℕ → Prop) [∀ t s, Decidable (p t s)],
      (∀ t s : Fin 64, M (ix2 ⟨o + t.val, by omega⟩ s) = if p t s then (1 : EReal) else 0) →
      fn (extractStridedSlice S64x128 ![o, 0] (decs M g) hs) = decay p (fn g) := fun o ho hs p _ h => by
    funext t d
    refine Eq.trans ?_ (decs_eq M g hg p ⟨o + t.val, by omega⟩ t (h t) d)
    refine congrArg (decs M g) (funext fun a => Fin.ext ?_)
    match a with
    | ⟨0, _⟩ => rfl
    | ⟨1, _⟩ => exact Nat.zero_add _
  have A := fun (a b : EReal) (x y : EReal) (h : a = x) (h' : b = y) => congrArg₂ (· + ·) h h'
  unfold halves
  refine A _ _ _ _ (A _ _ _ _ (A _ _ _ _ (A _ _ _ _ (A _ _ _ _ (A _ _ _ _ (same_sum q k t s) ?_) ?_) ?_) ?_) ?_) ?_
  · rw [halfs_at 32 _ _ _ q k later32_at keep32_at, E 128 (by omega) _ (toMiddle 32) hM.at2]
  · rw [halfs_at 16 _ _ _ q k later16_at keep16_at, E 192 (by omega) _ (toMiddle 16) hM.at3]
  · rw [halfs_at 8 _ _ _ q k later8_at keep8_at, E 256 (by omega) _ (toMiddle 8) hM.at4]
  · rw [halfs_at 4 _ _ _ q k later4_at keep4_at, E 320 (by omega) _ (toMiddle 4) hM.at5]
  · rw [halfs_at 2 _ _ _ q k later2_at keep2_at, E 384 (by omega) _ (toMiddle 2) hM.at6]
  · rw [halfs_at 1 _ _ _ q k later1_at keep1_at, E 448 (by omega) _ (toMiddle 1) hM.at7]

/-- The rows before the normalisation are the plain ones. -/
theorem raw_eq (t : Fin 64) (w : Fin 128) :
    raw (decs M g) (weights (decs M g) q k) q v S (ix2 t w) = outR (fn q) (fn k) (fn v) (fn g) (fun d w => S (ix2 w d)) t w := by
  rw [raw_at]
  unfold outR
  refine congrArg₂ (· + ·) (Finset.sum_congr rfl fun d _ => ?_) (Finset.sum_congr rfl fun s _ => ?_)
  · rw [decs_eq M g hg (fun t s => s ≤ t) ⟨0 + t.val, by omega⟩ t (hM.at0 t) d]
    rfl
  · rw [weights_at M hM q k g hg]

/-- The state after the chunk is the plain one. -/
theorem next_at_eq (w d : Fin 128) :
    next (decs M g) k v S (ix2 w d) = nextR (fn k) (fn v) (fn g) (fun d w => S (ix2 w d)) d w := by
  rw [next_at]
  refine Eq.trans ?_ (next_eq (fn k) (fn v) (fn g) hg (fun d w => S (ix2 w d)) d w)
  refine congrArg₂ (· + ·) ?_ (Finset.sum_congr rfl fun s _ => ?_)
  · rw [show (ix2 (n0 := 512) (n1 := 128) 63 d) = ix2 ⟨0 + (63 : Fin 64).val, by decide⟩ d from rfl,
      decs_eq M g hg (fun t s => s ≤ t) ⟨0 + (63 : Fin 64).val, by decide⟩ 63 (hM.at0 63) d]
  · rw [decs_eq M g hg (fun t s => t < s) ⟨64 + s.val, by omega⟩ s (hM.at1 s) d]

end

/-- The rows after the normalisation, the gain and the gate. -/
theorem rows_at (o : FVec Ideal S64x128 .f32) (gain : FVec Ideal S1x128 .f32) (gate : FVec Ideal S64x128 .bf16) (t : Fin 64) (w : Fin 128) :
    rows o gain gate (ix2 t w) = o (ix2 t w) * Ideal.rsqrt (Ideal.div (∑ d : Fin 128, o (ix2 t d) * o (ix2 t d)) (Ideal.ofBits .f32 0x43000000#32)
      + Ideal.ofBits .f32 0x358637BD#32) * gain (ix2 0 w) * gate (ix2 t w) := by
  pointwise

end Cert.RecIdeal.Proved

end
-- ==== Proof.RecStep.lean ====
module

public import proofs.«01_k».proof.Defs
public import proofs.«01_k».proof.Proof.Gen.RecRefIdeal
public import Idealize.ShloMosaic.Lib.Pointwise
public import Idealize.ShloMosaic.Lib.KernelVsHost
public import proofs.«01_k».proof.Proof.RecMath

/-! What one turn of the reference's loop holds at an index, over plain arrays. -/

@[expose] public section

set_option maxRecDepth 16384

noncomputable section

namespace Cert.RecRefIdeal.Proved

open Cert.RecRefIdeal Cert.RecRefIdeal.Gen Idealize.ShloMosaic Idealize.ShloMosaic.TcCoe

/-- The loop's counter. -/
abbrev Ctr := (⟨S_, .i32⟩ : BufTy).Contents (Elt Ideal)

/-- The chunk the counter names, of an array of chunks. -/
abbrev cut (x : FVec Ideal S256x8x64x128 .f32) (n : Ctr) : FVec Ideal S8x64x128 .f32 :=
  shapeCast S8x64x128 (Host.dynamicSlice S1x8x64x128 x (fun k => (((![n, constantI S_ 32 0#32, constantI S_ 32 0#32, constantI S_ 32 0#32] : Fin 4 → Ctr)) k (Shape.Idx.first h_S_)).toInt) sliceFits_S256x8x64x128_S1x8x64x128) shapeCasts_S1x8x64x128_S8x64x128

/-- The array of chunks with the chunk the counter names replaced. -/
abbrev put (x : FVec Ideal S256x8x64x128 .f32) (u : FVec Ideal S8x64x128 .f32) (n : Ctr) : FVec Ideal S256x8x64x128 .f32 :=
  Host.dynamicUpdateSlice x (broadcastInDim S1x8x64x128 ![1, 2, 3] bcast_S8x64x128_S1x8x64x128_1_2_3 u) (fun k => (((![n, constantI S_ 32 0#32, constantI S_ 32 0#32, constantI S_ 32 0#32] : Fin 4 → Ctr)) k (Shape.Idx.first h_S_)).toInt) updateFits_S256x8x64x128_S1x8x64x128

/-- Which rows are no later than which. -/
abbrev tri : IVec S1x64x64x1 1 :=
  broadcastInDim S1x64x64x1 ![1, 2] bcast_S64x64_S1x64x64x1_1_2 (cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))

/-- The running sums of a chunk's logarithms of decays. -/
abbrev sums (g : FVec Ideal S8x64x128 .f32) : FVec Ideal S8x64x128 .f32 :=
  Host.reduceAdd (select (broadcastInDim S8x64x64x128 ![0, 1, 2, 3] bcast_S1x64x64x1_S8x64x64x128_0_1_2_3 tri) (broadcastInDim S8x64x64x128 ![0, 1, 2, 3] bcast_S8x1x64x128_S8x64x64x128_0_1_2_3 (broadcastInDim S8x1x64x128 ![0, 2, 3] bcast_S8x64x128_S8x1x64x128_0_2_3 g)) (broadcastInDim S8x64x64x128 ![] bcast_S_S8x64x64x128 (id (constant S_ .f32 0x00000000#32)))) (constant S_ .f32 0x00000000#32) reducesTo_S8x64x64x128_S8x64x128_d2 h_S_

/-- The last of the running sums. -/
abbrev last (b : FVec Ideal S8x64x128 .f32) : FVec Ideal S8x128 .f32 :=
  shapeCast S8x128 (extractStridedSlice S8x1x128 ![0, 63, 0] b slices_S8x64x128_S8x1x128_0_63_0) shapeCasts_S8x1x128_S8x128

/-- The state after a chunk. -/
abbrev newS (k v b : FVec Ideal S8x64x128 .f32) (l : FVec Ideal S8x128 .f32) (S : FVec Ideal S8x128x128 .f32) : FVec Ideal S8x128x128 .f32 :=
  addf (mulf (broadcastInDim S8x128x128 ![0, 1, 2] bcast_S8x128x1_S8x128x128_0_1_2 (broadcastInDim S8x128x1 ![0, 1] bcast_S8x128_S8x128x1_0_1 (Host.exp l))) S) (Host.dotGeneral dot_S8x64x128_S8x64x128_S8x128x128_1_1_2_2_0_0 none (mulf k (Host.exp (subf (broadcastInDim S8x64x128 ![0, 1, 2] bcast_S8x1x128_S8x64x128_0_1_2 (broadcastInDim S8x1x128 ![0, 2] bcast_S8x128_S8x1x128_0_2 l)) b))) v)

/-- The weights of a chunk's rows on one another. -/
abbrev wts (q k b : FVec Ideal S8x64x128 .f32) : FVec Ideal S8x64x64 .f32 :=
  Host.reduceAdd (mulf (mulf (broadcastInDim S8x64x64x128 ![0, 1, 2, 3] bcast_S8x64x1x128_S8x64x64x128_0_1_2_3 (broadcastInDim S8x64x1x128 ![0, 1, 3] bcast_S8x64x128_S8x64x1x128_0_1_3 q)) (Host.exp (select (broadcastInDim S8x64x64x128 ![0, 1, 2, 3] bcast_S1x64x64x1_S8x64x64x128_0_1_2_3 tri) (subf (broadcastInDim S8x64x64x128 ![0, 1, 2, 3] bcast_S8x64x1x128_S8x64x64x128_0_1_2_3 (broadcastInDim S8x64x1x128 ![0, 1, 3] bcast_S8x64x128_S8x64x1x128_0_1_3 b)) (broadcastInDim S8x64x64x128 ![0, 1, 2, 3] bcast_S8x1x64x128_S8x64x64x128_0_1_2_3 (broadcastInDim S8x1x64x128 ![0, 2, 3] bcast_S8x64x128_S8x1x64x128_0_2_3 b))) (broadcastInDim S8x64x64x128 ![] bcast_S_S8x64x64x128 (id (constant S_ .f32 0xFF800000#32)))))) (broadcastInDim S8x64x64x128 ![0, 1, 2, 3] bcast_S8x1x64x128_S8x64x64x128_0_1_2_3 (broadcastInDim S8x1x64x128 ![0, 2, 3] bcast_S8x64x128_S8x1x64x128_0_2_3 k))) (constant S_ .f32 0x00000000#32) reducesTo_S8x64x64x128_S8x64x64_d3 h_S_

/-- A chunk's results. -/
abbrev newO (q v b : FVec Ideal S8x64x128 .f32) (W : FVec Ideal S8x64x64 .f32) (S : FVec Ideal S8x128x128 .f32) : FVec Ideal S8x64x128 .f32 :=
  addf (Host.dotGeneral dot_S8x64x128_S8x128x128_S8x64x128_2_1_1_2_0_0 none (mulf q (Host.exp b)) S) (Host.dotGeneral dot_S8x64x64_S8x64x128_S8x64x128_2_1_1_2_0_0 none W v)

/-- The counter's clamped value is the counter's. -/
theorem ctr_clamped : ∀ j : Fin 256, (min (max (BitVec.ofNat 32 j.val).toInt 0) 255).toNat = j.val := by decide +kernel

/-- A row is no later than another, as the words that number the rows compare. -/
theorem sge_at : ∀ t s : Fin 64, IntOp.cmpi .sge (BitVec.ofNat 32 t.val) (BitVec.ofNat 32 s.val) = if s ≤ t then 1#1 else 0#1 := by decide +kernel

/-- Where the chunk the counter names begins. -/
abbrev starts (j : ℕ) : Fin 4 → Int :=
  fun k => (((![fun _ => BitVec.ofNat 32 j, constantI S_ 32 0#32, constantI S_ 32 0#32, constantI S_ 32 0#32] : Fin 4 → Ctr)) k (Shape.Idx.first h_S_)).toInt

theorem start0 (j : Fin 256) (ht) : Host.clampedStart S256x8x64x128 S1x8x64x128 ht (starts j.val) 0 = j.val := ctr_clamped j
theorem start1 (j : ℕ) (ht) : Host.clampedStart S256x8x64x128 S1x8x64x128 ht (starts j) 1 = 0 := rfl
theorem start2 (j : ℕ) (ht) : Host.clampedStart S256x8x64x128 S1x8x64x128 ht (starts j) 2 = 0 := rfl
theorem start3 (j : ℕ) (ht) : Host.clampedStart S256x8x64x128 S1x8x64x128 ht (starts j) 3 = 0 := rfl

theorem cut_at (x : FVec Ideal S256x8x64x128 .f32) (n : Ctr) (j : Fin 256) (hn : n = fun _ => BitVec.ofNat 32 j.val)
    (h : Fin 8) (t : Fin 64) (d : Fin 128) : cut x n (ix3 h t d) = x (ix4 j h t d) := by
  subst hn
  pointwise
  refine congrArg x (funext fun a => Fin.ext ?_)
  match a with
  | ⟨0, _⟩ => exact start0 j rfl
  | ⟨1, _⟩ => exact Nat.zero_add _
  | ⟨2, _⟩ => exact Nat.zero_add _
  | ⟨3, _⟩ => exact Nat.zero_add _

theorem put_at (x : FVec Ideal S256x8x64x128 .f32) (u : FVec Ideal S8x64x128 .f32) (n : Ctr) (j i : Fin 256) (hn : n = fun _ => BitVec.ofNat 32 j.val)
    (h : Fin 8) (t : Fin 64) (d : Fin 128) : put x u n (ix4 i h t d) = if i = j then u (ix3 h t d) else x (ix4 i h t d) := by
  subst hn
  have e0 := start0 j updateFits_S256x8x64x128_S1x8x64x128.1
  have hh := h.isLt
  have ht := t.isLt
  have hd := d.isLt
  pointwise
  by_cases hij : i = j
  · rw [if_pos hij, dif_pos ⟨⟨e0.le.trans (Fin.val_eq_of_eq hij).ge, by
      have := Fin.val_eq_of_eq hij; exact Nat.lt_succ_of_le (this.le.trans e0.ge)⟩, Nat.zero_le _, Nat.zero_le _, Nat.zero_le _⟩]
    rfl
  · rw [if_neg hij, dif_neg]
    rintro ⟨⟨h1, h2⟩, -⟩
    exact hij (Fin.ext (Nat.le_antisymm ((Nat.lt_succ_iff.1 h2).trans e0.le) (e0.ge.trans h1)))

theorem sums_at (g : FVec Ideal S8x64x128 .f32) (h : Fin 8) (t : Fin 64) (d : Fin 128) :
    sums g (ix3 h t d) = ∑ s : Fin 64, if s ≤ t then g (ix3 h s d) else 0 := by
  have hz : Ideal.ofBits .f32 0x00000000#32 = 0 := by simp [Ideal.ofBits, Ideal.ieee]
  pointwise
  refine Finset.sum_congr rfl fun s _ => ?_
  rw [sge_at]
  by_cases hs : s ≤ t
  · rw [if_pos hs, if_pos hs]; rfl
  · rw [if_neg hs, if_neg hs]; exact hz

theorem last_at (b : FVec Ideal S8x64x128 .f32) (h : Fin 8) (d : Fin 128) : last b (ix2 h d) = b (ix3 h 63 d) := by
  pointwise

theorem newS_at (k v b : FVec Ideal S8x64x128 .f32) (l : FVec Ideal S8x128 .f32) (S : FVec Ideal S8x128x128 .f32) (h : Fin 8) (d w : Fin 128) :
    newS k v b l S (ix3 h d w) = Ideal.exp (l (ix2 h d)) * S (ix3 h d w)
      + ∑ s : Fin 64, k (ix3 h s d) * Ideal.exp (l (ix2 h d) - b (ix3 h s d)) * v (ix3 h s w) := by
  pointwise

theorem wts_at (q k b : FVec Ideal S8x64x128 .f32) (h : Fin 8) (t s : Fin 64) :
    wts q k b (ix3 h t s) = ∑ d : Fin 128, q (ix3 h t d) * Ideal.exp (if s ≤ t then b (ix3 h t d) - b (ix3 h s d) else ⊥) * k (ix3 h s d) := by
  have hb : Ideal.ofBits .f32 0xFF800000#32 = ⊥ := by simp [Ideal.ofBits, Ideal.ieee]
  pointwise
  refine Finset.sum_congr rfl fun d _ => ?_
  rw [sge_at]
  by_cases hs : s ≤ t
  · rw [if_pos hs, if_pos hs]; rfl
  · rw [if_neg hs, if_neg hs]
    refine congrArg (fun z => q (ix3 h t d) * Ideal.exp z * k (ix3 h s d)) ?_
    exact hb

theorem newO_at (q v b : FVec Ideal S8x64x128 .f32) (W : FVec Ideal S8x64x64 .f32) (S : FVec Ideal S8x128x128 .f32) (h : Fin 8) (t : Fin 64) (w : Fin 128) :
    newO q v b W S (ix3 h t w) = (∑ d : Fin 128, q (ix3 h t d) * Ideal.exp (b (ix3 h t d)) * S (ix3 h d w))
      + ∑ s : Fin 64, W (ix3 h t s) * v (ix3 h s w) := by
  pointwise

end Cert.RecRefIdeal.Proved

end
-- ==== Proof.RecRef.lean ====
module

public import proofs.«01_k».proof.Defs
public import proofs.«01_k».proof.Proof.Gen.RecRefIdeal.Run
public import Idealize.ShloMosaic.Lib.Pointwise
public import Idealize.ShloMosaic.Lib.KernelVsHost
public import proofs.«01_k».proof.Proof.RecStep

/-! What the reference of the recurrence ends with: its loop followed chunk by chunk, then the normalisation. -/

@[expose] public section

set_option maxRecDepth 16384

noncomputable section

namespace Cert.RecRefIdeal.Proved

open Cert.RecRefIdeal Cert.RecRefIdeal.Gen Cert.RecRefIdeal.Value Idealize.ShloMosaic Idealize.ShloMosaic.TcCoe Idealize.SL.Sem
open Idealize.ShloMosaic.StableHlo

open Cert.RecIdeal.Proved (Rows outR nextR upTo weight)

/-- A chunk's rows of a head's columns, the head's columns beginning at `o + 128 * h`. -/
abbrev rowsOf {n : ℕ} (x : (⟨2, ![16384, n]⟩ : Shape).Idx → EReal) (o : ℕ) (ho : o + 1024 ≤ n) (j : ℕ) (h : Fin 8) : Rows :=
  fun t d => x (ix2 ⟨(64 * j + t.val) % 16384, Nat.mod_lt _ (by decide)⟩ ⟨o + 128 * h.val + d.val, by omega⟩)

section
variable (x0 : S16384x7168.Idx → EReal) (x1 : S16384x1024.Idx → EReal) (x2 : S1x1024.Idx → EReal)

abbrev qs (j : ℕ) (h : Fin 8) : Rows := rowsOf x0 0 (by decide) j h
abbrev ks (j : ℕ) (h : Fin 8) : Rows := rowsOf x0 1024 (by decide) j h
abbrev vs (j : ℕ) (h : Fin 8) : Rows := rowsOf x0 2048 (by decide) j h
abbrev gs (j : ℕ) (h : Fin 8) : Rows := rowsOf x1 0 (by decide) j h

/-- The state before a chunk. -/
def stR (h : Fin 8) : ℕ → Fin 128 → Fin 128 → EReal
  | 0 => fun _ _ => 0
  | j + 1 => nextR (ks x0 j h) (vs x0 j h) (gs x1 j h) (stR h j)

/-- A chunk's results before the normalisation. -/
def oR (j : ℕ) (h : Fin 8) : Rows := outR (qs x0 j h) (ks x0 j h) (vs x0 j h) (gs x1 j h) (stR x0 x1 h j)

/-- The columns' chunks as the loop carries them. -/
abbrev chunks (x : S16384x1024.Idx → EReal) : FVec Ideal S256x8x64x128 .f32 :=
  transpose S256x8x64x128 [0, 2, 1, 3] (shapeCast S256x64x8x128 x shapeCasts_S16384x1024_S256x64x8x128) transposes_S256x64x8x128_S256x8x64x128_0_2_1_3

theorem chunks_at (x : S16384x1024.Idx → EReal) (j : Fin 256) (h : Fin 8) (t : Fin 64) (d : Fin 128) :
    chunks x (ix4 j h t d) = x (ix2 ⟨64 * j.val + t.val, by omega⟩ ⟨128 * h.val + d.val, by omega⟩) := by
  pointwise
  refine congrArg x (funext fun a => Fin.ext ?_)
  match a with
  | ⟨0, _⟩ => show _ = 64 * j.val + t.val; dsimp; omega
  | ⟨1, _⟩ => show _ = 128 * h.val + d.val; dsimp; omega

theorem cols_at (x : S16384x7168.Idx → EReal) (o : ℕ) (ho : o + 1024 ≤ 7168) (hs) (i : Fin 16384) (z : Fin 1024) :
    extractStridedSlice S16384x1024 ![0, o] (extf (F := Ideal) (φ := .bf16) .f32 x bitsLt_bf16_f32) hs (ix2 i z) = x (ix2 i ⟨o + z.val, by omega⟩) := by
  pointwise

/-- The loop's results as rows of heads. -/
abbrev merged (o : FVec Ideal S256x8x64x128 .f32) : FVec Ideal S16384x8x128 .f32 :=
  shapeCast S16384x8x128 (transpose S256x64x8x128 [0, 2, 1, 3] o transposes_S256x8x64x128_S256x64x8x128_0_2_1_3) shapeCasts_S256x64x8x128_S16384x8x128

theorem merged_at (o : FVec Ideal S256x8x64x128 .f32) (j : Fin 256) (h : Fin 8) (t : Fin 64) (w : Fin 128) :
    merged o (ix3 ⟨64 * j.val + t.val, by omega⟩ h w) = o (ix4 j h t w) := by
  pointwise

/-- The end of the reference, over the rows of heads. -/
abbrev post (o' : FVec Ideal S16384x8x128 .f32) (p : FVec Ideal S16384x7168 .f32) (x2 : FVec Ideal S1x1024 .f32) : FVec Ideal S16384x1024 .bf16 :=
  truncf .bf16 (mulf (mulf (shapeCast S16384x1024 (mulf o' (broadcastInDim S16384x8x128 ![0, 1, 2] bcast_S16384x8x1_S16384x8x128_0_1_2
    (Host.rsqrt (addf (Host.divf (broadcastInDim S16384x8x1 ![0, 1] bcast_S16384x8_S16384x8x1_0_1
      (Host.reduceAdd (mulf o' o') (constant S_ .f32 0x00000000#32) reducesTo_S16384x8x128_S16384x8_d2 h_S_))
      (broadcastInDim S16384x8x1 ![] bcast_S_S16384x8x1 (constant S_ .f32 0x43000000#32)))
      (broadcastInDim S16384x8x1 ![] bcast_S_S16384x8x1 (constant S_ .f32 0x358637BD#32)))))) shapeCasts_S16384x8x128_S16384x1024)
    (broadcastInDim S16384x1024 ![0, 1] bcast_S1x1024_S16384x1024_0_1 (broadcastInDim S1x1024 ![1] bcast_S1024_S1x1024_1 (shapeCast S1024 x2 shapeCasts_S1x1024_S1024))))
    (extractStridedSlice S16384x1024 ![0, 3072] p slices_S16384x7168_S16384x1024_0_3072)) bitsLt_bf16_f32

theorem post_at (o : FVec Ideal S16384x8x128 .f32) (p : FVec Ideal S16384x7168 .f32) (x2 : FVec Ideal S1x1024 .f32)
    (i : Fin 16384) (h : Fin 8) (w : Fin 128) :
    post o p x2 (ix2 i ⟨128 * h.val + w.val, by omega⟩)
      = o (ix3 i h w) * Ideal.rsqrt (Ideal.div (∑ d : Fin 128, o (ix3 i h d) * o (ix3 i h d)) (Ideal.ofBits .f32 0x43000000#32)
          + Ideal.ofBits .f32 0x358637BD#32) * x2 (ix2 0 ⟨128 * h.val + w.val, by omega⟩)
        * p (ix2 i ⟨3072 + (128 * h.val + w.val), by omega⟩) := by
  have e2 : (128 * h.val + w.val) / 128 = h.val := by omega
  have e3 : (128 * h.val + w.val) % 128 = w.val := by omega
  pointwise

end

variable (m : (ℓ : Loc nD τ sig) → Buf (Elt Ideal) ℓ) (ρ : Dev nD → PrngReg)

/-- The arguments. -/
abbrev a0 (c : Dev nD) : S16384x7168.Idx → EReal := m ((c.tc : Thread nD τ).loc main_arg0)
abbrev a1 (c : Dev nD) : S16384x1024.Idx → EReal := m ((c.tc : Thread nD τ).loc main_arg1)
abbrev a2 (c : Dev nD) : S1x1024.Idx → EReal := m ((c.tc : Thread nD τ).loc main_arg2)

/-- The columns of the first argument that begin at `o`. -/
abbrev part (c : Dev nD) (o : ℕ) (hs : S16384x7168.Slices ![0, o] S16384x1024) : FVec Ideal S16384x1024 .f32 :=
  extractStridedSlice S16384x1024 ![0, o] (extf (F := Ideal) (φ := .bf16) .f32 (a0 m c) bitsLt_bf16_f32) hs

theorem entry0 (c : Dev nD) : entryContents preI m c (Proc.devRef .tc main_v14_0) = chunks (part m c 0 slices_S16384x7168_S16384x1024_0_0) := by
  simp only [entryContents, afterL_cons, afterL_nil]
  after_reads_simp
  rfl
theorem entry1 (c : Dev nD) : entryContents preI m c (Proc.devRef .tc main_v14_1) = chunks (part m c 1024 slices_S16384x7168_S16384x1024_0_1024) := by
  simp only [entryContents, afterL_cons, afterL_nil]
  after_reads_simp
  rfl
theorem entry2 (c : Dev nD) : entryContents preI m c (Proc.devRef .tc main_v14_2) = chunks (part m c 2048 slices_S16384x7168_S16384x1024_0_2048) := by
  simp only [entryContents, afterL_cons, afterL_nil]
  after_reads_simp
  rfl
theorem entry3 (c : Dev nD) : entryContents preI m c (Proc.devRef .tc main_v14_3) = chunks (a1 m c) := by
  simp only [entryContents, afterL_cons, afterL_nil]
  after_reads_simp
  rfl
theorem entry5 (c : Dev nD) : entryContents preI m c (Proc.devRef .tc main_v14_5) = fun _ => Ideal.ofBits .f32 0x00000000#32 := by
  simp only [entryContents, afterL_cons, afterL_nil]
  after_reads_simp
  rfl
theorem entry6 (c : Dev nD) : entryContents preI m c (Proc.devRef .tc main_v14_6) = fun _ => Ideal.ofBits .f32 0x00000000#32 := by
  simp only [entryContents, afterL_cons, afterL_nil]
  after_reads_simp
  rfl
theorem entry_v0 (c : Dev nD) : entryContents preI m c (Proc.devRef .tc main_v0) = extf (F := Ideal) (φ := .bf16) .f32 (a0 m c) bitsLt_bf16_f32 := by
  simp only [entryContents, afterL_cons, afterL_nil]
  after_reads_simp

/-- Contents after the operations of one turn that a buffer none of them writes keeps. -/
theorem turn_keeps (r : Ref sig .tc) (h : r ∉ condOps_W ++ (while0Ops0_W ++ while0Ops0_1_W ++ while0Ops0_2_W ++ while0Ops0_3_W ++ while0Ops0_4_W
      ++ while0Ops0_5_W ++ while0Ops0_6_W ++ while0Ops0_7_W ++ while0Ops0_8_W ++ while0Ops0_9_W ++ while0Ops0_10_W)) (X : Valuation τ sig (Elt Ideal)) :
    afterL bodyI (after condOps X) (Proc.devRef .tc r) = X (Proc.devRef .tc r) := by
  simp only [List.mem_append, not_or] at h
  obtain ⟨hc, ⟨⟨⟨⟨⟨⟨⟨⟨⟨⟨h0, h1⟩, h2⟩, h3⟩, h4⟩, h5⟩, h6⟩, h7⟩, h8⟩, h9⟩, h10⟩⟩ := h
  simp only [afterL_cons, afterL_nil]
  rw [after_of_writes_sub while0Ops0_10 _ while0Ops0_10_writes h10, after_of_writes_sub while0Ops0_9 _ while0Ops0_9_writes h9,
    after_of_writes_sub while0Ops0_8 _ while0Ops0_8_writes h8, after_of_writes_sub while0Ops0_7 _ while0Ops0_7_writes h7,
    after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

theorem loop_keeps (r : Ref sig .tc) (h : r ∉ condOps_W ++ (while0Ops0_W ++ while0Ops0_1_W ++ while0Ops0_2_W ++ while0Ops0_3_W ++ while0Ops0_4_W
      ++ while0Ops0_5_W ++ while0Ops0_6_W ++ while0Ops0_7_W ++ while0Ops0_8_W ++ while0Ops0_9_W ++ while0Ops0_10_W)) (c : Dev nD) :
    ∀ k, atK m k c (Proc.devRef .tc r) = entryContents preI m c (Proc.devRef .tc r)
  | 0 => rfl
  | k + 1 => (turn_keeps r h (atK m k c)).trans (loop_keeps r h c k)

/-- A chunk's running sums, of the chunk cut from the array of chunks. -/
theorem cut_sums (x1 : S16384x1024.Idx → EReal) (n : Ctr) (j : Fin 256) (hn : n = fun _ => BitVec.ofNat 32 j.val)
    (g : FVec Ideal S256x8x64x128 .f32) (hg : ∀ j h t d, g (ix4 j h t d) = gs x1 j.val h t d) (h : Fin 8) (t : Fin 64) (d : Fin 128) :
    sums (cut g n) (ix3 h t d) = upTo (gs x1 j.val h) t d := by
  rw [sums_at]
  unfold upTo
  refine Finset.sum_congr rfl fun s _ => ?_
  rw [cut_at g n j hn, hg]

section
variable (x0 : S16384x7168.Idx → EReal) (x1 : S16384x1024.Idx → EReal) (n : Ctr) (j : Fin 256) (hn : n = fun _ => BitVec.ofNat 32 j.val)
  (q k v g : FVec Ideal S256x8x64x128 .f32) (hq : ∀ j h t d, q (ix4 j h t d) = qs x0 j.val h t d) (hk : ∀ j h t d, k (ix4 j h t d) = ks x0 j.val h t d)
  (hv : ∀ j h t d, v (ix4 j h t d) = vs x0 j.val h t d) (hg : ∀ j h t d, g (ix4 j h t d) = gs x1 j.val h t d)
  (S : FVec Ideal S8x128x128 .f32) (hS : ∀ h d w, S (ix3 h d w) = stR x0 x1 h j.val d w)
include hn hq hk hv hg hS

theorem turnS (h : Fin 8) (d w : Fin 128) :
    newS (cut k n) (cut v n) (sums (cut g n)) (last (sums (cut g n))) S (ix3 h d w) = stR x0 x1 h (j.val + 1) d w := by
  have l : last (sums (cut g n)) (ix2 h d) = upTo (gs x1 j.val h) 63 d := (last_at _ h d).trans (cut_sums x1 n j hn g hg h 63 d)
  rw [newS_at, l, hS]
  show _ = nextR (ks x0 j.val h) (vs x0 j.val h) (gs x1 j.val h) (stR x0 x1 h j.val) d w
  unfold nextR
  refine congrArg (_ + ·) (Finset.sum_congr rfl fun s _ => ?_)
  rw [cut_at k n j hn, cut_at v n j hn, hk, hv, cut_sums x1 n j hn g hg]

theorem turnO (h : Fin 8) (t : Fin 64) (w : Fin 128) :
    newO (cut q n) (cut v n) (sums (cut g n)) (wts (cut q n) (cut k n) (sums (cut g n))) S (ix3 h t w) = oR x0 x1 j.val h t w := by
  rw [newO_at]
  unfold oR outR
  refine congrArg₂ (· + ·) (Finset.sum_congr rfl fun d _ => ?_) (Finset.sum_congr rfl fun s _ => ?_)
  · rw [cut_at q n j hn, hq, cut_sums x1 n j hn g hg, hS]
  · rw [wts_at, cut_at v n j hn, hv]
    unfold weight
    refine congrArg (· * _) (Finset.sum_congr rfl fun d _ => ?_)
    rw [cut_at q n j hn, cut_at k n j hn, hq, hk, cut_sums x1 n j hn g hg, cut_sums x1 n j hn g hg]

end

theorem step5 (X : Valuation τ sig (Elt Ideal)) : STEP X (Proc.devRef .tc main_v14_5)
    = newS (cut (X (Proc.devRef .tc main_v14_1)) (X (Proc.devRef .tc main_v14_4))) (cut (X (Proc.devRef .tc main_v14_2)) (X (Proc.devRef .tc main_v14_4)))
      (sums (cut (X (Proc.devRef .tc main_v14_3)) (X (Proc.devRef .tc main_v14_4)))) (last (sums (cut (X (Proc.devRef .tc main_v14_3)) (X (Proc.devRef .tc main_v14_4)))))
      (X (Proc.devRef .tc main_v14_5)) := by
  rw [STEP_main_v14_5]
  rfl

theorem step6 (X : Valuation τ sig (Elt Ideal)) : STEP X (Proc.devRef .tc main_v14_6)
    = put (X (Proc.devRef .tc main_v14_6)) (newO (cut (X (Proc.devRef .tc main_v14_0)) (X (Proc.devRef .tc main_v14_4))) (cut (X (Proc.devRef .tc main_v14_2)) (X (Proc.devRef .tc main_v14_4)))
      (sums (cut (X (Proc.devRef .tc main_v14_3)) (X (Proc.devRef .tc main_v14_4))))
      (wts (cut (X (Proc.devRef .tc main_v14_0)) (X (Proc.devRef .tc main_v14_4))) (cut (X (Proc.devRef .tc main_v14_1)) (X (Proc.devRef .tc main_v14_4)))
        (sums (cut (X (Proc.devRef .tc main_v14_3)) (X (Proc.devRef .tc main_v14_4)))))
      (X (Proc.devRef .tc main_v14_5))) (X (Proc.devRef .tc main_v14_4)) := by
  rw [STEP_main_v14_6]
  rfl

/-- What the carried buffers hold after `k` turns. -/
structure Inv (c : Dev nD) (k : ℕ) (X : Valuation τ sig (Elt Ideal)) : Prop where
  q : X (Proc.devRef .tc main_v14_0) = chunks (part m c 0 slices_S16384x7168_S16384x1024_0_0)
  kk : X (Proc.devRef .tc main_v14_1) = chunks (part m c 1024 slices_S16384x7168_S16384x1024_0_1024)
  v : X (Proc.devRef .tc main_v14_2) = chunks (part m c 2048 slices_S16384x7168_S16384x1024_0_2048)
  g : X (Proc.devRef .tc main_v14_3) = chunks (a1 m c)
  n : X (Proc.devRef .tc main_v14_4) = fun _ => BitVec.ofNat 32 k
  S : ∀ h d w, (X (Proc.devRef .tc main_v14_5) : FVec Ideal S8x128x128 .f32) (ix3 h d w) = stR (a0 m c) (a1 m c) h k d w
  o : ∀ (j : Fin 256) h t w, j.val < k → (X (Proc.devRef .tc main_v14_6) : FVec Ideal S256x8x64x128 .f32) (ix4 j h t w) = oR (a0 m c) (a1 m c) j.val h t w

/-- The columns' chunks are the rows' chunks. -/
theorem part_at (c : Dev nD) (o : ℕ) (ho : o + 1024 ≤ 7168) (hs) (j : Fin 256) (h : Fin 8) (t : Fin 64) (d : Fin 128) :
    chunks (part m c o hs) (ix4 j h t d) = rowsOf (a0 m c) o ho j.val h t d := by
  have hd := d.isLt
  have hh := h.isLt
  refine (chunks_at _ j h t d).trans ((cols_at (a0 m c) o ho hs _ _).trans (congrArg (a0 m c) (funext fun a => Fin.ext ?_)))
  match a with
  | ⟨0, _⟩ => show 64 * j.val + t.val = (64 * j.val + t.val) % 16384; omega
  | ⟨1, _⟩ => show o + (128 * h.val + d.val) = o + 128 * h.val + d.val; omega

theorem part1_at (c : Dev nD) (j : Fin 256) (h : Fin 8) (t : Fin 64) (d : Fin 128) : chunks (a1 m c) (ix4 j h t d) = gs (a1 m c) j.val h t d := by
  refine (chunks_at _ j h t d).trans (congrArg (a1 m c) (funext fun a => Fin.ext ?_))
  match a with
  | ⟨0, _⟩ => show 64 * j.val + t.val = (64 * j.val + t.val) % 16384; omega
  | ⟨1, _⟩ => show 128 * h.val + d.val = 0 + 128 * h.val + d.val; omega

theorem inv (c : Dev nD) : ∀ k, k ≤ 256 → Inv m c k (STEP^[k] (entryContents preI m c))
  | 0, _ => ⟨entry0 m c, entry1 m c, entry2 m c, entry3 m c, ctr_entry m c,
      fun h d w => (congrFun (entry5 m c) (ix3 h d w)).trans (by simp [Ideal.ofBits, Ideal.ieee, stR]), fun j _ _ _ hj => absurd hj (Nat.not_lt_zero _)⟩
  | k + 1, hk => by
    have I := inv c k (by omega)
    rw [Function.iterate_succ_apply']
    generalize STEP^[k] (entryContents preI m c) = X at I ⊢
    have hq : ∀ j h t d, (X (Proc.devRef .tc main_v14_0) : FVec Ideal S256x8x64x128 .f32) (ix4 j h t d) = qs (a0 m c) j.val h t d :=
      fun j h t d => (congrFun I.q _).trans (part_at m c 0 (by decide) _ j h t d)
    have hk' : ∀ j h t d, (X (Proc.devRef .tc main_v14_1) : FVec Ideal S256x8x64x128 .f32) (ix4 j h t d) = ks (a0 m c) j.val h t d :=
      fun j h t d => (congrFun I.kk _).trans (part_at m c 1024 (by decide) _ j h t d)
    have hv : ∀ j h t d, (X (Proc.devRef .tc main_v14_2) : FVec Ideal S256x8x64x128 .f32) (ix4 j h t d) = vs (a0 m c) j.val h t d :=
      fun j h t d => (congrFun I.v _).trans (part_at m c 2048 (by decide) _ j h t d)
    have hg : ∀ j h t d, (X (Proc.devRef .tc main_v14_3) : FVec Ideal S256x8x64x128 .f32) (ix4 j h t d) = gs (a1 m c) j.val h t d :=
      fun j h t d => (congrFun I.g _).trans (part1_at m c j h t d)
    refine ⟨(STEP_main_v14_0 X).trans I.q, (STEP_main_v14_1 X).trans I.kk, (STEP_main_v14_2 X).trans I.v, (STEP_main_v14_3 X).trans I.g, ?_, ?_, ?_⟩
    · rw [STEP_main_v14_4]
      unfold step_main_v14_4
      rw [I.n]
      funext i
      show BitVec.ofNat 32 k + 1#32 = BitVec.ofNat 32 (k + 1)
      rw [BitVec.ofNat_add]
    · intro h d w
      rw [step5]
      exact turnS (a0 m c) (a1 m c) _ ⟨k, hk⟩ I.n _ _ _ _ hq hk' hv hg _ I.S h d w
    · intro j h t w hj
      rw [step6, put_at _ _ _ ⟨k, hk⟩ j I.n]
      by_cases e : j = ⟨k, hk⟩
      · rw [if_pos e, turnO (a0 m c) (a1 m c) _ ⟨k, hk⟩ I.n _ _ _ _ hq hk' hv hg _ I.S h t w, e]
      · rw [if_neg e]
        exact I.o j h t w (by have : j.val ≠ k := fun e' => e (Fin.ext e'); omega)

/-- The result: the normalised rows, with the gain and the gate. -/
def G (c : Dev nD) : S16384x1024.Idx → EReal :=
  post (merged ((STEP^[256] (entryContents preI m c)) (Proc.devRef .tc main_v14_6))) (extf (F := Ideal) (φ := .bf16) .f32 (a0 m c) bitsLt_bf16_f32) (a2 m c)

theorem entry_arg2 (c : Dev nD) : entryContents preI m c (Proc.devRef .tc main_arg2) = a2 m c := by
  simp only [entryContents, afterL_cons, afterL_nil]
  after_reads_simp

theorem result_of (X : Valuation τ sig (Elt Ideal)) : after hostOps0_1 X (Proc.devRef .tc main_v34)
    = post (merged (X (Proc.devRef .tc main_v14_6))) (X (Proc.devRef .tc main_v0)) (X (Proc.devRef .tc main_arg2)) := by
  after_results
  rfl

/-- A buffer that neither the operations before the loop nor a turn of it write. -/
theorem keeps (r : Ref sig .tc) (h0 : r ∉ hostOps0_W) (h : r ∉ condOps_W ++ (while0Ops0_W ++ while0Ops0_1_W ++ while0Ops0_2_W ++ while0Ops0_3_W ++ while0Ops0_4_W
      ++ while0Ops0_5_W ++ while0Ops0_6_W ++ while0Ops0_7_W ++ while0Ops0_8_W ++ while0Ops0_9_W ++ while0Ops0_10_W))
    (h1 : ∀ X : Valuation τ sig (Elt Ideal), after hostOps0_1 X (Proc.devRef .tc r) = X (Proc.devRef .tc r)) (c : Dev nD) :
    finalContents condOps preI bodyI postI 256 m c (Proc.devRef .tc r) = launchContents m c (Proc.devRef .tc r) := by
  simp only [finalContents, afterL_cons, afterL_nil]
  rw [h1, after_of_writes_sub condOps _ condOps_writes (fun hm => h (List.mem_append_left _ hm))]
  refine (loop_keeps m r h c 256).trans ?_
  simp only [entryContents, afterL_cons, afterL_nil]
  exact after_of_writes_sub hostOps0 _ hostOps0_writes h0

theorem keeps0 (c : Dev nD) : finalContents condOps preI bodyI postI 256 m c (Proc.devRef .tc main_arg0) = launchContents m c (Proc.devRef .tc main_arg0) :=
  keeps m main_arg0 (by decide +kernel) (by decide +kernel) (fun X => by after_results) c
theorem keeps1 (c : Dev nD) : finalContents condOps preI bodyI postI 256 m c (Proc.devRef .tc main_arg1) = launchContents m c (Proc.devRef .tc main_arg1) :=
  keeps m main_arg1 (by decide +kernel) (by decide +kernel) (fun X => by after_results) c
theorem keeps2 (c : Dev nD) : finalContents condOps preI bodyI postI 256 m c (Proc.devRef .tc main_arg2) = launchContents m c (Proc.devRef .tc main_arg2) :=
  keeps m main_arg2 (by decide +kernel) (by decide +kernel) (fun X => by after_results) c

theorem result (c : Dev nD) : finalContents condOps preI bodyI postI 256 m c (Proc.devRef .tc main_v34) = G m c := by
  have hA := atK_agree m c 256
  have hC := cond_keeps (atK m 256 c)
  simp only [finalContents, afterL_cons, afterL_nil]
  rw [result_of]
  have e1 : after condOps (atK m 256 c) (Proc.devRef .tc main_v14_6) = (STEP^[256] (entryContents preI m c)) (Proc.devRef .tc main_v14_6) :=
    (hC main_v14_6 (by decide)).trans (hA main_v14_6 (by decide))
  have e2 : after condOps (atK m 256 c) (Proc.devRef .tc main_v0) = extf (F := Ideal) (φ := .bf16) .f32 (a0 m c) bitsLt_bf16_f32 :=
    (after_of_writes_sub condOps _ condOps_writes (by decide +kernel)).trans ((loop_keeps m main_v0 (by decide +kernel) c 256).trans (entry_v0 m c))
  have e3 : after condOps (atK m 256 c) (Proc.devRef .tc main_arg2) = a2 m c :=
    (after_of_writes_sub condOps _ condOps_writes (by decide +kernel)).trans ((loop_keeps m main_arg2 (by decide +kernel) c 256).trans (entry_arg2 m c))
  exact congr (congr (congrArg (fun o => post (merged o)) e1) e2) e3

/-- The result at an index. -/
theorem G_at (c : Dev nD) (j : Fin 256) (h : Fin 8) (t : Fin 64) (w : Fin 128) :
    G m c (ix2 ⟨64 * j.val + t.val, by omega⟩ ⟨128 * h.val + w.val, by omega⟩)
      = oR (a0 m c) (a1 m c) j.val h t w * Ideal.rsqrt (Ideal.div (∑ d : Fin 128, oR (a0 m c) (a1 m c) j.val h t d * oR (a0 m c) (a1 m c) j.val h t d)
          (Ideal.ofBits .f32 0x43000000#32) + Ideal.ofBits .f32 0x358637BD#32) * a2 m c (ix2 0 ⟨128 * h.val + w.val, by omega⟩)
        * a0 m c (ix2 ⟨64 * j.val + t.val, by omega⟩ ⟨3072 + (128 * h.val + w.val), by omega⟩) := by
  have I := inv m c 256 (le_refl _)
  have e : ∀ w, merged ((STEP^[256] (entryContents preI m c)) (Proc.devRef .tc main_v14_6)) (ix3 ⟨64 * j.val + t.val, by omega⟩ h w) = oR (a0 m c) (a1 m c) j.val h t w :=
    fun w => (merged_at _ j h t w).trans (I.o j h t w j.isLt)
  unfold G
  rw [post_at, e]
  simp only [e]
  rfl

/-- The reference ends with the result, its arguments as they were. -/
theorem run : θ_run (defs (F := Ideal)) (onTc (τ := τ) (main (F := Ideal))) ⟨m, fun _ => 0, ρ⟩
    (fun r => ∀ c : Dev nD, r.2.mem ((c.tc : Thread nD τ).loc main_v34) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c main_v34 (by decide)).trans (result m c), (h c main_arg0 (by decide)).trans (keeps0 m c),
    (h c main_arg1 (by decide)).trans (keeps1 m c), (h c main_arg2 (by decide)).trans (keeps2 m c)⟩) (run_fold m ρ)

end Cert.RecRefIdeal.Proved

end
-- ==== Proof.RecValue.lean ====
module

public import proofs.«01_k».proof.Defs
public import proofs.«01_k».proof.Proof.Gen.RecIdeal.Value
public import Idealize.ShloMosaic.Lib.Pipeline.ValueKit
public import Idealize.ShloMosaic.Lib.Pointwise
public import Idealize.ShloMosaic.Lib.KernelVsHost
public import Idealize.ShloMosaic.Lib.Pipeline.ReadBack
public import proofs.«01_k».proof.Proof.RecChunk
public import proofs.«01_k».proof.Proof.RecRef

/-! The recurrence: what a point of the kernel's grid stores and carries, in the chunks' plain form, and the claims. -/

@[expose] public section

set_option maxRecDepth 16384

noncomputable section

namespace Cert.RecIdeal.Proved

open Cert.RecIdeal Cert.RecIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A chunk of a block of bfloat16. -/
abbrev cutB (x : Vec Ideal S256x128 .bf16) (o : ℕ) (h : ∀ a, (![o, 0] : Fin 2 → ℕ) a + (![64, 128] : Fin 2 → ℕ) a ≤ S256x128.size a) : FVec Ideal S64x128 .bf16 :=
  View.ld (Val := Elt Ideal) x (Rect.unit ![o, 0] ![64, 128] h)
/-- A chunk of a block of floats. -/
abbrev cutF (x : Vec Ideal S256x128 .f32) (o : ℕ) (h : ∀ a, (![o, 0] : Fin 2 → ℕ) a + (![64, 128] : Fin 2 → ℕ) a ≤ S256x128.size a) : FVec Ideal S64x128 .f32 :=
  View.ld (Val := Elt Ideal) x (Rect.unit ![o, 0] ![64, 128] h)

section
variable (M : FVec Ideal S512x64 .bf16) (q k v gate : Vec Ideal S256x128 .bf16) (g : Vec Ideal S256x128 .f32) (gain : FVec Ideal S1x128 .f32)
  (S : FVec Ideal S128x128 .f32)

/-- The state after the block's first chunks. -/
abbrev s1 := next (decs M (cutF g 0 inb_S256x128_S64x128_0_0)) (cutB k 0 inb_S256x128_S64x128_0_0) (cutB v 0 inb_S256x128_S64x128_0_0) S
abbrev s2 := next (decs M (cutF g 64 inb_S256x128_S64x128_64_0)) (cutB k 64 inb_S256x128_S64x128_64_0) (cutB v 64 inb_S256x128_S64x128_64_0) (s1 M k v g S)
abbrev s3 := next (decs M (cutF g 128 inb_S256x128_S64x128_128_0)) (cutB k 128 inb_S256x128_S64x128_128_0) (cutB v 128 inb_S256x128_S64x128_128_0) (s2 M k v g S)
abbrev s4 := next (decs M (cutF g 192 inb_S256x128_S64x128_192_0)) (cutB k 192 inb_S256x128_S64x128_192_0) (cutB v 192 inb_S256x128_S64x128_192_0) (s3 M k v g S)

/-- A chunk's rows. -/
abbrev piece (o : ℕ) (h : ∀ a, (![o, 0] : Fin 2 → ℕ) a + (![64, 128] : Fin 2 → ℕ) a ≤ S256x128.size a) (T : FVec Ideal S128x128 .f32) : FVec Ideal S64x128 .bf16 :=
  rows (raw (decs M (cutF g o h)) (weights (decs M (cutF g o h)) (cutB q o h) (cutB k o h)) (cutB q o h) (cutB v o h) T) gain (cutB gate o h)
end

theorem pay1_eq (x : FVec Ideal S128x128 .f32) : k0_pay1 x = x := by
  funext i
  obtain ⟨w, d, rfl⟩ : ∃ (w d : Fin 128), i = ix2 w d := ⟨i 0, i 1, eq_ix2 i⟩
  pointwise [k0_pay1]
theorem pay2_eq : (k0_pay2 : FVec Ideal S128x128 .f32) = fun _ => Ideal.ofBits .f32 0x00000000#32 := by
  funext i
  obtain ⟨w, d, rfl⟩ : ∃ (w d : Fin 128), i = ix2 w d := ⟨i 0, i 1, eq_ix2 i⟩
  pointwise [k0_pay2]
theorem ext33 (k : FVec Ideal S64x128 .bf16) : k0_pay33 k = extf .f32 k bitsLt_bf16_f32 := rfl
theorem next0 (T : FVec Ideal S128x128 .f32) (M : FVec Ideal S512x64 .bf16) (v k : FVec Ideal S64x128 .bf16) (g : FVec Ideal S64x128 .f32) :
    k0_pay41 T v (k0_pay31 M g) (k0_pay33 k) = next (decs M g) k v T := rfl
theorem next1 (T : FVec Ideal S128x128 .f32) (M : FVec Ideal S512x64 .bf16) (v k : FVec Ideal S64x128 .bf16) (g : FVec Ideal S64x128 .f32) :
    k0_pay55 T v (k0_pay45 M g) (k0_pay47 k) = next (decs M g) k v T := rfl
theorem next2 (T : FVec Ideal S128x128 .f32) (M : FVec Ideal S512x64 .bf16) (v k : FVec Ideal S64x128 .bf16) (g : FVec Ideal S64x128 .f32) :
    k0_pay67 T v (k0_pay58 M g) (k0_pay60 k) = next (decs M g) k v T := rfl
theorem next3 (T : FVec Ideal S128x128 .f32) (M : FVec Ideal S512x64 .bf16) (v k : FVec Ideal S64x128 .bf16) (g : FVec Ideal S64x128 .f32) :
    k0_pay79 T v (k0_pay69 M g) (k0_pay71 k) = next (decs M g) k v T := rfl

theorem carried_A (c : Dev nD) (t : Fin cfg0.N) (h0 : t.val % 64 = 0) (z : S128x128.Idx) :
    (outsAt0 m c t.val t.isLt).2 z = s4 (iblk m c 0 t) (iblk m c 2 t) (iblk m c 3 t) (iblk m c 4 t) (fun _ => Ideal.ofBits .f32 0x00000000#32) z := by
  rw [outsAt0_A m c t h0]
  frame_out
  rw [pay1_eq, next1, next2, next3, ← pay2_eq]
  rfl

theorem carried_B (c : Dev nD) (t : Fin cfg0.N) (h0 : ¬ t.val % 64 = 0) (z : S128x128.Idx) :
    (outsAt0 m c t.val t.isLt).2 z = s4 (iblk m c 0 t) (iblk m c 2 t) (iblk m c 3 t) (iblk m c 4 t) (outsAt0 m c (t.val - 1) (by omega)).2 z := by
  rw [outsAt0_B m c t h0]
  frame_out
  simp only [read_unread_whole]
  rw [pay1_eq, next1, next2, next3]
  rfl

/-! ### The stored chunks as the program writes them -/
section
variable (M : FVec Ideal S512x64 .bf16) (q k v gate : FVec Ideal S64x128 .bf16) (g : FVec Ideal S64x128 .f32) (gain : FVec Ideal S1x128 .f32)
  (T : FVec Ideal S128x128 .f32)
theorem store3_eq : k0_pay80 k0_pay8 (k0_pay29 (k0_pay26 rowOf) (k0_pay27 colOf) (k0_pay28 colOf)) gain T v (k0_pay69 M g) (k0_pay70 q) (k0_pay71 k) (k0_pay76 k0_pay5 k0_pay6 k0_pay7 (k0_pay15 rowOf colOf (32#32) (k0_pay12 rowOf) (k0_pay13 rowOf) (k0_pay14 rowOf)) (k0_pay18 rowOf colOf (16#32) (k0_pay16 rowOf) (k0_pay17 rowOf)) (k0_pay20 rowOf colOf (8#32) (k0_pay19 rowOf) 0#32) (k0_pay25 (k0_pay21 rowOf 4#32) (k0_pay22 colOf) (k0_pay23 colOf) (k0_pay24 colOf)) (k0_pay69 M g) (k0_pay70 q) (k0_pay71 k) (k0_pay72 k0_pay3 (k0_pay11 rowOf colOf (64#32) k0_pay9 k0_pay10 0#32) (k0_pay30 rowOf colOf) M q k g) (k0_pay74 k0_pay4 M q g) (k0_pay75 k0_pay4 M k g)) (k0_pay77 (k0_pay69 M g)) (k0_pay78 (k0_pay69 M g) (k0_pay70 q)) gate
    = rows (raw (decs M g) (weights (decs M g) q k) q v T) gain gate := rfl
theorem store2_eq : k0_pay68 k0_pay8 (k0_pay25 (k0_pay21 rowOf 4#32) (k0_pay22 colOf) (k0_pay23 colOf) (k0_pay24 colOf)) (k0_pay29 (k0_pay26 rowOf) (k0_pay27 colOf) (k0_pay28 colOf)) gain T v (k0_pay58 M g) (k0_pay59 q) (k0_pay60 k) (k0_pay64 k0_pay4 k0_pay5 k0_pay6 (k0_pay15 rowOf colOf (32#32) (k0_pay12 rowOf) (k0_pay13 rowOf) (k0_pay14 rowOf)) (k0_pay18 rowOf colOf (16#32) (k0_pay16 rowOf) (k0_pay17 rowOf)) (k0_pay20 rowOf colOf (8#32) (k0_pay19 rowOf) 0#32) (k0_pay58 M g) (k0_pay59 q) (k0_pay60 k) (k0_pay61 k0_pay3 (k0_pay11 rowOf colOf (64#32) k0_pay9 k0_pay10 0#32) (k0_pay30 rowOf colOf) M q k g) (k0_pay62 M g) (k0_pay63 k0_pay4 M q g)) (k0_pay65 k0_pay7 (k0_pay58 M g) (k0_pay59 q) (k0_pay60 k)) k0_pay66 gate
    = rows (raw (decs M g) (weights (decs M g) q k) q v T) gain gate := rfl
theorem store1_eq : k0_pay57 (k0_pay56 k0_pay8 (k0_pay25 (k0_pay21 rowOf 4#32) (k0_pay22 colOf) (k0_pay23 colOf) (k0_pay24 colOf)) (k0_pay29 (k0_pay26 rowOf) (k0_pay27 colOf) (k0_pay28 colOf)) gain T v (k0_pay45 M g) (k0_pay46 q) (k0_pay47 k) (k0_pay51 k0_pay4 k0_pay5 k0_pay6 (k0_pay15 rowOf colOf (32#32) (k0_pay12 rowOf) (k0_pay13 rowOf) (k0_pay14 rowOf)) (k0_pay18 rowOf colOf (16#32) (k0_pay16 rowOf) (k0_pay17 rowOf)) (k0_pay20 rowOf colOf (8#32) (k0_pay19 rowOf) 0#32) (k0_pay45 M g) (k0_pay46 q) (k0_pay47 k) (k0_pay48 k0_pay3 (k0_pay11 rowOf colOf (64#32) k0_pay9 k0_pay10 0#32) (k0_pay30 rowOf colOf) M q k g) (k0_pay49 M g) (k0_pay50 M q g)) (k0_pay53 k0_pay7 (k0_pay45 M g) (k0_pay46 q)) (k0_pay54 k0_pay7 (k0_pay45 M g) (k0_pay47 k))) gate
    = rows (raw (decs M g) (weights (decs M g) q k) q v T) gain gate := rfl
theorem store0_eq : k0_pay44 (k0_pay42 k0_pay7 k0_pay8 (k0_pay25 (k0_pay21 rowOf 4#32) (k0_pay22 colOf) (k0_pay23 colOf) (k0_pay24 colOf)) (k0_pay29 (k0_pay26 rowOf) (k0_pay27 colOf) (k0_pay28 colOf)) T v (k0_pay31 M g) (k0_pay32 q) (k0_pay33 k) (k0_pay37 k0_pay4 k0_pay5 k0_pay6 (k0_pay11 rowOf colOf (64#32) k0_pay9 k0_pay10 0#32) (k0_pay15 rowOf colOf (32#32) (k0_pay12 rowOf) (k0_pay13 rowOf) (k0_pay14 rowOf)) (k0_pay18 rowOf colOf (16#32) (k0_pay16 rowOf) (k0_pay17 rowOf)) (k0_pay20 rowOf colOf (8#32) (k0_pay19 rowOf) 0#32) (k0_pay31 M g) (k0_pay32 q) (k0_pay33 k) (k0_pay34 rowOf colOf q k) (k0_pay35 k0_pay3 M q k g) k0_pay36) (k0_pay39 k0_pay7 (k0_pay31 M g) (k0_pay32 q)) (k0_pay40 (k0_pay31 M g) (k0_pay33 k))) (k0_pay43 gain) gate
    = rows (raw (decs M g) (weights (decs M g) q k) q v T) gain gate := rfl
end

/-! ### The blocks a point reads -/

/-- Where the windows' blocks lie at a point. -/
theorem idx : ∀ t : Fin grid0.N, win0_0.index t = ![0, 0] ∧ win0_1.index t = ![t.val % 64, t.val / 64] ∧ win0_2.index t = ![t.val % 64, 8 + t.val / 64]
    ∧ win0_3.index t = ![t.val % 64, 16 + t.val / 64] ∧ win0_4.index t = ![t.val % 64, t.val / 64] ∧ win0_5.index t = ![t.val % 64, 24 + t.val / 64]
    ∧ win0_6.index t = ![0, t.val / 64] ∧ win0_7.index t = ![t.val % 64, t.val / 64] := by decide +kernel

/-- The projections. -/
abbrev pj (c : Dev nD) : S16384x7168.Idx → EReal := m ((c : Thread nD τ).loc main_arg0)
/-- The decay's logarithms. -/
abbrev lf (c : Dev nD) : S16384x1024.Idx → EReal := m ((c : Thread nD τ).loc main_arg1)
/-- The gains. -/
abbrev gn (c : Dev nD) : S1x1024.Idx → EReal := m ((c : Thread nD τ).loc main_arg2)

theorem b1 (c : Dev nD) (t : Fin cfg0.N) (ht : t.val < 512) (r : Fin 256) (z : Fin 128) :
    iblk m c 1 t (ix2 r z) = pj m c (ix2 ⟨t.val % 64 * 256 + r.val, by omega⟩ ⟨t.val / 64 * 128 + z.val, by omega⟩) := by
  blk_point [iblk, V, idx t]
theorem b2 (c : Dev nD) (t : Fin cfg0.N) (ht : t.val < 512) (r : Fin 256) (z : Fin 128) :
    iblk m c 2 t (ix2 r z) = pj m c (ix2 ⟨t.val % 64 * 256 + r.val, by omega⟩ ⟨(8 + t.val / 64) * 128 + z.val, by omega⟩) := by
  blk_point [iblk, V, idx t]
theorem b3 (c : Dev nD) (t : Fin cfg0.N) (ht : t.val < 512) (r : Fin 256) (z : Fin 128) :
    iblk m c 3 t (ix2 r z) = pj m c (ix2 ⟨t.val % 64 * 256 + r.val, by omega⟩ ⟨(16 + t.val / 64) * 128 + z.val, by omega⟩) := by
  blk_point [iblk, V, idx t]
theorem b4 (c : Dev nD) (t : Fin cfg0.N) (ht : t.val < 512) (r : Fin 256) (z : Fin 128) :
    iblk m c 4 t (ix2 r z) = lf m c (ix2 ⟨t.val % 64 * 256 + r.val, by omega⟩ ⟨t.val / 64 * 128 + z.val, by omega⟩) := by
  blk_point [iblk, V, idx t]
theorem b5 (c : Dev nD) (t : Fin cfg0.N) (ht : t.val < 512) (r : Fin 256) (z : Fin 128) :
    iblk m c 5 t (ix2 r z) = pj m c (ix2 ⟨t.val % 64 * 256 + r.val, by omega⟩ ⟨(24 + t.val / 64) * 128 + z.val, by omega⟩) := by
  blk_point [iblk, V, idx t]
theorem b6 (c : Dev nD) (t : Fin cfg0.N) (ht : t.val < 512) (z : Fin 128) :
    iblk m c 6 t (ix2 0 z) = gn m c (ix2 0 ⟨t.val / 64 * 128 + z.val, by omega⟩) := by
  blk_point [iblk, V, idx t]
/-- What a constant's array holds. -/
theorem after_cst (c : Dev nD) (L : Fin S512x64.numel → BitVec 16) (j : S512x64.Idx) :
    StableHlo.after [StableHlo.nullary main_cst (fun i => FloatOps.ofBits (F := Ideal) .bf16 (L (S512x64.rowMajor i)))] (fun b => m (c, b)) (Proc.tc.devRef main_cst) j
      = Ideal.ofBits .bf16 (L (S512x64.rowMajor j)) := rfl

theorem b0 (c : Dev nD) (t : Fin cfg0.N) (r : Fin 512) (s : Fin 64) :
    (iblk m c 0 t (ix2 r s) : EReal) = Ideal.ofBits .bf16 (lit0 ⟨64 * r.val + s.val, by omega⟩) := by
  blk_simp [iblk, V, idx t]
  refine (after_cst m c lit0 _).trans (congrArg (fun n => Ideal.ofBits .bf16 (lit0 n)) (Fin.ext ((Shape.rowMajor_val_two _).trans ?_)))
  have e0 : ((win0_0.blk t).view.emb (ix2 r s) 0).val = r.val := by
    blk_simp [idx t]
    first | done | rfl | (show 0 * 512 + 1 * r.val = r.val; omega) | omega
  have e1 : ((win0_0.blk t).view.emb (ix2 r s) 1).val = s.val := by
    blk_simp [idx t]
    first | done | rfl | (show 0 * 64 + 1 * s.val = s.val; omega) | omega
  rw [e0, e1]
  show r.val * 64 + s.val = 64 * r.val + s.val
  omega

theorem one_eq (p : Prop) [Decidable p] : Ideal.ofBits .bf16 (one? p) = if p then (1 : EReal) else 0 := by
  by_cases h : p
  · simp [one?, h, Ideal.ofBits, Ideal.ieee]
    rw [← EReal.coe_mul]
    norm_num
  · simp [one?, h, Ideal.ofBits, Ideal.ieee]

/-- The kernel's table is the table. -/
theorem tab (c : Dev nD) (t : Fin cfg0.N) : Table (iblk m c 0 t) where
  at0 r s := (b0 m c t _ s).trans ((congrArg (Ideal.ofBits .bf16) (table0 r s)).trans (one_eq _))
  at1 r s := (b0 m c t _ s).trans ((congrArg (Ideal.ofBits .bf16) (table1 r s)).trans (one_eq _))
  at2 r s := (b0 m c t _ s).trans ((congrArg (Ideal.ofBits .bf16) (table2 r s)).trans (one_eq _))
  at3 r s := (b0 m c t _ s).trans ((congrArg (Ideal.ofBits .bf16) (table3 r s)).trans (one_eq _))
  at4 r s := (b0 m c t _ s).trans ((congrArg (Ideal.ofBits .bf16) (table4 r s)).trans (one_eq _))
  at5 r s := (b0 m c t _ s).trans ((congrArg (Ideal.ofBits .bf16) (table5 r s)).trans (one_eq _))
  at6 r s := (b0 m c t _ s).trans ((congrArg (Ideal.ofBits .bf16) (table6 r s)).trans (one_eq _))
  at7 r s := (b0 m c t _ s).trans ((congrArg (Ideal.ofBits .bf16) (table7 r s)).trans (one_eq _))

open Cert.RecRefIdeal.Proved (qs ks vs gs stR oR)

theorem cutB_at (x : Vec Ideal S256x128 .bf16) (o : ℕ) (hi) (r : Fin 64) (z : Fin 128) (v : Fin 256) (hv : v.val = o + r.val) :
    cutB x o hi (ix2 r z) = x (ix2 v z) :=
  congrArg x (funext fun a => Fin.ext (by
    match a with
    | ⟨0, _⟩ => show o + 1 * r.val = v.val; omega
    | ⟨1, _⟩ => show 0 + 1 * z.val = z.val; omega))
theorem cutF_at (x : Vec Ideal S256x128 .f32) (o : ℕ) (hi) (r : Fin 64) (z : Fin 128) (v : Fin 256) (hv : v.val = o + r.val) :
    cutF x o hi (ix2 r z) = x (ix2 v z) :=
  congrArg x (funext fun a => Fin.ext (by
    match a with
    | ⟨0, _⟩ => show o + 1 * r.val = v.val; omega
    | ⟨1, _⟩ => show 0 + 1 * z.val = z.val; omega))

section
variable (c : Dev nD) (t : Fin cfg0.N) (ht : t.val < 512) (n : ℕ) (hn : n < 4) (o : ℕ) (ho : o = 64 * n) (hi : ∀ a, (![o, 0] : Fin 2 → ℕ) a + (![64, 128] : Fin 2 → ℕ) a ≤ S256x128.size a)
include hn ho

theorem q_eq : fn (cutB (iblk m c 1 t) o hi) = qs (pj m c) (4 * (t.val % 64) + n) ⟨t.val / 64, by omega⟩ := by
  funext r z
  refine (cutB_at _ _ _ r z ⟨64 * n + r.val, by omega⟩ (by dsimp only; omega)).trans ((b1 m c t ht _ z).trans (congrArg (pj m c) (congrArg₂ ix2 (Fin.ext ?_) (Fin.ext ?_))))
  · dsimp only; omega
  · dsimp only; omega
theorem k_eq : fn (cutB (iblk m c 2 t) o hi) = ks (pj m c) (4 * (t.val % 64) + n) ⟨t.val / 64, by omega⟩ := by
  funext r z
  refine (cutB_at _ _ _ r z ⟨64 * n + r.val, by omega⟩ (by dsimp only; omega)).trans ((b2 m c t ht _ z).trans (congrArg (pj m c) (congrArg₂ ix2 (Fin.ext ?_) (Fin.ext ?_))))
  · dsimp only; omega
  · dsimp only; omega
theorem v_eq : fn (cutB (iblk m c 3 t) o hi) = vs (pj m c) (4 * (t.val % 64) + n) ⟨t.val / 64, by omega⟩ := by
  funext r z
  refine (cutB_at _ _ _ r z ⟨64 * n + r.val, by omega⟩ (by dsimp only; omega)).trans ((b3 m c t ht _ z).trans (congrArg (pj m c) (congrArg₂ ix2 (Fin.ext ?_) (Fin.ext ?_))))
  · dsimp only; omega
  · dsimp only; omega
theorem g_eq : fn (cutF (iblk m c 4 t) o hi) = gs (lf m c) (4 * (t.val % 64) + n) ⟨t.val / 64, by omega⟩ := by
  funext r z
  refine (cutF_at _ _ _ r z ⟨64 * n + r.val, by omega⟩ (by dsimp only; omega)).trans ((b4 m c t ht _ z).trans (congrArg (lf m c) (congrArg₂ ix2 (Fin.ext ?_) (Fin.ext ?_))))
  · dsimp only; omega
  · dsimp only; omega
end

section
variable (M : FVec Ideal S512x64 .bf16) (hM : Table M) (x0 : S16384x7168.Idx → EReal) (x1 : S16384x1024.Idx → EReal) (hf : ∀ i, ∃ r : ℝ, x1 i = r) (j : ℕ) (h : Fin 8)
  (q k v : FVec Ideal S64x128 .bf16) (g : FVec Ideal S64x128 .f32) (hq : fn q = qs x0 j h) (hk : fn k = ks x0 j h) (hv : fn v = vs x0 j h) (hg : fn g = gs x1 j h)
  (S : FVec Ideal S128x128 .f32) (hS : ∀ w d : Fin 128, S (ix2 w d) = stR x0 x1 h j d w)
include hM hf hk hv hg hS

/-- A chunk takes the state to the next. -/
theorem next_st (w d : Fin 128) : next (decs M g) k v S (ix2 w d) = stR x0 x1 h (j + 1) d w := by
  refine (next_at_eq (M := M) (hM := hM) (k := k) (v := v) (g := g) (hg := fun s d => ?_) (S := S) w d).trans ?_
  · rw [hg]
    exact hf _
  · rw [hk, hv, hg, show (fun d w => S (ix2 w d)) = stR x0 x1 h j from funext fun d => funext fun w => hS w d]
    rfl

include hq in
/-- A chunk's rows before they are scaled. -/
theorem raw_st (t : Fin 64) (w : Fin 128) : raw (decs M g) (weights (decs M g) q k) q v S (ix2 t w) = oR x0 x1 j h t w := by
  refine (raw_eq (M := M) (hM := hM) (q := q) (k := k) (v := v) (g := g) (hg := fun s d => ?_) (S := S) t w).trans ?_
  · rw [hg]
    exact hf _
  · rw [hq, hk, hv, hg, show (fun d w => S (ix2 w d)) = stR x0 x1 h j from funext fun d => funext fun w => hS w d]
    rfl
end

/-! ### The state a point carries -/
section
variable (c : Dev nD) (hf : ∀ i, ∃ r : ℝ, lf m c i = r) (t : Fin cfg0.N) (ht : t.val < 512) (S : FVec Ideal S128x128 .f32)
  (hS : ∀ w d : Fin 128, S (ix2 w d) = stR (pj m c) (lf m c) ⟨t.val / 64, by omega⟩ (4 * (t.val % 64)) d w)
include hf hS

theorem s1_at (w d : Fin 128) : s1 (iblk m c 0 t) (iblk m c 2 t) (iblk m c 3 t) (iblk m c 4 t) S (ix2 w d) = stR (pj m c) (lf m c) ⟨t.val / 64, by omega⟩ (4 * (t.val % 64) + 1) d w :=
  next_st _ (tab m c t) _ _ hf (4 * (t.val % 64) + 0) _ _ _ _ (k_eq m c t ht 0 (by omega) _ rfl _) (v_eq m c t ht 0 (by omega) _ rfl _) (g_eq m c t ht 0 (by omega) _ rfl _) S hS w d
theorem s2_at (w d : Fin 128) : s2 (iblk m c 0 t) (iblk m c 2 t) (iblk m c 3 t) (iblk m c 4 t) S (ix2 w d) = stR (pj m c) (lf m c) ⟨t.val / 64, by omega⟩ (4 * (t.val % 64) + 2) d w :=
  next_st _ (tab m c t) _ _ hf (4 * (t.val % 64) + 1) _ _ _ _ (k_eq m c t ht 1 (by omega) _ rfl _) (v_eq m c t ht 1 (by omega) _ rfl _) (g_eq m c t ht 1 (by omega) _ rfl _) _
    (s1_at m c hf t ht S hS) w d
theorem s3_at (w d : Fin 128) : s3 (iblk m c 0 t) (iblk m c 2 t) (iblk m c 3 t) (iblk m c 4 t) S (ix2 w d) = stR (pj m c) (lf m c) ⟨t.val / 64, by omega⟩ (4 * (t.val % 64) + 3) d w :=
  next_st _ (tab m c t) _ _ hf (4 * (t.val % 64) + 2) _ _ _ _ (k_eq m c t ht 2 (by omega) _ rfl _) (v_eq m c t ht 2 (by omega) _ rfl _) (g_eq m c t ht 2 (by omega) _ rfl _) _
    (s2_at m c hf t ht S hS) w d
theorem s4_at (w d : Fin 128) : s4 (iblk m c 0 t) (iblk m c 2 t) (iblk m c 3 t) (iblk m c 4 t) S (ix2 w d) = stR (pj m c) (lf m c) ⟨t.val / 64, by omega⟩ (4 * (t.val % 64) + 4) d w :=
  next_st _ (tab m c t) _ _ hf (4 * (t.val % 64) + 3) _ _ _ _ (k_eq m c t ht 3 (by omega) _ rfl _) (v_eq m c t ht 3 (by omega) _ rfl _) (g_eq m c t ht 3 (by omega) _ rfl _) _
    (s3_at m c hf t ht S hS) w d
end

theorem zero_bits : Ideal.ofBits .f32 0x00000000#32 = (0 : EReal) := by simp [Ideal.ofBits, Ideal.ieee]

/-- The first point of a head starts from the zero state. -/
theorem start_at (c : Dev nD) (t : ℕ) (ht : t < 512) (h0 : t % 64 = 0) (w d : Fin 128) :
    (Ideal.ofBits .f32 0x00000000#32 : EReal) = stR (pj m c) (lf m c) ⟨t / 64, by omega⟩ (4 * (t % 64)) d w := by
  rw [h0, zero_bits]
  rfl

/-- The state a point leaves. -/
theorem carried (c : Dev nD) (hf : ∀ i, ∃ r : ℝ, lf m c i = r) (n : ℕ) : ∀ (hn : n < cfg0.N) (ht : n < 512) (w d : Fin 128),
    (outsAt0 m c n hn).2 (ix2 w d) = stR (pj m c) (lf m c) ⟨n / 64, by omega⟩ (4 * (n % 64) + 4) d w := by
  induction n using Nat.strong_induction_on with
  | _ n ih =>
    intro hn ht w d
    by_cases h0 : n % 64 = 0
    · exact (carried_A m c ⟨n, hn⟩ h0 _).trans (s4_at m c hf ⟨n, hn⟩ ht _ (fun w d => start_at m c n ht h0 w d) w d)
    · refine (carried_B m c ⟨n, hn⟩ h0 _).trans (s4_at m c hf ⟨n, hn⟩ ht _ (fun w d => ?_) w d)
      refine (ih (n - 1) (by omega) (by omega) (by omega) w d).trans ?_
      dsimp only
      rw [show 4 * ((n - 1) % 64) + 4 = 4 * (n % 64) by omega]
      simp only [show (n - 1) / 64 = n / 64 by omega]

/-! ### What a point stores -/

/-- The result at a chunk's row and a head's column, as a function of the arguments. -/
def resAt (x0 : S16384x7168.Idx → EReal) (x1 : S16384x1024.Idx → EReal) (x2 : S1x1024.Idx → EReal) (j : Fin 256) (h : Fin 8) (t : Fin 64) (w : Fin 128) : EReal :=
  oR x0 x1 j.val h t w * Ideal.rsqrt (Ideal.div (∑ d : Fin 128, oR x0 x1 j.val h t d * oR x0 x1 j.val h t d)
    (Ideal.ofBits .f32 0x43000000#32) + Ideal.ofBits .f32 0x358637BD#32) * x2 (ix2 0 ⟨128 * h.val + w.val, by omega⟩)
    * x0 (ix2 ⟨64 * j.val + t.val, by omega⟩ ⟨3072 + (128 * h.val + w.val), by omega⟩)

/-- The result as one function of the arguments. -/
def res (x0 : S16384x7168.Idx → EReal) (x1 : S16384x1024.Idx → EReal) (x2 : S1x1024.Idx → EReal) : S16384x1024.Idx → EReal := fun i =>
  have h0 : (i 0).val < 16384 := (i 0).isLt
  have h1 : (i 1).val < 1024 := (i 1).isLt
  resAt x0 x1 x2 ⟨(i 0).val / 64, by omega⟩ ⟨(i 1).val / 128, by omega⟩ ⟨(i 0).val % 64, by omega⟩ ⟨(i 1).val % 128, by omega⟩

theorem res_at (x0 : S16384x7168.Idx → EReal) (x1 : S16384x1024.Idx → EReal) (x2 : S1x1024.Idx → EReal) (j : Fin 256) (h : Fin 8) (t : Fin 64) (w : Fin 128)
    (a : Fin 16384) (b : Fin 1024) (ha : a.val = 64 * j.val + t.val) (hb : b.val = 128 * h.val + w.val) :
    res x0 x1 x2 (ix2 a b) = resAt x0 x1 x2 j h t w := by
  have e0 : (⟨a.val / 64, by omega⟩ : Fin 256) = j := Fin.ext (by dsimp only; omega)
  have e1 : (⟨b.val / 128, by omega⟩ : Fin 8) = h := Fin.ext (by dsimp only; omega)
  have e2 : (⟨a.val % 64, by omega⟩ : Fin 64) = t := Fin.ext (by dsimp only; omega)
  have e3 : (⟨b.val % 128, by omega⟩ : Fin 128) = w := Fin.ext (by dsimp only; omega)
  show resAt x0 x1 x2 ⟨a.val / 64, _⟩ ⟨b.val / 128, _⟩ ⟨a.val % 64, _⟩ ⟨b.val % 128, _⟩ = _
  rw [e0, e1, e2, e3]

/-- The part of the result a point stores. -/
abbrev block (c : Dev nD) (t : Fin cfg0.N) (ht : t.val < 512) : S256x128.Idx → EReal := fun y =>
  have h0 : (y 0).val < 256 := (y 0).isLt
  have h1 : (y 1).val < 128 := (y 1).isLt
  res (pj m c) (lf m c) (gn m c) (ix2 ⟨t.val % 64 * 256 + (y 0).val, by omega⟩ ⟨t.val / 64 * 128 + (y 1).val, by omega⟩)

section
variable (c : Dev nD) (hf : ∀ i, ∃ r : ℝ, lf m c i = r) (t : Fin cfg0.N) (ht : t.val < 512)
include hf

/-- A chunk's rows are the result's. -/
theorem piece_at (n : ℕ) (hn : n < 4) (o : ℕ) (ho : o = 64 * n) (hi : ∀ a, (![o, 0] : Fin 2 → ℕ) a + (![64, 128] : Fin 2 → ℕ) a ≤ S256x128.size a)
    (T : FVec Ideal S128x128 .f32) (hT : ∀ w d : Fin 128, T (ix2 w d) = stR (pj m c) (lf m c) ⟨t.val / 64, by omega⟩ (4 * (t.val % 64) + n) d w) (r : Fin 64) (z : Fin 128) :
    (piece (iblk m c 0 t) (iblk m c 1 t) (iblk m c 2 t) (iblk m c 3 t) (iblk m c 5 t) (iblk m c 4 t) (iblk m c 6 t) o hi T (ix2 r z) : EReal)
      = block m c t ht ((Rect.unit (s := S256x128) ![o, 0] ![64, 128] hi).emb (ix2 r z)) := by
  have R := raw_st (iblk m c 0 t) (tab m c t) (pj m c) (lf m c) hf (4 * (t.val % 64) + n) ⟨t.val / 64, by omega⟩ (cutB (iblk m c 1 t) o hi) (cutB (iblk m c 2 t) o hi)
    (cutB (iblk m c 3 t) o hi) (cutF (iblk m c 4 t) o hi) (q_eq m c t ht n hn o ho hi) (k_eq m c t ht n hn o ho hi) (v_eq m c t ht n hn o ho hi) (g_eq m c t ht n hn o ho hi) T hT r
  refine (rows_at _ _ _ r z).trans ?_
  rw [b6 m c t ht z, cutB_at (iblk m c 5 t) o hi r z ⟨64 * n + r.val, by omega⟩ (by dsimp only; omega), b5 m c t ht ⟨64 * n + r.val, by omega⟩ z]
  simp only [R]
  have hr : t.val % 64 * 256 + (64 * n + r.val) = 64 * (4 * (t.val % 64) + n) + r.val := by omega
  refine Eq.trans ?_ (res_at (pj m c) (lf m c) (gn m c) ⟨4 * (t.val % 64) + n, by omega⟩ ⟨t.val / 64, by omega⟩ r z _ _ ?_ ?_).symm
  · unfold resAt
    refine congrArg₂ (· * ·) (congrArg₂ (· * ·) rfl (congrArg (gn m c) (congrArg₂ ix2 rfl (Fin.ext ?_)))) (congrArg (pj m c) (congrArg₂ ix2 (Fin.ext ?_) (Fin.ext ?_)))
    · dsimp only; omega
    · dsimp only; omega
    · dsimp only; omega
  · show t.val % 64 * 256 + (o + 1 * r.val) = 64 * (4 * (t.val % 64) + n) + r.val
    omega
  · show t.val / 64 * 128 + (0 + 1 * z.val) = 128 * (t.val / 64) + z.val
    omega

theorem stored_A (h0 : t.val % 64 = 0) (y : S256x128.Idx) : (outsAt0 m c t.val t.isLt).1 y = block m c t ht y := by
  have hS : ∀ w d : Fin 128, (k0_pay2 : FVec Ideal S128x128 .f32) (ix2 w d) = stR (pj m c) (lf m c) ⟨t.val / 64, by omega⟩ (4 * (t.val % 64)) d w :=
    fun w d => (congrFun pay2_eq _).trans (start_at m c t.val ht h0 w d)
  rw [outsAt0_A m c t h0]
  frame_out
  simp only [store0_eq, store1_eq, store2_eq, store3_eq, next0, next1, next2, next3]
  refine View.canon_apply_of_pieces (Val := Elt Ideal) (S := S256x128) (e := .bf16) (block m c t ht) _ ?_ y (View.cover_of_tiledBy _ ![64, 128] (by sl_kernel_rfl) y)
  refine List.forall_mem_cons.2 ⟨fun x => ?_, ?_⟩
  · obtain ⟨r, z, rfl⟩ : ∃ (r : Fin 64) (z : Fin 128), x = ix2 r z := ⟨x 0, x 1, eq_ix2 x⟩
    exact piece_at m c hf t ht 3 (by omega) 192 rfl _ _ (s3_at m c hf t ht _ hS) r z
  refine List.forall_mem_cons.2 ⟨fun x => ?_, ?_⟩
  · obtain ⟨r, z, rfl⟩ : ∃ (r : Fin 64) (z : Fin 128), x = ix2 r z := ⟨x 0, x 1, eq_ix2 x⟩
    exact piece_at m c hf t ht 2 (by omega) 128 rfl _ _ (s2_at m c hf t ht _ hS) r z
  refine List.forall_mem_cons.2 ⟨fun x => ?_, ?_⟩
  · obtain ⟨r, z, rfl⟩ : ∃ (r : Fin 64) (z : Fin 128), x = ix2 r z := ⟨x 0, x 1, eq_ix2 x⟩
    exact piece_at m c hf t ht 1 (by omega) 64 rfl _ _ (s1_at m c hf t ht _ hS) r z
  refine List.forall_mem_cons.2 ⟨fun x => ?_, fun p hp => absurd hp List.not_mem_nil⟩
  · obtain ⟨r, z, rfl⟩ : ∃ (r : Fin 64) (z : Fin 128), x = ix2 r z := ⟨x 0, x 1, eq_ix2 x⟩
    exact piece_at m c hf t ht 0 (by omega) 0 rfl _ _ hS r z

theorem stored_B (h0 : ¬ t.val % 64 = 0) (y : S256x128.Idx) : (outsAt0 m c t.val t.isLt).1 y = block m c t ht y := by
  have hS : ∀ w d : Fin 128, (outsAt0 m c (t.val - 1) (by omega)).2 (ix2 w d) = stR (pj m c) (lf m c) ⟨t.val / 64, by omega⟩ (4 * (t.val % 64)) d w := by
    intro w d
    refine (carried m c hf (t.val - 1) (by omega) (by omega) w d).trans ?_
    rw [show 4 * ((t.val - 1) % 64) + 4 = 4 * (t.val % 64) by omega]
    simp only [show (t.val - 1) / 64 = t.val / 64 by omega]
  rw [outsAt0_B m c t h0]
  frame_out
  simp only [read_unread_whole, store0_eq, store1_eq, store2_eq, store3_eq, next0, next1, next2, next3]
  refine View.canon_apply_of_pieces (Val := Elt Ideal) (S := S256x128) (e := .bf16) (block m c t ht) _ ?_ y (View.cover_of_tiledBy _ ![64, 128] (by sl_kernel_rfl) y)
  refine List.forall_mem_cons.2 ⟨fun x => ?_, ?_⟩
  · obtain ⟨r, z, rfl⟩ : ∃ (r : Fin 64) (z : Fin 128), x = ix2 r z := ⟨x 0, x 1, eq_ix2 x⟩
    exact piece_at m c hf t ht 3 (by omega) 192 rfl _ _ (s3_at m c hf t ht _ hS) r z
  refine List.forall_mem_cons.2 ⟨fun x => ?_, ?_⟩
  · obtain ⟨r, z, rfl⟩ : ∃ (r : Fin 64) (z : Fin 128), x = ix2 r z := ⟨x 0, x 1, eq_ix2 x⟩
    exact piece_at m c hf t ht 2 (by omega) 128 rfl _ _ (s2_at m c hf t ht _ hS) r z
  refine List.forall_mem_cons.2 ⟨fun x => ?_, ?_⟩
  · obtain ⟨r, z, rfl⟩ : ∃ (r : Fin 64) (z : Fin 128), x = ix2 r z := ⟨x 0, x 1, eq_ix2 x⟩
    exact piece_at m c hf t ht 1 (by omega) 64 rfl _ _ (s1_at m c hf t ht _ hS) r z
  refine List.forall_mem_cons.2 ⟨fun x => ?_, fun p hp => absurd hp List.not_mem_nil⟩
  · obtain ⟨r, z, rfl⟩ : ∃ (r : Fin 64) (z : Fin 128), x = ix2 r z := ⟨x 0, x 1, eq_ix2 x⟩
    exact piece_at m c hf t ht 0 (by omega) 0 rfl _ _ hS r z
end

theorem covers : (cfg0.win 7).Covers := by decide +kernel

/-- The kernel's result. -/
theorem final (c : Dev nD) (hf : ∀ i, ∃ r : ℝ, lf m c i = r) : (dats m 0 c).arrAt 7 cfg0.N = res (pj m c) (lf m c) (gn m c) := by
  refine (dats m 0 c).arrAt_eq_of_covers 7 _ covers fun t hf' y => ?_
  have ht : t.val < 512 := t.isLt
  blk_simp
  rw [after0_7]
  refine Eq.trans (b := block m c t ht y) ?_ (congrArg (res (pj m c) (lf m c) (gn m c)) (funext fun a => Fin.ext (by
    match a with
    | ⟨0, _⟩ => blk_simp [idx t]; rfl
    | ⟨1, _⟩ => blk_simp [idx t]; rfl)))
  by_cases h0 : t.val % 64 = 0
  · exact stored_A m c hf t ht h0 y
  · exact stored_B m c hf t ht h0 y

/-- The reference's result. -/
theorem ref_eq (m' : (ℓ : Loc Cert.RecRefIdeal.nD Cert.RecRefIdeal.τ Cert.RecRefIdeal.sig) → Buf (Elt Ideal) ℓ) (c : Dev Cert.RecRefIdeal.nD) :
    Cert.RecRefIdeal.Proved.G m' c = res (Cert.RecRefIdeal.Proved.a0 m' c) (Cert.RecRefIdeal.Proved.a1 m' c) (Cert.RecRefIdeal.Proved.a2 m' c) := by
  funext i
  obtain ⟨j, h, t, w, rfl⟩ : ∃ (j : Fin 256) (h : Fin 8) (t : Fin 64) (w : Fin 128), i = ix2 ⟨64 * j.val + t.val, by omega⟩ ⟨128 * h.val + w.val, by omega⟩ := by
    have h0 : (i 0).val < 16384 := (i 0).isLt
    have h1 : (i 1).val < 1024 := (i 1).isLt
    refine ⟨⟨(i 0).val / 64, by omega⟩, ⟨(i 1).val / 128, by omega⟩, ⟨(i 0).val % 64, by omega⟩, ⟨(i 1).val % 128, by omega⟩, (eq_ix2 i).trans (congrArg₂ ix2 (Fin.ext ?_) (Fin.ext ?_))⟩
    · dsimp only; omega
    · dsimp only; omega
  exact (Cert.RecRefIdeal.Proved.G_at m' c j h t w).trans (res_at _ _ _ j h t w _ _ rfl rfl).symm

/-! ### The claims -/

instance facts_pre : Cert.Pre_decay_finite.Facts := ⟨by decide⟩

/-- An extended real whose absolute value is below plus infinity is a real number. -/
theorem real_of_abs (x : EReal) (h : BitVec.ofBool (decide (max x (-x) < ⊤)) = 1#1) : ∃ a : ℝ, x = a := by
  have h'' : max x (-x) < (⊤ : EReal) := by
    by_contra hn
    rw [decide_eq_false hn] at h
    exact absurd h (by decide)
  obtain ⟨h1, h2⟩ := max_lt_iff.1 h''
  exact ⟨x.toReal, (EReal.coe_toReal h1.ne fun hb => by rw [hb, EReal.neg_bot] at h2; exact lt_irrefl _ h2).symm⟩

/-- The precondition at an index: the decay's logarithms are real numbers. -/
theorem pre_real (x0 : S16384x7168.Idx → EReal) (x1 : S16384x1024.Idx → EReal) (x2 : S1x1024.Idx → EReal)
    (h : Cert.Pre_decay_finite.fn (F := Ideal) x0 x1 x2 = fun _ => 1#1) (i : S16384x1024.Idx) : ∃ a : ℝ, x1 i = a := by
  have hinf : Ideal.ofBits .f32 0x7F800000#32 = ⊤ := by simp [Ideal.ofBits, Ideal.ieee]
  have e := congrFun h i
  unfold Cert.Pre_decay_finite.fn at e
  dsimp only at e
  pointwise at e
  rw [hinf] at e
  exact real_of_abs _ e

/-- The kernel and the reference end with the same result. -/
theorem algebraic : algebraic_RecIdeal_RecRefIdeal_pre_decay_finite := fun m ρ m' ρ' hpre hag =>
  ⟨fun c => res (pj m c) (lf m c) (gn m c),
    (θ_run _ _ _).mono (fun _ h c => ⟨(h c).1.trans (final m c (pre_real _ _ _ (hpre c))), (h c).2⟩) (Cert.RecIdeal.Value.run_blocks m ρ),
    (θ_run _ _ _).mono (fun _ h c => by
      obtain ⟨e0, e1, e2⟩ := hag c
      refine ⟨(h c).1.trans ((ref_eq m' c).trans ?_), (h c).2⟩
      rw [show Cert.RecRefIdeal.Proved.a0 m' c = pj m c from e0, show Cert.RecRefIdeal.Proved.a1 m' c = lf m c from e1, show Cert.RecRefIdeal.Proved.a2 m' c = gn m c from e2]) (Cert.RecRefIdeal.Proved.run m' ρ')⟩

/-- The reference changes no argument. -/
theorem frame_ref : quiescent_RecRefIdeal := fun m ρ _ =>
  (θ_run Cert.RecRefIdeal.defs _ _).mono (fun r h => ⟨fun c => (h c).2, Idealize.ShloMosaic.sem_eq_zero_of_no_sems (by decide) r.2⟩)
    (Cert.RecRefIdeal.Proved.run m ρ)

end Cert.RecIdeal.Proved

end
-- ==== Proof.DownValue.lean ====
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Claim
public import Idealize.ShloMosaic.Lib.Quiescent

/-! The down projection of the feed-forward part: the blocked product is the whole product. -/

@[expose] public section

set_option maxRecDepth 16384

noncomputable section

namespace Cert.DownIdeal.Proved

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result as one function of the arguments: the reference's own. -/
abbrev G (c : Dev nD) : Buf (Elt Ideal) ((c : Thread nD τ).loc main_v2) :=
  Cert.DownRefIdeal.Read.val_main_v3 (F := Ideal) (m ((c : Thread nD τ).loc main_arg0)) (m ((c : Thread nD τ).loc main_arg1)) (m ((c : Thread nD τ).loc main_arg2))

/-- Where the windows' blocks lie at a point. -/
theorem idx : ∀ t : Fin grid0.N, win0_0.index t = ![t.val, 0] ∧ win0_1.index t = ![0, 0] ∧ win0_2.index t = ![t.val, 0]
    ∧ win0_3.index t = ![t.val, 0] := by decide +kernel

/-- The result array after the run is the reference's. -/
theorem final (c : Dev nD) : (dats m 0 c).arrAt 3 cfg0.N = G m c := by
  refine (dats m 0 c).arrAt_eq_of_covers 3 _ (by decide +kernel) fun t hf y => ?_
  blk_simp
  rw [after0_3]
  frame_out
  pointwise [k0_pay1, G, Cert.DownRefIdeal.Read.val_main_v3, Cert.DownRefIdeal.Read.val_main_v2, Cert.DownRefIdeal.Read.val_main_v1, Cert.DownRefIdeal.Read.val_main_v0]
  refine congrArg₂ _ ?_ (Finset.sum_congr rfl fun k _ => congrArg₂ _ ?_ ?_)
  · blk_point [iblk, V, idx t]
  · blk_point [iblk, V, idx t]
  · blk_point [iblk, V, idx t]

/-- The kernel and the reference end with the same result. -/
theorem algebraic : algebraic_DownIdeal_DownRefIdeal := by
  pair_intro
  · run_from Cert.DownIdeal.Value.run_blocks m g
  · run_from Cert.DownRefIdeal.Value.run m' g'
    exact (Cert.DownRefIdeal.Read.val_main_v3_eq _ _ _).trans (final m c).symm

/-- The reference changes no argument. -/
theorem frame_ref : quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

end Cert.DownIdeal.Proved

end
-- ==== Proof.UpValue.lean ====
module

public import proofs.«01_k».proof.Defs
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Pointwise
public import Idealize.ShloMosaic.Lib.Claim
public import Idealize.ShloMosaic.Lib.Quiescent
public import Idealize.ShloMosaic.Lib.KernelVsHost
public import Idealize.ShloMosaic.Lib.Pipeline.ReadBack

/-! The up projection with its causal convolution of three rows and the gate: the block's first rows take the two rows before
them from what the block above left. -/

@[expose] public section

set_option maxRecDepth 16384

noncomputable section

namespace Cert.UpIdeal.Proved

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result as one function of the arguments: the reference's own. -/
abbrev G (c : Dev nD) : Buf (Elt Ideal) ((c : Thread nD τ).loc main_v3) :=
  Cert.UpRefIdeal.Read.val_main_v33 (F := Ideal) (m ((c : Thread nD τ).loc main_arg0)) (m ((c : Thread nD τ).loc main_arg1)) (m ((c : Thread nD τ).loc main_arg2)) (m ((c : Thread nD τ).loc main_arg3))

/-- Where the windows' blocks lie at a point. -/
theorem idx : ∀ t : Fin grid0.N, win0_0.index t = ![t.val % 32, 0] ∧ win0_1.index t = ![0, t.val / 32] ∧ win0_2.index t = ![0, 11 + t.val / 32]
    ∧ win0_3.index t = ![0, t.val / 32] ∧ win0_4.index t = ![0, 11 + t.val / 32] ∧ win0_5.index t = ![0, t.val / 32] ∧ win0_6.index t = ![0, 11 + t.val / 32]
    ∧ win0_7.index t = ![t.val % 32, t.val / 32] := by decide +kernel

/-- The activations. -/
abbrev xs (c : Dev nD) : S16384x2048.Idx → EReal := m ((c : Thread nD τ).loc main_arg0)

/-- The weights. -/
abbrev ws (c : Dev nD) : S1x2048x11264.Idx → EReal := m ((c : Thread nD τ).loc main_arg1)

/-- The convolution's weights. -/
abbrev cw (c : Dev nD) : S1x3x11264.Idx → EReal := m ((c : Thread nD τ).loc main_arg2)

/-- The convolution's offsets. -/
abbrev cb (c : Dev nD) : S1x11264.Idx → EReal := m ((c : Thread nD τ).loc main_arg3)

/-- The product of a row with a column of the weights. -/
abbrev prod (c : Dev nD) (i : Fin 16384) (n : Fin 11264) : EReal :=
  ∑ x : Fin 2048, xs m c (ix2 i x) * ws m c (ix3 0 x n)

/-- The product `k` rows above, zero above the first row. -/
abbrev above (c : Dev nD) (k : ℕ) (i : Fin 16384) (n : Fin 11264) : EReal :=
  if k ≤ i.val then prod m c ⟨i.val - k, by omega⟩ n else 0

/-- The convolution of three rows. -/
abbrev conv (c : Dev nD) (i : Fin 16384) (n : Fin 11264) : EReal :=
  cw m c (ix3 0 2 n) * prod m c i n + cw m c (ix3 0 1 n) * above m c 1 i n
    + cw m c (ix3 0 0 n) * above m c 2 i n + cb m c (ix2 0 n)

/-- The gated value: the first half's convolution times the gate of the second half's. -/
abbrev gated (c : Dev nD) (i : Fin 16384) (a b : Fin 11264) : EReal :=
  conv m c i a * (conv m c i b * Ideal.div 1 (1 + Ideal.exp (-conv m c i b)))

/-- The reference's sum, in its order. -/
theorem conv_eq (c : Dev nD) (i : Fin 16384) (n : Fin 11264) :
    above m c 2 i n * cw m c (ix3 0 0 n) + above m c 1 i n * cw m c (ix3 0 1 n)
      + prod m c i n * cw m c (ix3 0 2 n) + cb m c (ix2 0 n) = conv m c i n := by
  rw [mul_comm (above m c 2 i n), mul_comm (above m c 1 i n), mul_comm (prod m c i n)]
  refine congrArg (· + _) ?_
  rw [add_comm, add_comm (_ * above m c 2 i n), add_assoc]

/-- The reference's result at an index. -/
theorem G_at (c : Dev nD) (j : S16384x5632.Idx) (a b : Fin 11264) (ha : a.val = (j 1).val) (hb : b.val = 5632 + (j 1).val) :
    G m c j = gated m c (j 0) a b := by
  have z : (FloatOps.sitofp FTy.f32 0#32 : Ideal FTy.f32) = 0 := sitofp_zero
  have a1 : (j 1).val < 5632 := (j 1).isLt
  have a0 : (j 0).val < 16384 := (j 0).isLt
  obtain ⟨a, la⟩ := a
  obtain ⟨b, lb⟩ := b
  dsimp only at ha hb
  subst ha hb
  show G m c j = conv m c (j 0) ⟨(j 1).val, la⟩ * (conv m c (j 0) ⟨5632 + (j 1).val, lb⟩ * Ideal.div 1 (1 + Ideal.exp (-conv m c (j 0) ⟨5632 + (j 1).val, lb⟩)))
  rw [← conv_eq m c (j 0) ⟨(j 1).val, la⟩, ← conv_eq m c (j 0) ⟨5632 + (j 1).val, lb⟩]
  pointwise [G, Cert.UpRefIdeal.Read.val_main_v33, Cert.UpRefIdeal.Read.val_main_v32, Cert.UpRefIdeal.Read.val_main_v31, Cert.UpRefIdeal.Read.val_main_v30, Cert.UpRefIdeal.Read.val_main_v29, Cert.UpRefIdeal.Read.val_main_v28, Cert.UpRefIdeal.Read.val_main_v27, Cert.UpRefIdeal.Read.val_main_v26, Cert.UpRefIdeal.Read.val_main_v25, Cert.UpRefIdeal.Read.val_main_v24, Cert.UpRefIdeal.Read.val_main_v23, Cert.UpRefIdeal.Read.val_main_v22, Cert.UpRefIdeal.Read.val_main_v21, Cert.UpRefIdeal.Read.val_main_v20, Cert.UpRefIdeal.Read.val_main_v19, Cert.UpRefIdeal.Read.val_main_v18, Cert.UpRefIdeal.Read.val_main_v17, Cert.UpRefIdeal.Read.val_main_v16, Cert.UpRefIdeal.Read.val_main_v15, Cert.UpRefIdeal.Read.val_main_v14, Cert.UpRefIdeal.Read.val_main_v13, Cert.UpRefIdeal.Read.val_main_v12, Cert.UpRefIdeal.Read.val_main_v11, Cert.UpRefIdeal.Read.val_main_v10, Cert.UpRefIdeal.Read.val_main_v9, Cert.UpRefIdeal.Read.val_main_v8, Cert.UpRefIdeal.Read.val_main_v7, Cert.UpRefIdeal.Read.val_main_v6, Cert.UpRefIdeal.Read.val_main_v5, Cert.UpRefIdeal.Read.val_main_v4, Cert.UpRefIdeal.Read.val_main_v3, Cert.UpRefIdeal.Read.val_main_v2, Cert.UpRefIdeal.Read.val_main_v1, Cert.UpRefIdeal.Read.val_main_v0, Cert.UpRefIdeal.Read.val_main_c, Cert.UpRefIdeal.Read.val_main_call0_v0, Cert.UpRefIdeal.Read.val_main_call1_v5, Cert.UpRefIdeal.Read.val_main_call1_v4, Cert.UpRefIdeal.Read.val_main_call1_v3, Cert.UpRefIdeal.Read.val_main_call1_v2, Cert.UpRefIdeal.Read.val_main_call1_v1, Cert.UpRefIdeal.Read.val_main_call1_v0, Cert.UpRefIdeal.Read.val_main_call1_cst, Cert.UpRefIdeal.Read.val_main_call1_cst_0]
  have e3 : 1 + (j 0).val - 2 < 16384 := by omega
  have e4 : (j 0).val - 2 < 16384 := by omega
  have e5 : (2 ≤ 1 + (j 0).val) = (1 ≤ (j 0).val) := by simp only [eq_iff_iff]; omega
  have e6 : 1 + (j 0).val - 2 = (j 0).val - 1 := by omega
  have e7 : (j 0).val - 1 < 16384 := by omega
  simp only [la, lb, e3, e4, e5, e6, e7, z, and_true, dif_pos, dite_eq_ite]
  rfl

theorem pay3_at (c : Dev nD) (t : Fin cfg0.N) (r q : Fin 512) (i : Fin 16384) (n : Fin 11264)
    (hi : i.val = t.val % 32 * 512 + r.val) (hn : n.val = t.val / 32 * 512 + q.val) :
    k0_pay3 (iblk m c 0 t) (iblk m c 1 t) (ix2 r q) = prod m c i n := by
  have h0 : ∀ x : Fin 2048, iblk m c 0 t (ix2 r x) = xs m c (ix2 i x) := fun x => by blk_point [iblk, V, idx t, hi]
  have h1 : ∀ x : Fin 2048, iblk m c 1 t (ix2 x q) = ws m c (ix3 0 x n) := fun x => by blk_point [iblk, V, idx t, hn]
  pointwise [k0_pay3]
  exact Finset.sum_congr rfl fun x _ => congrArg₂ (· * ·) (h0 x) (h1 x)

theorem pay4_at (c : Dev nD) (t : Fin cfg0.N) (r q : Fin 512) (i : Fin 16384) (n : Fin 11264)
    (hi : i.val = t.val % 32 * 512 + r.val) (hn : n.val = 5632 + t.val / 32 * 512 + q.val) :
    k0_pay4 (iblk m c 0 t) (iblk m c 2 t) (ix2 r q) = prod m c i n := by
  have h0 : ∀ x : Fin 2048, iblk m c 0 t (ix2 r x) = xs m c (ix2 i x) := fun x => by blk_point [iblk, V, idx t, hi]
  have h1 : ∀ x : Fin 2048, iblk m c 2 t (ix2 x q) = ws m c (ix3 0 x n) := fun x => by blk_point [iblk, V, idx t, hn]
  pointwise [k0_pay4]
  exact Finset.sum_congr rfl fun x _ => congrArg₂ (· * ·) (h0 x) (h1 x)

theorem w3 (c : Dev nD) (t : Fin cfg0.N) (q : Fin 512) (k : Fin 3) (n : Fin 11264) (hn : n.val = t.val / 32 * 512 + q.val) :
    iblk m c 3 t (ix2 k q) = cw m c (ix3 0 k n) := by
  blk_point [iblk, V, idx t, hn]

theorem w4 (c : Dev nD) (t : Fin cfg0.N) (q : Fin 512) (k : Fin 3) (n : Fin 11264) (hn : n.val = 5632 + t.val / 32 * 512 + q.val) :
    iblk m c 4 t (ix2 k q) = cw m c (ix3 0 k n) := by
  blk_point [iblk, V, idx t, hn]

theorem w5 (c : Dev nD) (t : Fin cfg0.N) (q : Fin 512) (n : Fin 11264) (hn : n.val = t.val / 32 * 512 + q.val) :
    iblk m c 5 t (ix2 0 q) = cb m c (ix2 0 n) := by
  blk_point [iblk, V, idx t, hn]

theorem w6 (c : Dev nD) (t : Fin cfg0.N) (q : Fin 512) (n : Fin 11264) (hn : n.val = 5632 + t.val / 32 * 512 + q.val) :
    iblk m c 6 t (ix2 0 q) = cb m c (ix2 0 n) := by
  blk_point [iblk, V, idx t, hn]

/-- The whole block's value away from its first eight rows: the rotation brings the rows above. -/
theorem pay10_at (c : Dev nD) (t : Fin cfg0.N) (r q : Fin 512) (hr : 8 ≤ r.val) (i : Fin 16384) (a b : Fin 11264)
    (hi : i.val = t.val % 32 * 512 + r.val) (ha : a.val = t.val / 32 * 512 + q.val) (hb : b.val = 5632 + t.val / 32 * 512 + q.val) :
    k0_pay10 (k0_pay4 (iblk m c 0 t) (iblk m c 2 t))
            (k0_pay5 (iblk m c 0 t) (iblk m c 1 t) (iblk m c 3 t) (iblk m c 5 t)) (k0_pay6 (iblk m c 4 t))
            (iblk m c 6 t) (k0_pay7 (iblk m c 0 t) (iblk m c 2 t) (iblk m c 4 t)) (k0_pay8 (iblk m c 4 t))
            (k0_pay9 (iblk m c 0 t) (iblk m c 2 t)) (ix2 r q) = gated m c i a b := by
  have i1 : 1 ≤ i.val := by omega
  have i2 : 2 ≤ i.val := by omega
  have r1 : (r.val + 512 - 1) % 512 = r.val - 1 := by omega
  have r2 : (r.val + 512 - 2) % 512 = r.val - 2 := by omega
  have h1 : t.val % 32 * 512 + r.val - 1 = t.val % 32 * 512 + (r.val - 1) := by omega
  have h2 : t.val % 32 * 512 + r.val - 2 = t.val % 32 * 512 + (r.val - 2) := by omega
  pointwise [k0_pay10, k0_pay9, k0_pay8, k0_pay7, k0_pay6, k0_pay5]
  rw [w3 m c t q 2 a ha, w3 m c t q 1 a ha, w3 m c t q 0 a ha, w4 m c t q 2 b hb, w4 m c t q 1 b hb, w4 m c t q 0 b hb, w5 m c t q a ha, w6 m c t q b hb,
    pay3_at m c t r q i a hi ha, pay3_at m c t ⟨(r.val + 512 - 1) % 512, _⟩ q ⟨i.val - 1, by omega⟩ a (by simp only [hi, r1, h1]) ha,
    pay3_at m c t ⟨(r.val + 512 - 2) % 512, _⟩ q ⟨i.val - 2, by omega⟩ a (by simp only [hi, r2, h2]) ha,
    pay4_at m c t r q i b hi hb, pay4_at m c t ⟨(r.val + 512 - 1) % 512, _⟩ q ⟨i.val - 1, by omega⟩ b (by simp only [hi, r1, h1]) hb,
    pay4_at m c t ⟨(r.val + 512 - 2) % 512, _⟩ q ⟨i.val - 2, by omega⟩ b (by simp only [hi, r2, h2]) hb, zero_sub]
  simp only [gated, conv, above, if_pos i1, if_pos i2]

/-- The rows above, read from the sixteen rows the first eight are worked from: the eight carried ones, then the eight. -/
theorem from16 (c : Dev nD) (r : Fin 8) (q : Fin 512) (k : ℕ) (hk : k = 1 ∨ k = 2) (i : Fin 16384) (n : Fin 11264) (P : S8x512.Idx → EReal) (W : S512x512.Idx → EReal)
    (b : ℕ) (hi : i.val = b * 512 + r.val)
    (hP : ∀ r' : Fin 8, P (ix2 r' q) = if h : 0 < b then prod m c ⟨(b - 1) * 512 + 504 + r'.val, by omega⟩ n else 0)
    (hW : ∀ (r' : Fin 512) (h : r'.val < 8), W (ix2 r' q) = prod m c ⟨b * 512 + r'.val, by omega⟩ n) :
    (if h : (8 + r.val + 16 - k) % 16 < 8 then P (ix2 ⟨(8 + r.val + 16 - k) % 16, h⟩ q)
              else W (ix2 ⟨(8 + r.val + 16 - k) % 16 - 8, by omega⟩ q)) = above m c k i n := by
  have hr := r.isLt
  by_cases h : (8 + r.val + 16 - k) % 16 < 8
  · rw [dif_pos h, hP]
    have e : (8 + r.val + 16 - k) % 16 = 8 + r.val - k := by omega
    by_cases hb : 0 < b
    · rw [dif_pos hb]
      refine Eq.trans ?_ (if_pos (by omega)).symm
      exact congrArg (prod m c · n) (Fin.ext (by simp only [e]; omega))
    · rw [dif_neg hb]
      exact (if_neg (by omega)).symm
  · rw [dif_neg h]
    have e : (8 + r.val + 16 - k) % 16 = 8 + r.val - k := by omega
    rw [hW _ (by simp only; omega)]
    refine Eq.trans ?_ (if_pos (by omega)).symm
    exact congrArg (prod m c · n) (Fin.ext (by simp only [e]; omega))

set_option maxHeartbeats 2000000 in
/-- The first eight rows' value. -/
theorem pay13_at (c : Dev nD) (t : Fin cfg0.N) (P Q : FVec Ideal S8x512 .f32) (r : Fin 8) (q : Fin 512) (i : Fin 16384) (a b : Fin 11264)
    (hi : i.val = t.val % 32 * 512 + r.val) (ha : a.val = t.val / 32 * 512 + q.val) (hb : b.val = 5632 + t.val / 32 * 512 + q.val)
    (hP : ∀ r' : Fin 8, P (ix2 r' q) = if h : 0 < t.val % 32 then prod m c ⟨(t.val % 32 - 1) * 512 + 504 + r'.val, by omega⟩ a else 0)
    (hQ : ∀ r' : Fin 8, Q (ix2 r' q) = if h : 0 < t.val % 32 then prod m c ⟨(t.val % 32 - 1) * 512 + 504 + r'.val, by omega⟩ b else 0) :
    k0_pay13 (k0_pay11 (k0_pay4 (iblk m c 0 t) (iblk m c 2 t)) Q) (iblk m c 5 t)
            (k0_pay12 (k0_pay3 (iblk m c 0 t) (iblk m c 1 t)) P (iblk m c 3 t)) (iblk m c 4 t) (iblk m c 6 t) (ix2 r q) = gated m c i a b := by

  have h3 : ∀ (r' : Fin 512) (h : r'.val < 8), k0_pay3 (iblk m c 0 t) (iblk m c 1 t) (ix2 r' q) = prod m c ⟨t.val % 32 * 512 + r'.val, by omega⟩ a :=
    fun r' h => pay3_at m c t r' q _ a rfl ha
  have h4 : ∀ (r' : Fin 512) (h : r'.val < 8), k0_pay4 (iblk m c 0 t) (iblk m c 2 t) (ix2 r' q) = prod m c ⟨t.val % 32 * 512 + r'.val, by omega⟩ b :=
    fun r' h => pay4_at m c t r' q _ b rfl hb
  have p1 := from16 m c r q 1 (Or.inl rfl) i a P _ _ hi hP h3
  have p2 := from16 m c r q 2 (Or.inr rfl) i a P _ _ hi hP h3
  have q1 := from16 m c r q 1 (Or.inl rfl) i b Q _ _ hi hQ h4
  have q2 := from16 m c r q 2 (Or.inr rfl) i b Q _ _ hi hQ h4
  pointwise [k0_pay13, k0_pay12, k0_pay11]
  rw [w3 m c t q 2 a ha, w3 m c t q 1 a ha, w3 m c t q 0 a ha, w4 m c t q 2 b hb, w4 m c t q 1 b hb, w4 m c t q 0 b hb, w5 m c t q a ha, w6 m c t q b hb]
  rw [pay3_at m c t ⟨r.val, _⟩ q i a hi ha, pay4_at m c t ⟨r.val, _⟩ q i b hi hb]
  rw [p1, p2, q1, q2]
  rw [zero_sub]

/-- The last eight rows of a point's two products. -/
theorem carry (c : Dev nD) (t : Fin cfg0.N) (r : Fin 8) (q : Fin 512) (a b : Fin 11264)
    (ha : a.val = t.val / 32 * 512 + q.val) (hb : b.val = 5632 + t.val / 32 * 512 + q.val) :
    k0_pay14 (k0_pay3 (iblk m c 0 t) (iblk m c 1 t)) (ix2 r q) = prod m c ⟨t.val % 32 * 512 + 504 + r.val, by omega⟩ a
      ∧ k0_pay15 (k0_pay4 (iblk m c 0 t) (iblk m c 2 t)) (ix2 r q) = prod m c ⟨t.val % 32 * 512 + 504 + r.val, by omega⟩ b := by
  constructor
  · pointwise [k0_pay14]
    exact pay3_at m c t _ q _ a (by simp only; omega) ha
  · pointwise [k0_pay15]
    exact pay4_at m c t _ q _ b (by simp only; omega) hb

/-- What a point leaves for the next: the last eight rows of its two products. -/
theorem carries (c : Dev nD) (t : ℕ) (h : t < cfg0.N) (r : Fin 8) (q : Fin 512) (a b : Fin 11264)
    (ha : a.val = t / 32 * 512 + q.val) (hb : b.val = 5632 + t / 32 * 512 + q.val) :
    (outsAt0 m c t h).2.1 (ix2 r q) = prod m c ⟨t % 32 * 512 + 504 + r.val, by omega⟩ a
      ∧ (outsAt0 m c t h).2.2 (ix2 r q) = prod m c ⟨t % 32 * 512 + 504 + r.val, by omega⟩ b := by
  by_cases h0 : t % 32 = 0
  · rw [outsAt0_A m c ⟨t, h⟩ h0]
    frame_out
    exact carry m c ⟨t, h⟩ r q a b ha hb
  · rw [outsAt0_B m c ⟨t, h⟩ h0]
    frame_out
    exact carry m c ⟨t, h⟩ r q a b ha hb

/-- The block a point writes: its first eight rows, then the rest. -/
theorem block (c : Dev nD) (t : Fin cfg0.N) (P Q : FVec Ideal S8x512 .f32) (y : S512x512.Idx) (i : Fin 16384) (a b : Fin 11264)
    (hi : i.val = t.val % 32 * 512 + (y 0).val) (ha : a.val = t.val / 32 * 512 + (y 1).val) (hb : b.val = 5632 + t.val / 32 * 512 + (y 1).val)
    (hP : ∀ r' : Fin 8, P (ix2 r' (y 1)) = if h : 0 < t.val % 32 then prod m c ⟨(t.val % 32 - 1) * 512 + 504 + r'.val, by omega⟩ a else 0)
    (hQ : ∀ r' : Fin 8, Q (ix2 r' (y 1)) = if h : 0 < t.val % 32 then prod m c ⟨(t.val % 32 - 1) * 512 + 504 + r'.val, by omega⟩ b else 0) :
    View.canon (Val := Elt Ideal) (s := S512x512) (e := .bf16)
      [⟨Rect.unit ![0, 0] ![8, 512] inb_S512x512_S8x512_0_0,
          k0_pay13 (k0_pay11 (k0_pay4 (iblk m c 0 t) (iblk m c 2 t)) Q) (iblk m c 5 t)
            (k0_pay12 (k0_pay3 (iblk m c 0 t) (iblk m c 1 t)) P (iblk m c 3 t)) (iblk m c 4 t) (iblk m c 6 t)⟩,
        ⟨Rect.unit ![0, 0] ![512, 512] inb_S512x512_S512x512_0_0,
          k0_pay10 (k0_pay4 (iblk m c 0 t) (iblk m c 2 t))
            (k0_pay5 (iblk m c 0 t) (iblk m c 1 t) (iblk m c 3 t) (iblk m c 5 t)) (k0_pay6 (iblk m c 4 t))
            (iblk m c 6 t) (k0_pay7 (iblk m c 0 t) (iblk m c 2 t) (iblk m c 4 t)) (k0_pay8 (iblk m c 4 t))
            (k0_pay9 (iblk m c 0 t) (iblk m c 2 t))⟩]
      y = gated m c i a b := by
  by_cases h : (y 0).val < 8
  · have e : y = (Rect.unit (s := S512x512) ![0, 0] ![8, 512] inb_S512x512_S8x512_0_0).emb (ix2 (n0 := 8) (n1 := 512) ⟨(y 0).val, h⟩ (y 1)) := by
      refine funext fun k => Fin.ext ?_
      match k with
      | ⟨0, _⟩ => show (y 0).val = 0 + 1 * (y 0).val; omega
      | ⟨1, _⟩ => show (y 1).val = 0 + 1 * (y 1).val; omega
    refine (congrArg _ e).trans ((View.canon_cons_emb _ _ _ _).trans ?_)
    exact pay13_at m c t P Q ⟨(y 0).val, h⟩ (y 1) i a b hi ha hb hP hQ
  · refine (View.canon_cons_of_not_mem _ _ fun hm => h ?_).trans ?_
    · have := (Rect.mem_set_unit.1 (show y ∈ (Rect.unit (s := S512x512) ![0, 0] ![8, 512] inb_S512x512_S8x512_0_0).set from hm) 0).2
      exact this
    · refine (congrFun (View.canon_cons_unit_lit _ _ _ (by decide)) y).trans ?_
      obtain ⟨r, q, rfl⟩ : ∃ r q, y = ix2 r q := ⟨y 0, y 1, eq_ix2 y⟩
      exact pay10_at m c t r q (Nat.le_of_not_lt h) i a b hi ha hb

/-- The blocks written back tile the result. -/
theorem covers : (cfg0.win 7).Covers := by decide +kernel

theorem final (c : Dev nD) : (dats m 0 c).arrAt 7 cfg0.N = G m c := by
  refine (dats m 0 c).arrAt_eq_of_covers 7 _ covers fun t hf y => ?_
  blk_simp
  rw [after0_7]
  have ht : t.val < 352 := t.isLt
  have hn : cfg0.N = 352 := rfl
  have hy0 : (y 0).val < 512 := (y 0).isLt
  have hy1 : (y 1).val < 512 := (y 1).isLt
  have hG := G_at m c (((View.whole main_v3).slice (win0_7.rect t)).emb y) ⟨t.val / 32 * 512 + (y 1).val, by omega⟩ ⟨5632 + t.val / 32 * 512 + (y 1).val, by omega⟩
    (by blk_simp [idx t]) (by blk_simp [idx t]; simp only; omega)
  refine Eq.trans ?_ hG.symm
  by_cases h0 : t.val % 32 = 0
  · rw [outsAt0_A m c t h0]
    frame_out
    refine block m c t _ _ y _ _ _ (by blk_simp [idx t]) rfl rfl (fun r' => ?_) (fun r' => ?_)
    · rw [dif_neg (by omega)]
      pointwise [k0_pay1]
    · rw [dif_neg (by omega)]
      pointwise [k0_pay2]
  · rw [outsAt0_B m c t h0]
    frame_out
    simp only [read_unread_whole]
    have d : (t.val - 1) / 32 = t.val / 32 := by omega
    have e : (t.val - 1) % 32 = t.val % 32 - 1 := by omega
    refine block m c t _ _ y _ _ _ (by blk_simp [idx t]) rfl rfl (fun r' => ?_) (fun r' => ?_)
    · rw [dif_pos (by omega)]
      refine ((carries m c (t.val - 1) _ r' (y 1) ⟨t.val / 32 * 512 + (y 1).val, by omega⟩ ⟨5632 + t.val / 32 * 512 + (y 1).val, by omega⟩ (by simp only [d]) (by simp only [d])).1).trans ?_
      simp only [e]
    · rw [dif_pos (by omega)]
      refine ((carries m c (t.val - 1) _ r' (y 1) ⟨t.val / 32 * 512 + (y 1).val, by omega⟩ ⟨5632 + t.val / 32 * 512 + (y 1).val, by omega⟩ (by simp only [d]) (by simp only [d])).2).trans ?_
      simp only [e]

/-- The kernel and the reference end with the same result. -/
theorem algebraic : algebraic_UpIdeal_UpRefIdeal := fun m ρ m' ρ' _ hag =>
  ⟨fun c => G m c,
    (θ_run _ _ _).mono (fun _ h c => ⟨(h c).1.trans (final m c), (h c).2⟩) (Cert.UpIdeal.Value.run_blocks m ρ),
    (θ_run _ _ _).mono (fun _ h c => by
      obtain ⟨a0, a1, a2, a3⟩ := hag c
      exact ⟨(h c).1.trans (by rw [Cert.UpRefIdeal.Read.val_main_v33_eq, a0, a1, a2, a3]), (h c).2⟩) (Cert.UpRefIdeal.Value.run m' ρ')⟩

/-- The reference changes no argument and leaves every semaphore at zero. -/
theorem frame_ref : quiescent_UpRefIdeal := fun m ρ _ =>
  (θ_run Cert.UpRefIdeal.defs _ _).mono (fun r h => ⟨fun c => (h c).2, Idealize.ShloMosaic.sem_eq_zero_of_no_sems (by decide) r.2⟩)
    (Cert.UpRefIdeal.Value.run (F := Ideal) m ρ)

end Cert.UpIdeal.Proved

end
-- ==== Proof.OutValue.lean ====
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise
public import Idealize.ShloMosaic.Lib.Claim
public import Idealize.ShloMosaic.Lib.Quiescent

/-! The output projection: the residual sum, and its root-mean-square normalisation. -/

@[expose] public section

set_option maxRecDepth 16384

noncomputable section

namespace Cert.OutIdeal.Proved

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The residual sum as one function of the arguments: the reference's own. -/
abbrev G6 (c : Dev nD) : Buf (Elt Ideal) ((c : Thread nD τ).loc main_v3_0) :=
  Cert.OutRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Where the windows' blocks lie at a point. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0] := by decide +kernel

/-- The normalised rows as one function of the arguments: the reference's own. -/
abbrev G7 (c : Dev nD) : Buf (Elt Ideal) ((c : Thread nD τ).loc main_v3_1) :=
  Cert.OutRefIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The block of the residual sum that a point computes, at an index, in the reference's words. -/
theorem block6 (c : Dev nD) (t : Fin cfg0.N) (y : S512x2048.Idx) (j : S16384x2048.Idx) (h0 : (j 0).val = t.val * 512 + (y 0).val) (h1 : (j 1).val = (y 1).val) :
    k0_pay2 (iblk m c 1 t) (iblk m c 4 t) (iblk m c 2 t) (iblk m c 0 t) (View.ld (iblk m c 3 t) r0_3) (View.ld (iblk m c 3 t) r0_4) y = G6 m c j := by
  pointwise [k0_pay2, G6, Cert.OutRefIdeal.Read.val_main_v20, Cert.OutRefIdeal.Read.val_main_v19, Cert.OutRefIdeal.Read.val_main_v18, Cert.OutRefIdeal.Read.val_main_v17, Cert.OutRefIdeal.Read.val_main_v16, Cert.OutRefIdeal.Read.val_main_v15, Cert.OutRefIdeal.Read.val_main_v14, Cert.OutRefIdeal.Read.val_main_v13, Cert.OutRefIdeal.Read.val_main_v12, Cert.OutRefIdeal.Read.val_main_v11, Cert.OutRefIdeal.Read.val_main_v10, Cert.OutRefIdeal.Read.val_main_v9, Cert.OutRefIdeal.Read.val_main_v8, Cert.OutRefIdeal.Read.val_main_v7, Cert.OutRefIdeal.Read.val_main_v6, Cert.OutRefIdeal.Read.val_main_v5, Cert.OutRefIdeal.Read.val_main_v4, Cert.OutRefIdeal.Read.val_main_v3, Cert.OutRefIdeal.Read.val_main_v2, Cert.OutRefIdeal.Read.val_main_v1, Cert.OutRefIdeal.Read.val_main_v0, Cert.OutRefIdeal.Read.val_main_cst, Cert.OutRefIdeal.Read.val_main_cst_0, Cert.OutRefIdeal.Read.val_main_cst_1]
  rw [add_assoc]
  blk_point [iblk, V, idx t, h0, h1]

/-- The residual sum's array after the run is the reference's. -/
theorem final6 (c : Dev nD) : (dats m 0 c).arrAt 6 cfg0.N = G6 m c := by
  refine (dats m 0 c).arrAt_eq_of_covers 6 _ (by decide +kernel) fun t hf y => ?_
  blk_simp
  rw [after0_6]
  frame_out
  exact block6 m c t _ _ (by blk_simp [idx t]) (by blk_simp [idx t])

/-- The normalised rows' array after the run is the reference's. -/
theorem final7 (c : Dev nD) : (dats m 0 c).arrAt 7 cfg0.N = G7 m c := by
  refine (dats m 0 c).arrAt_eq_of_covers 7 _ (by decide +kernel) fun t hf y => ?_
  blk_simp
  rw [after0_7]
  frame_out
  pointwise [k0_pay1, k0_pay3, G7, Cert.OutRefIdeal.Read.val_main_v35, Cert.OutRefIdeal.Read.val_main_v34, Cert.OutRefIdeal.Read.val_main_v33, Cert.OutRefIdeal.Read.val_main_v32, Cert.OutRefIdeal.Read.val_main_v31, Cert.OutRefIdeal.Read.val_main_v30, Cert.OutRefIdeal.Read.val_main_v29, Cert.OutRefIdeal.Read.val_main_v28, Cert.OutRefIdeal.Read.val_main_v27, Cert.OutRefIdeal.Read.val_main_v26, Cert.OutRefIdeal.Read.val_main_v25, Cert.OutRefIdeal.Read.val_main_v24, Cert.OutRefIdeal.Read.val_main_v23, Cert.OutRefIdeal.Read.val_main_v22, Cert.OutRefIdeal.Read.val_main_v21, Cert.OutRefIdeal.Read.val_main_cst_2, Cert.OutRefIdeal.Read.val_main_cst_3, Cert.OutRefIdeal.Read.val_main_cst_4]
  have hrow : ∀ k : Fin 2048, k0_pay2 (iblk m c 1 t) (iblk m c 4 t) (iblk m c 2 t) (iblk m c 0 t) (View.ld (iblk m c 3 t) r0_3) (View.ld (iblk m c 3 t) r0_4) (ix2 (y 0) k)
      = G6 m c (ix2 (((View.whole main_v3_1).slice (win0_7.rect t)).emb y 0) k) := fun k =>
    block6 m c t _ _ (by blk_simp [idx t]) rfl
  refine congrArg₂ (· * ·) (congrArg₂ (· * ·) (block6 m c t _ _ (by blk_simp [idx t]) (by blk_simp [idx t])) (congrArg Ideal.rsqrt (congrArg₂ (· + ·) (congrArg₂ Ideal.div
    (Finset.sum_congr rfl fun k _ => congrArg₂ (· * ·) (hrow k) (hrow k)) rfl) rfl))) ?_
  blk_ext [iblk, V, idx t]

/-- The kernel and the reference end with the same results. -/
theorem algebraic : algebraic_OutIdeal_OutRefIdeal := fun m ρ m' ρ' _ hag =>
  ⟨fun c => G6 m c, fun c => G7 m c,
    (θ_run _ _ _).mono (fun _ h c => ⟨(h c).1.trans (final6 m c), (h c).2.1.trans (final7 m c), (h c).2.2⟩) (Cert.OutIdeal.Value.run_blocks m ρ),
    (θ_run _ _ _).mono (fun _ h c => by
      obtain ⟨a0, a1, a2, a3, a4, a5⟩ := hag c
      exact ⟨(h c).1.trans (by rw [Cert.OutRefIdeal.Read.val_main_v20_eq, a0, a1, a2, a3, a4]),
        (h c).2.1.trans (by rw [Cert.OutRefIdeal.Read.val_main_v35_eq, a0, a1, a2, a3, a4, a5]), (h c).2.2⟩) (Cert.OutRefIdeal.Value.run m' ρ')⟩

/-- The reference changes no argument. -/
theorem frame_ref : quiescent_OutRefIdeal := fun m ρ _ =>
  (θ_run Cert.OutRefIdeal.defs _ _).mono (fun r h => ⟨fun c => (h c).2.2, Idealize.ShloMosaic.sem_eq_zero_of_no_sems (by decide) r.2⟩)
    (Cert.OutRefIdeal.Value.run (F := Ideal) m ρ)

end Cert.OutIdeal.Proved

end
-- ==== Proof.InMath.lean ====
module

public import proofs.«01_k».proof.Defs
public import Idealize.ShloMosaic.Lib.Pointwise
public import Idealize.ShloMosaic.Lib.KernelVsHost

/-! The forget gate: the logarithm the reference takes of it in the logarithms' own arithmetic is the logarithm of the gate. -/

@[expose] public section

noncomputable section

namespace Cert.InIdeal.Proved

open Idealize.ShloMosaic

/-- The larger of two real numbers, as an extended real. -/
theorem coe_max (a b : ℝ) : ((max a b : ℝ) : EReal) = max (a : EReal) (b : EReal) :=
  EReal.coe_strictMono.monotone.map_max

/-- The logarithm of one. -/
theorem log_one : Ideal.log 1 = 0 := by
  rw [← EReal.coe_one, Ideal.log_coe, if_neg (by norm_num), Real.log_one, EReal.coe_zero]

/-- One and infinity. -/
theorem one_add_top : (1 : EReal) + ⊤ = ⊤ := by
  rw [← EReal.coe_one]; exact EReal.coe_add_top 1

/-- The logistic function of any extended real is a real number between zero and one. -/
theorem sigmoid_real (x : EReal) : ∃ s : ℝ, Ideal.div 1 (1 + Ideal.exp (-x)) = (s : EReal) ∧ 0 ≤ s ∧ s ≤ 1 := by
  change ∃ s : ℝ, Ideal.logistic x = (s : EReal) ∧ 0 ≤ s ∧ s ≤ 1
  induction x with
  | bot => exact ⟨0, by simp [Ideal.logistic, Ideal.div, one_add_top], le_rfl, zero_le_one⟩
  | top => exact ⟨1, by simp, zero_le_one, le_rfl⟩
  | coe r =>
    refine ⟨_, Ideal.logistic_coe r, by positivity, ?_⟩
    exact inv_le_one_of_one_le₀ (by linarith [Real.exp_pos (-r)])

/-- The negated softplus of the negated argument, written by its maximum, is the logarithm of the logistic function. -/
theorem log_sigmoid (x : EReal) :
    -(max (-x) 0 + Ideal.log (1 + Ideal.exp (-max (-x) (- -x)))) = Ideal.log (Ideal.div 1 (1 + Ideal.exp (-x))) := by
  change _ = Ideal.log (Ideal.logistic x)
  induction x with
  | bot =>
    simp [Ideal.logistic, Ideal.div, one_add_top, log_one]
    rw [← EReal.coe_zero, Ideal.log_coe, if_pos le_rfl]
  | top => simp [Ideal.logistic, Ideal.div, log_one]
  | coe r =>
    rw [Ideal.logistic_coe, Ideal.log_coe]
    have hp : (0 : ℝ) < (1 + Real.exp (-r))⁻¹ := by positivity
    rw [if_neg (not_le.2 hp), Real.log_inv]
    have e1 : Ideal.exp (-max (-(r : EReal)) (- -(r : EReal))) = ((Real.exp (-max (-r) r) : ℝ) : EReal) := by
      rw [neg_neg, ← EReal.coe_neg, ← coe_max, ← EReal.coe_neg, Ideal.exp_coe]
    have hq : (0 : ℝ) < 1 + Real.exp (-max (-r) r) := by positivity
    rw [e1, ← EReal.coe_one, ← EReal.coe_add, Ideal.log_coe, if_neg (not_le.2 hq), ← EReal.coe_neg, ← EReal.coe_zero, ← coe_max,
      ← EReal.coe_add, ← EReal.coe_neg, EReal.coe_eq_coe_iff, neg_inj]
    rcases le_total r 0 with h | h
    · rw [max_eq_left (by linarith : (0:ℝ) ≤ -r), max_eq_left (by linarith : r ≤ -r)]
      have : 1 + Real.exp (-r) = Real.exp (-r) * (1 + Real.exp (- -r)) := by
        rw [mul_add, ← Real.exp_add]; simp [add_comm]
      rw [this, Real.log_mul (Real.exp_pos _).ne' (by positivity), Real.log_exp]
    · rw [max_eq_right (by linarith : -r ≤ (0:ℝ)), max_eq_right (by linarith : -r ≤ r), zero_add]

/-- The logarithm of a sum by its parts' logarithms, for a positive part and one that may be zero. -/
theorem logaddexp (l s : ℝ) (h0 : 0 < l) (h1 : l < 1) (hs : 0 ≤ s) :
    max (Ideal.log (l : EReal)) (Ideal.log (1 + -(l : EReal)) + Ideal.log (s : EReal))
      + Ideal.log (1 + Ideal.exp (-max (Ideal.log (l : EReal) - (Ideal.log (1 + -(l : EReal)) + Ideal.log (s : EReal)))
          (-(Ideal.log (l : EReal) - (Ideal.log (1 + -(l : EReal)) + Ideal.log (s : EReal))))))
      = Ideal.log ((l : EReal) + (1 - (l : EReal)) * (s : EReal)) := by
  have hl' : (0 : ℝ) < 1 + -l := by linarith
  have e0 : Ideal.log (l : EReal) = (Real.log l : EReal) := by rw [Ideal.log_coe, if_neg (not_le.2 h0)]
  have e1 : Ideal.log (1 + -(l : EReal)) = (Real.log (1 + -l) : EReal) := by
    rw [← EReal.coe_neg, ← EReal.coe_one, ← EReal.coe_add, Ideal.log_coe, if_neg (not_le.2 hl')]
  have e2 : (l : EReal) + (1 - (l : EReal)) * (s : EReal) = ((l + (1 - l) * s : ℝ) : EReal) := by
    rw [← EReal.coe_one, ← EReal.coe_sub, ← EReal.coe_mul, ← EReal.coe_add]
  have hsum : 0 < l + (1 - l) * s := by nlinarith
  rw [e0, e1, e2, Ideal.log_coe (l + _), if_neg (not_le.2 hsum)]
  rcases hs.eq_or_lt with rfl | hs
  · have : Ideal.log ((0 : ℝ) : EReal) = ⊥ := by rw [Ideal.log_coe, if_pos le_rfl]
    rw [this, EReal.add_bot, max_eq_left bot_le, sub_eq_add_neg, EReal.neg_bot, EReal.coe_add_top, max_eq_left le_top, EReal.neg_top,
      Ideal.exp_bot, add_zero, ← EReal.coe_one, Ideal.log_coe, if_neg (by norm_num), Real.log_one, ← EReal.coe_add]
    simp
  · rw [Ideal.log_coe s, if_neg (not_le.2 hs), ← EReal.coe_add, ← coe_max, ← EReal.coe_sub, ← EReal.coe_neg, ← coe_max,
      ← EReal.coe_neg, Ideal.exp_coe, ← EReal.coe_one, ← EReal.coe_add, Ideal.log_coe, if_neg (not_le.2 (by positivity)), ← EReal.coe_add,
      EReal.coe_eq_coe_iff, ← Real.log_mul hl'.ne' hs.ne']
    have hb : 0 < (1 + -l) * s := by positivity
    have hr : l + (1 - l) * s = l + (1 + -l) * s := by ring
    rw [hr]
    generalize (1 + -l) * s = b at hb
    rcases le_total (Real.log l) (Real.log b) with h | h
    · rw [max_eq_right h, max_eq_right (by linarith), neg_neg, Real.exp_sub, Real.exp_log h0, Real.exp_log hb,
        ← Real.log_mul hb.ne' (by positivity)]
      congr 1; field_simp; ring
    · rw [max_eq_left h, max_eq_left (by linarith), neg_sub, Real.exp_sub, Real.exp_log h0, Real.exp_log hb,
        ← Real.log_mul h0.ne' (by positivity)]
      congr 1; field_simp

/-- One less the gate, by the gate's logarithm. -/
theorem one_sub_gate (l s : ℝ) (h0 : 0 < l) (h1 : l < 1) (hs : 0 ≤ s) :
    -(Ideal.exp (Ideal.log ((l : EReal) + (1 - (l : EReal)) * (s : EReal))) - 1) = (1 - (l : EReal)) * (1 - (s : EReal)) := by
  have e2 : (l : EReal) + (1 - (l : EReal)) * (s : EReal) = ((l + (1 - l) * s : ℝ) : EReal) := by
    rw [← EReal.coe_one, ← EReal.coe_sub, ← EReal.coe_mul, ← EReal.coe_add]
  have hsum : 0 < l + (1 - l) * s := by nlinarith
  rw [e2, Ideal.log_coe, if_neg (not_le.2 hsum), Ideal.exp_coe, Real.exp_log hsum, ← EReal.coe_one, ← EReal.coe_sub, ← EReal.coe_sub,
    ← EReal.coe_sub, ← EReal.coe_mul, ← EReal.coe_neg, EReal.coe_eq_coe_iff]
  ring

/-- The softmax of two real numbers is a real number strictly between zero and one. -/
theorem softmax_two (a b M : ℝ) : ∃ l : ℝ, Ideal.div (Ideal.exp ((a : EReal) - (M : EReal)))
    (Ideal.exp ((a : EReal) - (M : EReal)) + Ideal.exp ((b : EReal) - (M : EReal))) = (l : EReal) ∧ 0 < l ∧ l < 1 := by
  have pa := Real.exp_pos (a - M)
  have pb := Real.exp_pos (b - M)
  refine ⟨Real.exp (a - M) * (1 / (Real.exp (a - M) + Real.exp (b - M))), ?_, by positivity, ?_⟩
  · rw [← EReal.coe_sub, ← EReal.coe_sub, Ideal.exp_coe, Ideal.exp_coe, ← EReal.coe_add, Ideal.div_coe (by positivity), EReal.coe_mul]
  · rw [mul_one_div, div_lt_one (by positivity)]; linarith

end Cert.InIdeal.Proved

end
-- ==== Proof.InRef.lean ====
module

public import proofs.«01_k».proof.Defs
public import proofs.«01_k».proof.Proof.Gen.InRefIdeal.Read
public import Idealize.ShloMosaic.Lib.Pointwise
public import Idealize.ShloMosaic.Lib.KernelVsHost
public import proofs.«01_k».proof.Proof.InMath

/-! What the reference of the input projection holds at an index, group of columns by group of columns. -/

@[expose] public section

set_option maxRecDepth 16384

noncomputable section

namespace Cert.InRefIdeal.Proved

open Cert.InRefIdeal Cert.InRefIdeal.Read Idealize.ShloMosaic Cert.InIdeal.Proved

variable (x0 : S1x16384x2048.Idx → EReal) (x1 : S1x2048.Idx → EReal) (x2 : S1x2048x7168.Idx → EReal) (x3 : S2x1024.Idx → EReal)
  (x4 x5 : S1x128.Idx → EReal)

/-- The logistic function. -/
abbrev sigm (a : EReal) : EReal := Ideal.div 1 (1 + Ideal.exp (-a))

/-- One head's normalised values, from the row's projections: the head's columns begin at `b`. -/
abbrev head (P : Fin 7168 → EReal) (b : ℕ) (hb : b + 128 ≤ 7168) (z : Fin 128) : EReal :=
  P ⟨b + z.val, by omega⟩ * Ideal.rsqrt
    (Ideal.div (∑ x : Fin 128, P ⟨b + x.val, by omega⟩ * P ⟨b + x.val, by omega⟩) (Ideal.ofBits .f32 0x43000000#32) + Ideal.ofBits .f32 0x358637BD#32)

/-- A row's projection. -/
abbrev row (i : Fin 16384) (n : Fin 7168) : EReal := val_main_v16 (F := Ideal) x0 x1 x2 (ix2 i n)

/-- A row's projection is the sum of the normalised row's products with a column of the weights. -/
theorem row_eq (i : Fin 16384) (n : Fin 7168) :
    row x0 x1 x2 i n = ∑ x : Fin 2048, val_main_v14 (F := Ideal) x0 x1 (ix2 i x) * x2 (ix3 0 x n) := by
  show val_main_v16 (F := Ideal) x0 x1 x2 (ix2 i n) = _
  pointwise [val_main_v16, val_main_v15]

/-- The first row of the running sum down the rows is the first row. -/
theorem window_at (x : FVec Ideal S2x1024 .f32) (z : S_.Idx → EReal) (hz : ∀ i, z i = 0) (d : Fin 1024) (h) (hu) :
    Host.reduceWindowAdd (F := Ideal) (φ := .f32) (t := S2x1024) ![2, 1] ![1, 1] ![1, 0] ![0, 0] x z h hu (ix2 0 d) = x (ix2 0 d) := by
  change Host.reduceWindow (fun a b : EReal => a + b) ![2, 1] ![1, 1] ![1, 0] ![0, 0] x (fun _ : S_.Idx => z (Shape.Idx.first hu)) h hu (ix2 0 d) = _
  unfold Host.reduceWindow
  rw [hz]
  dsimp only
  have e : List.finRange (⟨S2x1024.rank, ![2, 1]⟩ : Shape).numel = [⟨0, by decide⟩, ⟨1, by decide⟩] := by decide
  rw [e]
  have r0 : ((⟨2, ![2, 1]⟩ : Shape).rowMajor.symm ⟨0, by decide⟩ 0).val = 0 := by decide
  have r1 : ((⟨2, ![2, 1]⟩ : Shape).rowMajor.symm ⟨1, by decide⟩ 0).val = 1 := by decide
  have r2 : ((⟨2, ![2, 1]⟩ : Shape).rowMajor.symm ⟨1, by decide⟩ 1).val = 0 := by decide
  have hd := d.isLt
  simp only [List.foldl]
  rw [dif_neg, dif_pos]
  · rw [zero_add, zero_add]
    refine congrArg x (funext fun a => Fin.ext ?_)
    match a with
    | ⟨0, _⟩ =>
      show 0 * 1 + ((⟨2, ![2, 1]⟩ : Shape).rowMajor.symm ⟨1, _⟩ 0).val - 1 = 0
      omega
    | ⟨1, _⟩ =>
      show d.val * 1 + ((⟨2, ![2, 1]⟩ : Shape).rowMajor.symm ⟨1, _⟩ 1).val - 0 = d.val
      omega
  · intro a
    match a with
    | ⟨0, _⟩ =>
      show 1 ≤ 0 * 1 + ((⟨2, ![2, 1]⟩ : Shape).rowMajor.symm ⟨1, _⟩ 0).val ∧ 0 * 1 + ((⟨2, ![2, 1]⟩ : Shape).rowMajor.symm ⟨1, _⟩ 0).val - 1 < 2
      omega
    | ⟨1, _⟩ =>
      show 0 ≤ d.val * 1 + ((⟨2, ![2, 1]⟩ : Shape).rowMajor.symm ⟨1, _⟩ 1).val ∧ d.val * 1 + ((⟨2, ![2, 1]⟩ : Shape).rowMajor.symm ⟨1, _⟩ 1).val - 0 < 1024
      omega
  · intro hn
    have h1 : 1 ≤ 0 * 1 + ((⟨2, ![2, 1]⟩ : Shape).rowMajor.symm ⟨0, by decide⟩ 0).val := (hn 0).1
    omega

/-- The lower bound: the softmax's first row. -/
abbrev bound (d : Fin 1024) : EReal :=
  Ideal.div (Ideal.exp (x3 (ix2 0 d) - max (x3 (ix2 0 d)) (x3 (ix2 1 d))))
    (Ideal.exp (x3 (ix2 0 d) - max (x3 (ix2 0 d)) (x3 (ix2 1 d))) + Ideal.exp (x3 (ix2 1 d) - max (x3 (ix2 0 d)) (x3 (ix2 1 d))))

theorem v26_at (d : Fin 1024) : val_main_v26 (F := Ideal) x3 (ix1 d) = max (x3 (ix2 0 d)) (x3 (ix2 1 d)) := by
  pointwise [val_main_v26, val_main_v25, val_main_cst_3, val_main_v24, val_main_cst_2]
  rw [show Ideal.ofBits .f32 0xFF800000#32 = ⊥ from by simp [Ideal.ofBits, Ideal.ieee]]
  rw [show (Finset.univ : Finset (Fin 2)) = {0, 1} from by decide]
  simp

theorem v37_at (d : Fin 1024) : val_main_v37 (F := Ideal) x3 (ix1 d) = bound x3 d := by
  pointwise [val_main_v37, val_main_v36, val_main_v35]
  refine (window_at _ _ (fun i => by pointwise [val_main_call0_call0_v0, val_main_call0_call0_cst]) d _ _).trans ?_
  pointwise [val_main_v34, val_main_v33, val_main_v32, val_main_v31, val_main_cst_4, val_main_v30, val_main_v29, val_main_v28, val_main_v27, v26_at]
  exact congrArg _ (Fin.sum_univ_two _)

/-- The lower bound is a real number strictly between zero and one. -/
theorem bound_real (d : Fin 1024) (hx : ∀ j, ∃ r : ℝ, x3 j = (r : EReal)) : ∃ l : ℝ, bound x3 d = (l : EReal) ∧ 0 < l ∧ l < 1 := by
  obtain ⟨a, ha⟩ := hx (ix2 0 d)
  obtain ⟨b, hb⟩ := hx (ix2 1 d)
  show ∃ l : ℝ, Ideal.div (Ideal.exp (x3 (ix2 0 d) - max (x3 (ix2 0 d)) (x3 (ix2 1 d))))
    (Ideal.exp (x3 (ix2 0 d) - max (x3 (ix2 0 d)) (x3 (ix2 1 d))) + Ideal.exp (x3 (ix2 1 d) - max (x3 (ix2 0 d)) (x3 (ix2 1 d)))) = (l : EReal) ∧ 0 < l ∧ l < 1
  rw [ha, hb, ← coe_max]
  exact softmax_two a b (max a b)

/-- The gate's logarithm, the second result. -/
theorem v58_at (i : Fin 16384) (d : Fin 1024) (n : Fin 7168) (hn : n.val = 1024 + d.val) (hx : ∀ j, ∃ r : ℝ, x3 j = (r : EReal)) :
    val_main_v58 (F := Ideal) x0 x1 x2 x3 (ix2 i d) = Ideal.log (bound x3 d + (1 - bound x3 d) * sigm (row x0 x1 x2 i n)) := by
  obtain ⟨n, ln⟩ := n
  dsimp only at hn
  subst hn
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v40, val_main_v39, val_main_v38, val_main_v18, v37_at]
  simp only [ne_self_iff_false, if_false, Ideal.log1p, Ideal.absf_def]
  rw [log_sigmoid]
  obtain ⟨l, hl, l0, l1⟩ := bound_real x3 d hx
  obtain ⟨s, hs, s0, _⟩ := sigmoid_real (row x0 x1 x2 i ⟨1024 + d.val, ln⟩)
  show _ = Ideal.log (bound x3 d + (1 - bound x3 d) * Ideal.div 1 (1 + Ideal.exp (-row x0 x1 x2 i ⟨1024 + d.val, ln⟩)))
  rw [hl, hs]
  exact logaddexp l s l0 l1 s0

set_option maxHeartbeats 2000000 in
/-- The columns of the first result, group by group. -/
theorem v98_at (i : Fin 16384) (n : Fin 7168) (q : Fin 1024) :
    (n.val = q.val → val_main_v98 (F := Ideal) x0 x1 x2 x3 x4 x5 (ix2 i n) = val_main_v61 (F := Ideal) x0 x1 x2 (ix2 i q))
    ∧ (n.val = 1024 + q.val → val_main_v98 (F := Ideal) x0 x1 x2 x3 x4 x5 (ix2 i n) = val_main_v60 (F := Ideal) x0 x1 x2 x3 (ix2 i q))
    ∧ (n.val = 2048 + q.val → val_main_v98 (F := Ideal) x0 x1 x2 x3 x4 x5 (ix2 i n) = val_main_v19 (F := Ideal) x0 x1 x2 (ix2 i q))
    ∧ (n.val = 3072 + q.val → val_main_v98 (F := Ideal) x0 x1 x2 x3 x4 x5 (ix2 i n) = val_main_v96 (F := Ideal) x0 x1 x2 (ix2 i q))
    ∧ (n.val = 4096 + q.val → val_main_v98 (F := Ideal) x0 x1 x2 x3 x4 x5 (ix2 i n) = val_main_v79 (F := Ideal) x0 x1 x2 x4 (ix2 i q))
    ∧ (n.val = 5120 + q.val → val_main_v98 (F := Ideal) x0 x1 x2 x3 x4 x5 (ix2 i n) = val_main_v95 (F := Ideal) x0 x1 x2 x5 (ix2 i q))
    ∧ (n.val = 6144 + q.val → val_main_v98 (F := Ideal) x0 x1 x2 x3 x4 x5 (ix2 i n) = val_main_v23 (F := Ideal) x0 x1 x2 (ix2 i q)) := by
  obtain ⟨n, ln⟩ := n
  obtain ⟨q, lq⟩ := q
  dsimp only
  refine ⟨?_, ?_, ?_, ?_, ?_, ?_, ?_⟩ <;> intro hn <;> subst hn <;> pointwise [val_main_v98, val_main_v97]
  all_goals split_ifs <;> first | omega | exact congrArg _ (congrArg (ix2 i) (Fin.ext (by first | (dsimp only; omega) | dsimp only)))

/-- The first group: the projection times its logistic function. -/
theorem g0_at (i : Fin 16384) (n : Fin 7168) (q : Fin 1024) (hn : n.val = q.val) :
    val_main_v98 (F := Ideal) x0 x1 x2 x3 x4 x5 (ix2 i n) = row x0 x1 x2 i n * sigm (row x0 x1 x2 i n) := by
  rw [(v98_at x0 x1 x2 x3 x4 x5 i n q).1 hn, show n = ⟨q.val, by omega⟩ from Fin.ext hn]
  pointwise [val_main_v61, val_main_call2_v5, val_main_call2_v4, val_main_call2_v3, val_main_call2_v2, val_main_call2_v1, val_main_call2_v0, val_main_call2_cst, val_main_call2_cst_0, val_main_v17]

/-- The second group: one less the gate. -/
theorem g1_at (i : Fin 16384) (n : Fin 7168) (q : Fin 1024) (hn : n.val = 1024 + q.val) (hx : ∀ j, ∃ r : ℝ, x3 j = (r : EReal)) :
    val_main_v98 (F := Ideal) x0 x1 x2 x3 x4 x5 (ix2 i n) = (1 - bound x3 q) * (1 - sigm (row x0 x1 x2 i n)) := by
  rw [(v98_at x0 x1 x2 x3 x4 x5 i n q).2.1 hn]
  pointwise [val_main_v60, val_main_v59]
  rw [v58_at x0 x1 x2 x3 i q n hn hx]
  obtain ⟨l, hl, l0, l1⟩ := bound_real x3 q hx
  obtain ⟨s, hs, s0, _⟩ := sigmoid_real (row x0 x1 x2 i n)
  show -(Ideal.exp (Ideal.log (bound x3 q + (1 - bound x3 q) * sigm (row x0 x1 x2 i n))) - 1) = _
  rw [show sigm (row x0 x1 x2 i n) = (s : EReal) from hs, hl]
  exact one_sub_gate l s l0 l1 s0

/-- The third group: the projection. -/
theorem g2_at (i : Fin 16384) (n : Fin 7168) (q : Fin 1024) (hn : n.val = 2048 + q.val) :
    val_main_v98 (F := Ideal) x0 x1 x2 x3 x4 x5 (ix2 i n) = row x0 x1 x2 i n := by
  rw [(v98_at x0 x1 x2 x3 x4 x5 i n q).2.2.1 hn, show n = ⟨2048 + q.val, by omega⟩ from Fin.ext hn]
  pointwise [val_main_v19]

/-- The fourth group: the projection times its logistic function. -/
theorem g3_at (i : Fin 16384) (n : Fin 7168) (q : Fin 1024) (hn : n.val = 3072 + q.val) :
    val_main_v98 (F := Ideal) x0 x1 x2 x3 x4 x5 (ix2 i n) = row x0 x1 x2 i n * sigm (row x0 x1 x2 i n) := by
  rw [(v98_at x0 x1 x2 x3 x4 x5 i n q).2.2.2.1 hn, show n = ⟨3072 + q.val, by omega⟩ from Fin.ext hn]
  pointwise [val_main_v96, val_main_call3_v5, val_main_call3_v4, val_main_call3_v3, val_main_call3_v2, val_main_call3_v1, val_main_call3_v0, val_main_call3_cst, val_main_call3_cst_0, val_main_v20]

theorem v73_at (i : Fin 16384) (h : Fin 8) (z : Fin 128) :
    val_main_v73 (F := Ideal) x0 x1 x2 (ix3 i h z) = head (row x0 x1 x2 i) (4096 + h.val * 128) (by omega) z := by
  pointwise [val_main_v73, val_main_v72, val_main_v71, val_main_v70, val_main_v69, val_main_cst_7, val_main_v68, val_main_v67, val_main_cst_6, val_main_v66, val_main_v65, val_main_cst_5, val_main_v64, val_main_v62, val_main_v21]
  simp only [← Nat.add_assoc]

theorem v91_at (i : Fin 16384) (h : Fin 8) (z : Fin 128) :
    val_main_v91 (F := Ideal) x0 x1 x2 (ix3 i h z) = head (row x0 x1 x2 i) (5120 + h.val * 128) (by omega) z := by
  pointwise [val_main_v91, val_main_v90, val_main_v89, val_main_v88, val_main_v87, val_main_cst_11, val_main_v86, val_main_v85, val_main_cst_10, val_main_v84, val_main_v83, val_main_cst_9, val_main_v82, val_main_v80, val_main_v22]
  simp only [← Nat.add_assoc]

/-- The queries: a head's normalised values times the gain and the scale. -/
theorem g4_at (i : Fin 16384) (n : Fin 7168) (h : Fin 8) (z : Fin 128) (hn : n.val = 4096 + h.val * 128 + z.val) :
    val_main_v98 (F := Ideal) x0 x1 x2 x3 x4 x5 (ix2 i n)
      = head (row x0 x1 x2 i) (4096 + h.val * 128) (by omega) z * (x4 (ix2 0 z) * Ideal.ofBits .f32 0x3DB504F3#32) := by
  rw [(v98_at x0 x1 x2 x3 x4 x5 i n ⟨h.val * 128 + z.val, by omega⟩).2.2.2.2.1 (by show n.val = 4096 + (h.val * 128 + z.val); omega), ← v73_at, ← mul_assoc]
  pointwise [val_main_v79, val_main_v78, val_main_cst_8, val_main_v77, val_main_v76, val_main_v75, val_main_v74, val_main_v63]

/-- The keys: a head's normalised values times the gain. -/
theorem g5_at (i : Fin 16384) (n : Fin 7168) (h : Fin 8) (z : Fin 128) (hn : n.val = 5120 + h.val * 128 + z.val) :
    val_main_v98 (F := Ideal) x0 x1 x2 x3 x4 x5 (ix2 i n)
      = head (row x0 x1 x2 i) (5120 + h.val * 128) (by omega) z * x5 (ix2 0 z) := by
  rw [(v98_at x0 x1 x2 x3 x4 x5 i n ⟨h.val * 128 + z.val, by omega⟩).2.2.2.2.2.1 (by show n.val = 5120 + (h.val * 128 + z.val); omega), ← v91_at]
  pointwise [val_main_v95, val_main_v94, val_main_v93, val_main_v92, val_main_v81]

/-- The seventh group: the projection. -/
theorem g6_at (i : Fin 16384) (n : Fin 7168) (q : Fin 1024) (hn : n.val = 6144 + q.val) :
    val_main_v98 (F := Ideal) x0 x1 x2 x3 x4 x5 (ix2 i n) = row x0 x1 x2 i n := by
  rw [(v98_at x0 x1 x2 x3 x4 x5 i n q).2.2.2.2.2.2 hn, show n = ⟨6144 + q.val, by omega⟩ from Fin.ext hn]
  pointwise [val_main_v23]

end Cert.InRefIdeal.Proved

end
-- ==== Proof.InValue.lean ====
module

public import proofs.«01_k».proof.Defs
public import proofs.«01_k».proof.Proof.Gen.InIdeal.Value
public import proofs.«01_k».proof.Proof.Gen.InRefIdeal.Run
public import proofs.«01_k».proof.Proof.Gen.InRefIdeal.Read
public import proofs.«01_k».proof.Proof.InRef
public import Idealize.ShloMosaic.Lib.Pipeline.ValueKit
public import Idealize.ShloMosaic.Lib.Pointwise
public import Idealize.ShloMosaic.Lib.Claim
public import Idealize.ShloMosaic.Lib.Quiescent
public import Idealize.ShloMosaic.Lib.KernelVsHost

/-! The input projection: its seven groups of columns, each with its own activation, and the logarithm of the forget gate. -/

@[expose] public section

set_option maxRecDepth 16384

noncomputable section

namespace Cert.InIdeal.Proved

open Cert.InIdeal Cert.InIdeal.Gen Idealize.ShloMosaic Idealize.ShloMosaic.TcCoe Idealize.SL.Sem
open Idealize.ShloMosaic.Pipeline (Dat)
open Cert.InRefIdeal.Proved (row head bound sigm)

variable (m : (ℓ : Loc nD τ sig) → Buf (Elt Ideal) ℓ) (ρ : Dev nD → PrngReg)

/-- The activations. -/
abbrev xs (c : Dev nD) : S1x16384x2048.Idx → EReal := m ((c : Thread nD τ).loc main_arg0)

/-- The gain of the first normalisation. -/
abbrev gm (c : Dev nD) : S1x2048.Idx → EReal := m ((c : Thread nD τ).loc main_arg1)

/-- The weights. -/
abbrev ws (c : Dev nD) : S1x2048x7168.Idx → EReal := m ((c : Thread nD τ).loc main_arg2)

/-- The lower bound's parameters. -/
abbrev hl (c : Dev nD) : S2x1024.Idx → EReal := m ((c : Thread nD τ).loc main_arg3)

/-- The queries' gain. -/
abbrev qg (c : Dev nD) : S1x128.Idx → EReal := m ((c : Thread nD τ).loc main_arg4)

/-- The keys' gain. -/
abbrev kg (c : Dev nD) : S1x128.Idx → EReal := m ((c : Thread nD τ).loc main_arg5)

/-- The first result, the reference's own. -/
abbrev G6 (c : Dev nD) : S16384x7168.Idx → EReal :=
  Cert.InRefIdeal.Read.val_main_v98 (F := Ideal) (xs m c) (gm m c) (ws m c) (hl m c) (qg m c) (kg m c)

/-- The second result, the reference's own. -/
abbrev G7 (c : Dev nD) : S16384x1024.Idx → EReal :=
  Cert.InRefIdeal.Read.val_main_v58 (F := Ideal) (xs m c) (gm m c) (ws m c) (hl m c)

/-- A row's projection. -/
abbrev pj (c : Dev nD) (i : Fin 16384) (n : Fin 7168) : EReal := row (xs m c) (gm m c) (ws m c) i n

/-- Where the windows' blocks lie at a point. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0] := by decide +kernel

/-- The block of activations at an index. -/
theorem read0 (c : Dev nD) (t : Fin grid0.N) (r : Fin 256) (x : Fin 2048) (i : Fin 16384) (hi : i.val = t.val * 256 + r.val) :
    iblk m c 0 t (ix2 r x) = xs m c (ix3 0 i x) := by
  blk_point [iblk, V, idx t, hi]

/-- The gain of the first normalisation at an index. -/
theorem read1 (c : Dev nD) (t : Fin grid0.N) (x : Fin 2048) : iblk m c 1 t (ix2 0 x) = gm m c (ix2 0 x) := by
  blk_point [iblk, V, idx t]

/-- The weights at an index. -/
theorem read2 (c : Dev nD) (t : Fin grid0.N) (x : Fin 2048) (n : Fin 7168) : iblk m c 2 t (ix2 x n) = ws m c (ix3 0 x n) := by
  blk_point [iblk, V, idx t]

/-- The lower bound's parameters at an index. -/
theorem read3 (c : Dev nD) (t : Fin grid0.N) (a : Fin 2) (x : Fin 1024) : iblk m c 3 t (ix2 a x) = hl m c (ix2 a x) := by
  blk_point [iblk, V, idx t]

/-- The queries' gain at an index. -/
theorem read4 (c : Dev nD) (t : Fin grid0.N) (x : Fin 128) : iblk m c 4 t (ix2 0 x) = qg m c (ix2 0 x) := by
  blk_point [iblk, V, idx t]

/-- The keys' gain at an index. -/
theorem read5 (c : Dev nD) (t : Fin grid0.N) (x : Fin 128) : iblk m c 5 t (ix2 0 x) = kg m c (ix2 0 x) := by
  blk_point [iblk, V, idx t]

/-- The normalised activations. -/
theorem norm_at (c : Dev nD) (t : Fin grid0.N) (r : Fin 256) (x : Fin 2048) (i : Fin 16384) (hi : i.val = t.val * 256 + r.val) :
    k0_pay3 (iblk m c 0 t) (iblk m c 1 t) (ix2 r x) = Cert.InRefIdeal.Read.val_main_v14 (F := Ideal) (xs m c) (gm m c) (ix2 i x) := by
  have h0 : ∀ x, iblk m c 0 t (ix2 r x) = xs m c (ix3 0 i x) := fun x => read0 m c t r x i hi
  pointwise [k0_pay3, Cert.InRefIdeal.Read.val_main_v14, Cert.InRefIdeal.Read.val_main_v13, Cert.InRefIdeal.Read.val_main_v12, Cert.InRefIdeal.Read.val_main_v11, Cert.InRefIdeal.Read.val_main_v10, Cert.InRefIdeal.Read.val_main_v9, Cert.InRefIdeal.Read.val_main_v8, Cert.InRefIdeal.Read.val_main_v7, Cert.InRefIdeal.Read.val_main_cst_1, Cert.InRefIdeal.Read.val_main_v6, Cert.InRefIdeal.Read.val_main_v5, Cert.InRefIdeal.Read.val_main_cst_0, Cert.InRefIdeal.Read.val_main_v4, Cert.InRefIdeal.Read.val_main_v3, Cert.InRefIdeal.Read.val_main_cst, Cert.InRefIdeal.Read.val_main_v2, Cert.InRefIdeal.Read.val_main_v1, Cert.InRefIdeal.Read.val_main_v0, h0, read1 m c t]

/-- The second group's product. -/
theorem pay5_at (c : Dev nD) (t : Fin grid0.N) (r : Fin 256) (q : Fin 1024) (i : Fin 16384) (n : Fin 7168) (hi : i.val = t.val * 256 + r.val)
    (hn : n.val = 1024 + q.val) :
    k0_pay5 (iblk m c 0 t) (iblk m c 1 t) (View.ld (iblk m c 2 t) (Rect.unit ![0, 1024] ![2048, 1024] inb_S2048x7168_S2048x1024_0_1024)) (ix2 r q) = pj m c i n := by
  have h0 : ∀ x, k0_pay3 (iblk m c 0 t) (iblk m c 1 t) (ix2 r x) = Cert.InRefIdeal.Read.val_main_v14 (F := Ideal) (xs m c) (gm m c) (ix2 i x) :=
    fun x => norm_at m c t r x i hi
  obtain ⟨n, ln⟩ := n
  dsimp only at hn
  subst hn
  refine Eq.trans ?_ (Cert.InRefIdeal.Proved.row_eq (xs m c) (gm m c) (ws m c) i ⟨_, ln⟩).symm
  pointwise [k0_pay5, h0]
  exact Finset.sum_congr rfl fun x _ => congrArg (_ * ·) (read2 m c t x ⟨_, ln⟩)

/-- The third group's product. -/
theorem pay12_at (c : Dev nD) (t : Fin grid0.N) (r : Fin 256) (q : Fin 1024) (i : Fin 16384) (n : Fin 7168) (hi : i.val = t.val * 256 + r.val)
    (hn : n.val = 2048 + q.val) :
    k0_pay12 (k0_pay3 (iblk m c 0 t) (iblk m c 1 t)) (View.ld (iblk m c 2 t) (Rect.unit ![0, 2048] ![2048, 1024] inb_S2048x7168_S2048x1024_0_2048)) (ix2 r q) = pj m c i n := by
  have h0 : ∀ x, k0_pay3 (iblk m c 0 t) (iblk m c 1 t) (ix2 r x) = Cert.InRefIdeal.Read.val_main_v14 (F := Ideal) (xs m c) (gm m c) (ix2 i x) :=
    fun x => norm_at m c t r x i hi
  obtain ⟨n, ln⟩ := n
  dsimp only at hn
  subst hn
  refine Eq.trans ?_ (Cert.InRefIdeal.Proved.row_eq (xs m c) (gm m c) (ws m c) i ⟨_, ln⟩).symm
  pointwise [k0_pay12, h0]
  exact Finset.sum_congr rfl fun x _ => congrArg (_ * ·) (read2 m c t x ⟨_, ln⟩)

/-- The fourth group's product. -/
theorem pay13_at (c : Dev nD) (t : Fin grid0.N) (r : Fin 256) (q : Fin 1024) (i : Fin 16384) (n : Fin 7168) (hi : i.val = t.val * 256 + r.val)
    (hn : n.val = 3072 + q.val) :
    k0_pay13 (k0_pay3 (iblk m c 0 t) (iblk m c 1 t)) (View.ld (iblk m c 2 t) (Rect.unit ![0, 3072] ![2048, 1024] inb_S2048x7168_S2048x1024_0_3072)) (ix2 r q) = pj m c i n := by
  have h0 : ∀ x, k0_pay3 (iblk m c 0 t) (iblk m c 1 t) (ix2 r x) = Cert.InRefIdeal.Read.val_main_v14 (F := Ideal) (xs m c) (gm m c) (ix2 i x) :=
    fun x => norm_at m c t r x i hi
  obtain ⟨n, ln⟩ := n
  dsimp only at hn
  subst hn
  refine Eq.trans ?_ (Cert.InRefIdeal.Proved.row_eq (xs m c) (gm m c) (ws m c) i ⟨_, ln⟩).symm
  pointwise [k0_pay13, h0]
  exact Finset.sum_congr rfl fun x _ => congrArg (_ * ·) (read2 m c t x ⟨_, ln⟩)

/-- The queries' product. -/
theorem pay16_at (c : Dev nD) (t : Fin grid0.N) (r : Fin 256) (q : Fin 1024) (i : Fin 16384) (n : Fin 7168) (hi : i.val = t.val * 256 + r.val)
    (hn : n.val = 4096 + q.val) :
    k0_pay16 (k0_pay3 (iblk m c 0 t) (iblk m c 1 t)) (View.ld (iblk m c 2 t) (Rect.unit ![0, 4096] ![2048, 1024] inb_S2048x7168_S2048x1024_0_4096)) (ix2 r q) = pj m c i n := by
  have h0 : ∀ x, k0_pay3 (iblk m c 0 t) (iblk m c 1 t) (ix2 r x) = Cert.InRefIdeal.Read.val_main_v14 (F := Ideal) (xs m c) (gm m c) (ix2 i x) :=
    fun x => norm_at m c t r x i hi
  obtain ⟨n, ln⟩ := n
  dsimp only at hn
  subst hn
  refine Eq.trans ?_ (Cert.InRefIdeal.Proved.row_eq (xs m c) (gm m c) (ws m c) i ⟨_, ln⟩).symm
  pointwise [k0_pay16, h0]
  exact Finset.sum_congr rfl fun x _ => congrArg (_ * ·) (read2 m c t x ⟨_, ln⟩)

/-- The keys' product. -/
theorem pay31_at (c : Dev nD) (t : Fin grid0.N) (r : Fin 256) (q : Fin 1024) (i : Fin 16384) (n : Fin 7168) (hi : i.val = t.val * 256 + r.val)
    (hn : n.val = 5120 + q.val) :
    k0_pay31 (k0_pay3 (iblk m c 0 t) (iblk m c 1 t)) (View.ld (iblk m c 2 t) (Rect.unit ![0, 5120] ![2048, 1024] inb_S2048x7168_S2048x1024_0_5120)) (ix2 r q) = pj m c i n := by
  have h0 : ∀ x, k0_pay3 (iblk m c 0 t) (iblk m c 1 t) (ix2 r x) = Cert.InRefIdeal.Read.val_main_v14 (F := Ideal) (xs m c) (gm m c) (ix2 i x) :=
    fun x => norm_at m c t r x i hi
  obtain ⟨n, ln⟩ := n
  dsimp only at hn
  subst hn
  refine Eq.trans ?_ (Cert.InRefIdeal.Proved.row_eq (xs m c) (gm m c) (ws m c) i ⟨_, ln⟩).symm
  pointwise [k0_pay31, h0]
  exact Finset.sum_congr rfl fun x _ => congrArg (_ * ·) (read2 m c t x ⟨_, ln⟩)

/-- The seventh group's product. -/
theorem pay2_at (c : Dev nD) (t : Fin grid0.N) (r : Fin 256) (q : Fin 1024) (i : Fin 16384) (n : Fin 7168) (hi : i.val = t.val * 256 + r.val)
    (hn : n.val = 6144 + q.val) :
    k0_pay2 (k0_pay3 (iblk m c 0 t) (iblk m c 1 t)) (View.ld (iblk m c 2 t) (Rect.unit ![0, 6144] ![2048, 1024] inb_S2048x7168_S2048x1024_0_6144)) (ix2 r q) = pj m c i n := by
  have h0 : ∀ x, k0_pay3 (iblk m c 0 t) (iblk m c 1 t) (ix2 r x) = Cert.InRefIdeal.Read.val_main_v14 (F := Ideal) (xs m c) (gm m c) (ix2 i x) :=
    fun x => norm_at m c t r x i hi
  obtain ⟨n, ln⟩ := n
  dsimp only at hn
  subst hn
  refine Eq.trans ?_ (Cert.InRefIdeal.Proved.row_eq (xs m c) (gm m c) (ws m c) i ⟨_, ln⟩).symm
  pointwise [k0_pay2, h0]
  exact Finset.sum_congr rfl fun x _ => congrArg (_ * ·) (read2 m c t x ⟨_, ln⟩)

/-- The first group. -/
theorem pay4_at (c : Dev nD) (t : Fin grid0.N) (r : Fin 256) (q : Fin 1024) (i : Fin 16384) (n : Fin 7168) (hi : i.val = t.val * 256 + r.val)
    (hn : n.val = q.val) :
    k0_pay4 (iblk m c 0 t) (iblk m c 1 t) (View.ld (iblk m c 2 t) (Rect.unit ![0, 0] ![2048, 1024] inb_S2048x7168_S2048x1024_0_0)) (ix2 r q) = G6 m c (ix2 i n) := by
  have h0 : ∀ x, k0_pay3 (iblk m c 0 t) (iblk m c 1 t) (ix2 r x) = Cert.InRefIdeal.Read.val_main_v14 (F := Ideal) (xs m c) (gm m c) (ix2 i x) :=
    fun x => norm_at m c t r x i hi
  refine Eq.trans ?_ (Cert.InRefIdeal.Proved.g0_at (xs m c) (gm m c) (ws m c) (hl m c) (qg m c) (kg m c) i n q hn).symm
  have e : ∑ x : Fin 2048, Cert.InRefIdeal.Read.val_main_v14 (F := Ideal) (xs m c) (gm m c) (ix2 i x) * iblk m c 2 t (ix2 x n) = pj m c i n :=
    (Finset.sum_congr rfl fun x _ => congrArg (_ * ·) (read2 m c t x n)).trans (Cert.InRefIdeal.Proved.row_eq (xs m c) (gm m c) (ws m c) i n).symm
  obtain ⟨n, ln⟩ := n
  dsimp only at hn
  subst hn
  pointwise [k0_pay4, h0]
  rw [zero_sub]
  exact congrArg (fun a : EReal => a * Ideal.div 1 (1 + Ideal.exp (-a))) e

/-- The fourth group. -/
theorem pay15_at (c : Dev nD) (t : Fin grid0.N) (r : Fin 256) (q : Fin 1024) (i : Fin 16384) (n : Fin 7168) (hi : i.val = t.val * 256 + r.val)
    (hn : n.val = 3072 + q.val) :
    k0_pay15 (k0_pay13 (k0_pay3 (iblk m c 0 t) (iblk m c 1 t)) (View.ld (iblk m c 2 t) (Rect.unit ![0, 3072] ![2048, 1024] inb_S2048x7168_S2048x1024_0_3072))) (k0_pay14 (k0_pay3 (iblk m c 0 t) (iblk m c 1 t)) (View.ld (iblk m c 2 t) (Rect.unit ![0, 3072] ![2048, 1024] inb_S2048x7168_S2048x1024_0_3072))) (ix2 r q) = G6 m c (ix2 i n) := by
  refine Eq.trans ?_ (Cert.InRefIdeal.Proved.g3_at (xs m c) (gm m c) (ws m c) (hl m c) (qg m c) (kg m c) i n q hn).symm
  pointwise [k0_pay15, k0_pay14, pay13_at m c t r q i n hi hn]
  rw [zero_sub]

/-- The second group: one less the gate. -/
theorem pay11_at (c : Dev nD) (t : Fin grid0.N) (r : Fin 256) (q : Fin 1024) (i : Fin 16384) (n : Fin 7168) (hi : i.val = t.val * 256 + r.val)
    (hn : n.val = 1024 + q.val) (hx : ∀ j, ∃ r : ℝ, hl m c j = (r : EReal)) :
    k0_pay11 (k0_pay5 (iblk m c 0 t) (iblk m c 1 t) (View.ld (iblk m c 2 t) (Rect.unit ![0, 1024] ![2048, 1024] inb_S2048x7168_S2048x1024_0_1024))) (View.ld (iblk m c 3 t) (Rect.unit ![1, 0] ![1, 1024] inb_S2x1024_S1x1024_1_0)) (k0_pay6 (View.ld (iblk m c 3 t) (Rect.unit ![0, 0] ![1, 1024] inb_S2x1024_S1x1024_0_0)) (View.ld (iblk m c 3 t) (Rect.unit ![1, 0] ![1, 1024] inb_S2x1024_S1x1024_1_0))) (k0_pay7 (View.ld (iblk m c 3 t) (Rect.unit ![0, 0] ![1, 1024] inb_S2x1024_S1x1024_0_0)) (View.ld (iblk m c 3 t) (Rect.unit ![1, 0] ![1, 1024] inb_S2x1024_S1x1024_1_0))) (ix2 r q) = G6 m c (ix2 i n) := by
  refine Eq.trans ?_ (Cert.InRefIdeal.Proved.g1_at (xs m c) (gm m c) (ws m c) (hl m c) (qg m c) (kg m c) i n q hn hx).symm
  pointwise [k0_pay11, k0_pay9, k0_pay8, k0_pay7, k0_pay6, pay5_at m c t r q i n hi hn, read3 m c t]
  rw [zero_sub]

/-- The gate's logarithm. -/
theorem pay10_at (c : Dev nD) (t : Fin grid0.N) (r : Fin 256) (q : Fin 1024) (i : Fin 16384) (n : Fin 7168) (hi : i.val = t.val * 256 + r.val)
    (hn : n.val = 1024 + q.val) (hx : ∀ j, ∃ r : ℝ, hl m c j = (r : EReal)) :
    k0_pay10 (k0_pay5 (iblk m c 0 t) (iblk m c 1 t) (View.ld (iblk m c 2 t) (Rect.unit ![0, 1024] ![2048, 1024] inb_S2048x7168_S2048x1024_0_1024))) (View.ld (iblk m c 3 t) (Rect.unit ![1, 0] ![1, 1024] inb_S2x1024_S1x1024_1_0)) (k0_pay6 (View.ld (iblk m c 3 t) (Rect.unit ![0, 0] ![1, 1024] inb_S2x1024_S1x1024_0_0)) (View.ld (iblk m c 3 t) (Rect.unit ![1, 0] ![1, 1024] inb_S2x1024_S1x1024_1_0))) (k0_pay7 (View.ld (iblk m c 3 t) (Rect.unit ![0, 0] ![1, 1024] inb_S2x1024_S1x1024_0_0)) (View.ld (iblk m c 3 t) (Rect.unit ![1, 0] ![1, 1024] inb_S2x1024_S1x1024_1_0))) (ix2 r q) = G7 m c (ix2 i q) := by
  refine Eq.trans ?_ (Cert.InRefIdeal.Proved.v58_at (xs m c) (gm m c) (ws m c) (hl m c) i q n hn hx).symm
  pointwise [k0_pay10, k0_pay9, k0_pay8, k0_pay7, k0_pay6, pay5_at m c t r q i n hi hn, read3 m c t]
  rw [zero_sub]

/-- Head 0 of the queries. -/
theorem q0_at (c : Dev nD) (t : Fin grid0.N) (r : Fin 256) (z : Fin 128) (i : Fin 16384) (n : Fin 7168) (hi : i.val = t.val * 256 + r.val)
    (hn : n.val = 4096 + z.val) :
    k0_pay18 (k0_pay3 (iblk m c 0 t) (iblk m c 1 t)) (View.ld (iblk m c 2 t) (Rect.unit ![0, 4096] ![2048, 1024] inb_S2048x7168_S2048x1024_0_4096)) (iblk m c 4 t) (ix2 r z) = G6 m c (ix2 i n) := by
  have hp : ∀ q : Fin 1024, (k0_pay16 (k0_pay3 (iblk m c 0 t) (iblk m c 1 t)) (View.ld (iblk m c 2 t) (Rect.unit ![0, 4096] ![2048, 1024] inb_S2048x7168_S2048x1024_0_4096))) (ix2 r q) = pj m c i ⟨4096 + q.val, by omega⟩ :=
    fun q => pay16_at m c t r q i ⟨4096 + q.val, by omega⟩ hi rfl
  refine Eq.trans ?_ (Cert.InRefIdeal.Proved.g4_at (xs m c) (gm m c) (ws m c) (hl m c) (qg m c) (kg m c) i n 0 z hn).symm
  show _ = head (pj m c i) 4096 (by omega) z * (qg m c (ix2 0 z) * Ideal.ofBits .f32 0x3DB504F3#32)
  pointwise [k0_pay18, k0_pay17, hp, read4 m c t]

/-- Head 1 of the queries. -/
theorem q1_at (c : Dev nD) (t : Fin grid0.N) (r : Fin 256) (z : Fin 128) (i : Fin 16384) (n : Fin 7168) (hi : i.val = t.val * 256 + r.val)
    (hn : n.val = 4224 + z.val) :
    k0_pay20 (k0_pay17 (iblk m c 4 t)) (k0_pay19 (k0_pay3 (iblk m c 0 t) (iblk m c 1 t)) (View.ld (iblk m c 2 t) (Rect.unit ![0, 4096] ![2048, 1024] inb_S2048x7168_S2048x1024_0_4096))) (ix2 r z) = G6 m c (ix2 i n) := by
  have hp : ∀ q : Fin 1024, (k0_pay16 (k0_pay3 (iblk m c 0 t) (iblk m c 1 t)) (View.ld (iblk m c 2 t) (Rect.unit ![0, 4096] ![2048, 1024] inb_S2048x7168_S2048x1024_0_4096))) (ix2 r q) = pj m c i ⟨4096 + q.val, by omega⟩ :=
    fun q => pay16_at m c t r q i ⟨4096 + q.val, by omega⟩ hi rfl
  refine Eq.trans ?_ (Cert.InRefIdeal.Proved.g4_at (xs m c) (gm m c) (ws m c) (hl m c) (qg m c) (kg m c) i n 1 z hn).symm
  show _ = head (pj m c i) 4224 (by omega) z * (qg m c (ix2 0 z) * Ideal.ofBits .f32 0x3DB504F3#32)
  pointwise [k0_pay20, k0_pay19, k0_pay17, hp, read4 m c t]
  simp only [← Nat.add_assoc, Nat.reduceAdd]

/-- Head 2 of the queries. -/
theorem q2_at (c : Dev nD) (t : Fin grid0.N) (r : Fin 256) (z : Fin 128) (i : Fin 16384) (n : Fin 7168) (hi : i.val = t.val * 256 + r.val)
    (hn : n.val = 4352 + z.val) :
    k0_pay21 (k0_pay16 (k0_pay3 (iblk m c 0 t) (iblk m c 1 t)) (View.ld (iblk m c 2 t) (Rect.unit ![0, 4096] ![2048, 1024] inb_S2048x7168_S2048x1024_0_4096))) (k0_pay17 (iblk m c 4 t)) (ix2 r z) = G6 m c (ix2 i n) := by
  have hp : ∀ q : Fin 1024, (k0_pay16 (k0_pay3 (iblk m c 0 t) (iblk m c 1 t)) (View.ld (iblk m c 2 t) (Rect.unit ![0, 4096] ![2048, 1024] inb_S2048x7168_S2048x1024_0_4096))) (ix2 r q) = pj m c i ⟨4096 + q.val, by omega⟩ :=
    fun q => pay16_at m c t r q i ⟨4096 + q.val, by omega⟩ hi rfl
  refine Eq.trans ?_ (Cert.InRefIdeal.Proved.g4_at (xs m c) (gm m c) (ws m c) (hl m c) (qg m c) (kg m c) i n 2 z hn).symm
  show _ = head (pj m c i) 4352 (by omega) z * (qg m c (ix2 0 z) * Ideal.ofBits .f32 0x3DB504F3#32)
  pointwise [k0_pay21, k0_pay17, hp, read4 m c t]
  simp only [← Nat.add_assoc, Nat.reduceAdd]

/-- Head 3 of the queries. -/
theorem q3_at (c : Dev nD) (t : Fin grid0.N) (r : Fin 256) (z : Fin 128) (i : Fin 16384) (n : Fin 7168) (hi : i.val = t.val * 256 + r.val)
    (hn : n.val = 4480 + z.val) :
    k0_pay22 (k0_pay16 (k0_pay3 (iblk m c 0 t) (iblk m c 1 t)) (View.ld (iblk m c 2 t) (Rect.unit ![0, 4096] ![2048, 1024] inb_S2048x7168_S2048x1024_0_4096))) (k0_pay17 (iblk m c 4 t)) (ix2 r z) = G6 m c (ix2 i n) := by
  have hp : ∀ q : Fin 1024, (k0_pay16 (k0_pay3 (iblk m c 0 t) (iblk m c 1 t)) (View.ld (iblk m c 2 t) (Rect.unit ![0, 4096] ![2048, 1024] inb_S2048x7168_S2048x1024_0_4096))) (ix2 r q) = pj m c i ⟨4096 + q.val, by omega⟩ :=
    fun q => pay16_at m c t r q i ⟨4096 + q.val, by omega⟩ hi rfl
  refine Eq.trans ?_ (Cert.InRefIdeal.Proved.g4_at (xs m c) (gm m c) (ws m c) (hl m c) (qg m c) (kg m c) i n 3 z hn).symm
  show _ = head (pj m c i) 4480 (by omega) z * (qg m c (ix2 0 z) * Ideal.ofBits .f32 0x3DB504F3#32)
  pointwise [k0_pay22, k0_pay17, hp, read4 m c t]
  simp only [← Nat.add_assoc, Nat.reduceAdd]

/-- Head 4 of the queries. -/
theorem q4_at (c : Dev nD) (t : Fin grid0.N) (r : Fin 256) (z : Fin 128) (i : Fin 16384) (n : Fin 7168) (hi : i.val = t.val * 256 + r.val)
    (hn : n.val = 4608 + z.val) :
    k0_pay25 (k0_pay17 (iblk m c 4 t)) (k0_pay23 (k0_pay16 (k0_pay3 (iblk m c 0 t) (iblk m c 1 t)) (View.ld (iblk m c 2 t) (Rect.unit ![0, 4096] ![2048, 1024] inb_S2048x7168_S2048x1024_0_4096)))) (k0_pay24 (k0_pay16 (k0_pay3 (iblk m c 0 t) (iblk m c 1 t)) (View.ld (iblk m c 2 t) (Rect.unit ![0, 4096] ![2048, 1024] inb_S2048x7168_S2048x1024_0_4096)))) (ix2 r z) = G6 m c (ix2 i n) := by
  have hp : ∀ q : Fin 1024, (k0_pay16 (k0_pay3 (iblk m c 0 t) (iblk m c 1 t)) (View.ld (iblk m c 2 t) (Rect.unit ![0, 4096] ![2048, 1024] inb_S2048x7168_S2048x1024_0_4096))) (ix2 r q) = pj m c i ⟨4096 + q.val, by omega⟩ :=
    fun q => pay16_at m c t r q i ⟨4096 + q.val, by omega⟩ hi rfl
  refine Eq.trans ?_ (Cert.InRefIdeal.Proved.g4_at (xs m c) (gm m c) (ws m c) (hl m c) (qg m c) (kg m c) i n 4 z hn).symm
  show _ = head (pj m c i) 4608 (by omega) z * (qg m c (ix2 0 z) * Ideal.ofBits .f32 0x3DB504F3#32)
  pointwise [k0_pay25, k0_pay24, k0_pay23, k0_pay17, hp, read4 m c t]
  simp only [← Nat.add_assoc, Nat.reduceAdd]

/-- Head 5 of the queries. -/
theorem q5_at (c : Dev nD) (t : Fin grid0.N) (r : Fin 256) (z : Fin 128) (i : Fin 16384) (n : Fin 7168) (hi : i.val = t.val * 256 + r.val)
    (hn : n.val = 4736 + z.val) :
    k0_pay26 (k0_pay16 (k0_pay3 (iblk m c 0 t) (iblk m c 1 t)) (View.ld (iblk m c 2 t) (Rect.unit ![0, 4096] ![2048, 1024] inb_S2048x7168_S2048x1024_0_4096))) (k0_pay17 (iblk m c 4 t)) (ix2 r z) = G6 m c (ix2 i n) := by
  have hp : ∀ q : Fin 1024, (k0_pay16 (k0_pay3 (iblk m c 0 t) (iblk m c 1 t)) (View.ld (iblk m c 2 t) (Rect.unit ![0, 4096] ![2048, 1024] inb_S2048x7168_S2048x1024_0_4096))) (ix2 r q) = pj m c i ⟨4096 + q.val, by omega⟩ :=
    fun q => pay16_at m c t r q i ⟨4096 + q.val, by omega⟩ hi rfl
  refine Eq.trans ?_ (Cert.InRefIdeal.Proved.g4_at (xs m c) (gm m c) (ws m c) (hl m c) (qg m c) (kg m c) i n 5 z hn).symm
  show _ = head (pj m c i) 4736 (by omega) z * (qg m c (ix2 0 z) * Ideal.ofBits .f32 0x3DB504F3#32)
  pointwise [k0_pay26, k0_pay17, hp, read4 m c t]
  simp only [← Nat.add_assoc, Nat.reduceAdd]

/-- Head 6 of the queries. -/
theorem q6_at (c : Dev nD) (t : Fin grid0.N) (r : Fin 256) (z : Fin 128) (i : Fin 16384) (n : Fin 7168) (hi : i.val = t.val * 256 + r.val)
    (hn : n.val = 4864 + z.val) :
    k0_pay27 (k0_pay16 (k0_pay3 (iblk m c 0 t) (iblk m c 1 t)) (View.ld (iblk m c 2 t) (Rect.unit ![0, 4096] ![2048, 1024] inb_S2048x7168_S2048x1024_0_4096))) (k0_pay17 (iblk m c 4 t)) (ix2 r z) = G6 m c (ix2 i n) := by
  have hp : ∀ q : Fin 1024, (k0_pay16 (k0_pay3 (iblk m c 0 t) (iblk m c 1 t)) (View.ld (iblk m c 2 t) (Rect.unit ![0, 4096] ![2048, 1024] inb_S2048x7168_S2048x1024_0_4096))) (ix2 r q) = pj m c i ⟨4096 + q.val, by omega⟩ :=
    fun q => pay16_at m c t r q i ⟨4096 + q.val, by omega⟩ hi rfl
  refine Eq.trans ?_ (Cert.InRefIdeal.Proved.g4_at (xs m c) (gm m c) (ws m c) (hl m c) (qg m c) (kg m c) i n 6 z hn).symm
  show _ = head (pj m c i) 4864 (by omega) z * (qg m c (ix2 0 z) * Ideal.ofBits .f32 0x3DB504F3#32)
  pointwise [k0_pay27, k0_pay17, hp, read4 m c t]
  simp only [← Nat.add_assoc, Nat.reduceAdd]

/-- Head 7 of the queries. -/
theorem q7_at (c : Dev nD) (t : Fin grid0.N) (r : Fin 256) (z : Fin 128) (i : Fin 16384) (n : Fin 7168) (hi : i.val = t.val * 256 + r.val)
    (hn : n.val = 4992 + z.val) :
    k0_pay30 (k0_pay17 (iblk m c 4 t)) (k0_pay28 (k0_pay16 (k0_pay3 (iblk m c 0 t) (iblk m c 1 t)) (View.ld (iblk m c 2 t) (Rect.unit ![0, 4096] ![2048, 1024] inb_S2048x7168_S2048x1024_0_4096)))) (k0_pay29 (k0_pay16 (k0_pay3 (iblk m c 0 t) (iblk m c 1 t)) (View.ld (iblk m c 2 t) (Rect.unit ![0, 4096] ![2048, 1024] inb_S2048x7168_S2048x1024_0_4096)))) (ix2 r z) = G6 m c (ix2 i n) := by
  have hp : ∀ q : Fin 1024, (k0_pay16 (k0_pay3 (iblk m c 0 t) (iblk m c 1 t)) (View.ld (iblk m c 2 t) (Rect.unit ![0, 4096] ![2048, 1024] inb_S2048x7168_S2048x1024_0_4096))) (ix2 r q) = pj m c i ⟨4096 + q.val, by omega⟩ :=
    fun q => pay16_at m c t r q i ⟨4096 + q.val, by omega⟩ hi rfl
  refine Eq.trans ?_ (Cert.InRefIdeal.Proved.g4_at (xs m c) (gm m c) (ws m c) (hl m c) (qg m c) (kg m c) i n 7 z hn).symm
  show _ = head (pj m c i) 4992 (by omega) z * (qg m c (ix2 0 z) * Ideal.ofBits .f32 0x3DB504F3#32)
  pointwise [k0_pay30, k0_pay29, k0_pay28, k0_pay17, hp, read4 m c t]
  simp only [← Nat.add_assoc, Nat.reduceAdd]

/-- Head 0 of the keys. -/
theorem k0_at (c : Dev nD) (t : Fin grid0.N) (r : Fin 256) (z : Fin 128) (i : Fin 16384) (n : Fin 7168) (hi : i.val = t.val * 256 + r.val)
    (hn : n.val = 5120 + z.val) :
    k0_pay33 (k0_pay3 (iblk m c 0 t) (iblk m c 1 t)) (View.ld (iblk m c 2 t) (Rect.unit ![0, 5120] ![2048, 1024] inb_S2048x7168_S2048x1024_0_5120)) (iblk m c 5 t) (ix2 r z) = G6 m c (ix2 i n) := by
  have hp : ∀ q : Fin 1024, (k0_pay31 (k0_pay3 (iblk m c 0 t) (iblk m c 1 t)) (View.ld (iblk m c 2 t) (Rect.unit ![0, 5120] ![2048, 1024] inb_S2048x7168_S2048x1024_0_5120))) (ix2 r q) = pj m c i ⟨5120 + q.val, by omega⟩ :=
    fun q => pay31_at m c t r q i ⟨5120 + q.val, by omega⟩ hi rfl
  refine Eq.trans ?_ (Cert.InRefIdeal.Proved.g5_at (xs m c) (gm m c) (ws m c) (hl m c) (qg m c) (kg m c) i n 0 z hn).symm
  show _ = head (pj m c i) 5120 (by omega) z * kg m c (ix2 0 z)
  pointwise [k0_pay33, k0_pay32, hp, read5 m c t]

/-- Head 1 of the keys. -/
theorem k1_at (c : Dev nD) (t : Fin grid0.N) (r : Fin 256) (z : Fin 128) (i : Fin 16384) (n : Fin 7168) (hi : i.val = t.val * 256 + r.val)
    (hn : n.val = 5248 + z.val) :
    k0_pay35 (k0_pay32 (iblk m c 5 t)) (k0_pay34 (k0_pay3 (iblk m c 0 t) (iblk m c 1 t)) (View.ld (iblk m c 2 t) (Rect.unit ![0, 5120] ![2048, 1024] inb_S2048x7168_S2048x1024_0_5120))) (ix2 r z) = G6 m c (ix2 i n) := by
  have hp : ∀ q : Fin 1024, (k0_pay31 (k0_pay3 (iblk m c 0 t) (iblk m c 1 t)) (View.ld (iblk m c 2 t) (Rect.unit ![0, 5120] ![2048, 1024] inb_S2048x7168_S2048x1024_0_5120))) (ix2 r q) = pj m c i ⟨5120 + q.val, by omega⟩ :=
    fun q => pay31_at m c t r q i ⟨5120 + q.val, by omega⟩ hi rfl
  refine Eq.trans ?_ (Cert.InRefIdeal.Proved.g5_at (xs m c) (gm m c) (ws m c) (hl m c) (qg m c) (kg m c) i n 1 z hn).symm
  show _ = head (pj m c i) 5248 (by omega) z * kg m c (ix2 0 z)
  pointwise [k0_pay35, k0_pay34, k0_pay32, hp, read5 m c t]
  simp only [← Nat.add_assoc, Nat.reduceAdd]

/-- Head 2 of the keys. -/
theorem k2_at (c : Dev nD) (t : Fin grid0.N) (r : Fin 256) (z : Fin 128) (i : Fin 16384) (n : Fin 7168) (hi : i.val = t.val * 256 + r.val)
    (hn : n.val = 5376 + z.val) :
    k0_pay36 (k0_pay31 (k0_pay3 (iblk m c 0 t) (iblk m c 1 t)) (View.ld (iblk m c 2 t) (Rect.unit ![0, 5120] ![2048, 1024] inb_S2048x7168_S2048x1024_0_5120))) (k0_pay32 (iblk m c 5 t)) (ix2 r z) = G6 m c (ix2 i n) := by
  have hp : ∀ q : Fin 1024, (k0_pay31 (k0_pay3 (iblk m c 0 t) (iblk m c 1 t)) (View.ld (iblk m c 2 t) (Rect.unit ![0, 5120] ![2048, 1024] inb_S2048x7168_S2048x1024_0_5120))) (ix2 r q) = pj m c i ⟨5120 + q.val, by omega⟩ :=
    fun q => pay31_at m c t r q i ⟨5120 + q.val, by omega⟩ hi rfl
  refine Eq.trans ?_ (Cert.InRefIdeal.Proved.g5_at (xs m c) (gm m c) (ws m c) (hl m c) (qg m c) (kg m c) i n 2 z hn).symm
  show _ = head (pj m c i) 5376 (by omega) z * kg m c (ix2 0 z)
  pointwise [k0_pay36, k0_pay32, hp, read5 m c t]
  simp only [← Nat.add_assoc, Nat.reduceAdd]

/-- Head 3 of the keys. -/
theorem k3_at (c : Dev nD) (t : Fin grid0.N) (r : Fin 256) (z : Fin 128) (i : Fin 16384) (n : Fin 7168) (hi : i.val = t.val * 256 + r.val)
    (hn : n.val = 5504 + z.val) :
    k0_pay37 (k0_pay31 (k0_pay3 (iblk m c 0 t) (iblk m c 1 t)) (View.ld (iblk m c 2 t) (Rect.unit ![0, 5120] ![2048, 1024] inb_S2048x7168_S2048x1024_0_5120))) (k0_pay32 (iblk m c 5 t)) (ix2 r z) = G6 m c (ix2 i n) := by
  have hp : ∀ q : Fin 1024, (k0_pay31 (k0_pay3 (iblk m c 0 t) (iblk m c 1 t)) (View.ld (iblk m c 2 t) (Rect.unit ![0, 5120] ![2048, 1024] inb_S2048x7168_S2048x1024_0_5120))) (ix2 r q) = pj m c i ⟨5120 + q.val, by omega⟩ :=
    fun q => pay31_at m c t r q i ⟨5120 + q.val, by omega⟩ hi rfl
  refine Eq.trans ?_ (Cert.InRefIdeal.Proved.g5_at (xs m c) (gm m c) (ws m c) (hl m c) (qg m c) (kg m c) i n 3 z hn).symm
  show _ = head (pj m c i) 5504 (by omega) z * kg m c (ix2 0 z)
  pointwise [k0_pay37, k0_pay32, hp, read5 m c t]
  simp only [← Nat.add_assoc, Nat.reduceAdd]

/-- Head 4 of the keys. -/
theorem k4_at (c : Dev nD) (t : Fin grid0.N) (r : Fin 256) (z : Fin 128) (i : Fin 16384) (n : Fin 7168) (hi : i.val = t.val * 256 + r.val)
    (hn : n.val = 5632 + z.val) :
    k0_pay40 (k0_pay32 (iblk m c 5 t)) (k0_pay38 (k0_pay31 (k0_pay3 (iblk m c 0 t) (iblk m c 1 t)) (View.ld (iblk m c 2 t) (Rect.unit ![0, 5120] ![2048, 1024] inb_S2048x7168_S2048x1024_0_5120)))) (k0_pay39 (k0_pay31 (k0_pay3 (iblk m c 0 t) (iblk m c 1 t)) (View.ld (iblk m c 2 t) (Rect.unit ![0, 5120] ![2048, 1024] inb_S2048x7168_S2048x1024_0_5120)))) (ix2 r z) = G6 m c (ix2 i n) := by
  have hp : ∀ q : Fin 1024, (k0_pay31 (k0_pay3 (iblk m c 0 t) (iblk m c 1 t)) (View.ld (iblk m c 2 t) (Rect.unit ![0, 5120] ![2048, 1024] inb_S2048x7168_S2048x1024_0_5120))) (ix2 r q) = pj m c i ⟨5120 + q.val, by omega⟩ :=
    fun q => pay31_at m c t r q i ⟨5120 + q.val, by omega⟩ hi rfl
  refine Eq.trans ?_ (Cert.InRefIdeal.Proved.g5_at (xs m c) (gm m c) (ws m c) (hl m c) (qg m c) (kg m c) i n 4 z hn).symm
  show _ = head (pj m c i) 5632 (by omega) z * kg m c (ix2 0 z)
  pointwise [k0_pay40, k0_pay39, k0_pay38, k0_pay32, hp, read5 m c t]
  simp only [← Nat.add_assoc, Nat.reduceAdd]

/-- Head 5 of the keys. -/
theorem k5_at (c : Dev nD) (t : Fin grid0.N) (r : Fin 256) (z : Fin 128) (i : Fin 16384) (n : Fin 7168) (hi : i.val = t.val * 256 + r.val)
    (hn : n.val = 5760 + z.val) :
    k0_pay41 (k0_pay31 (k0_pay3 (iblk m c 0 t) (iblk m c 1 t)) (View.ld (iblk m c 2 t) (Rect.unit ![0, 5120] ![2048, 1024] inb_S2048x7168_S2048x1024_0_5120))) (k0_pay32 (iblk m c 5 t)) (ix2 r z) = G6 m c (ix2 i n) := by
  have hp : ∀ q : Fin 1024, (k0_pay31 (k0_pay3 (iblk m c 0 t) (iblk m c 1 t)) (View.ld (iblk m c 2 t) (Rect.unit ![0, 5120] ![2048, 1024] inb_S2048x7168_S2048x1024_0_5120))) (ix2 r q) = pj m c i ⟨5120 + q.val, by omega⟩ :=
    fun q => pay31_at m c t r q i ⟨5120 + q.val, by omega⟩ hi rfl
  refine Eq.trans ?_ (Cert.InRefIdeal.Proved.g5_at (xs m c) (gm m c) (ws m c) (hl m c) (qg m c) (kg m c) i n 5 z hn).symm
  show _ = head (pj m c i) 5760 (by omega) z * kg m c (ix2 0 z)
  pointwise [k0_pay41, k0_pay32, hp, read5 m c t]
  simp only [← Nat.add_assoc, Nat.reduceAdd]

/-- Head 6 of the keys. -/
theorem k6_at (c : Dev nD) (t : Fin grid0.N) (r : Fin 256) (z : Fin 128) (i : Fin 16384) (n : Fin 7168) (hi : i.val = t.val * 256 + r.val)
    (hn : n.val = 5888 + z.val) :
    k0_pay42 (k0_pay31 (k0_pay3 (iblk m c 0 t) (iblk m c 1 t)) (View.ld (iblk m c 2 t) (Rect.unit ![0, 5120] ![2048, 1024] inb_S2048x7168_S2048x1024_0_5120))) (k0_pay32 (iblk m c 5 t)) (ix2 r z) = G6 m c (ix2 i n) := by
  have hp : ∀ q : Fin 1024, (k0_pay31 (k0_pay3 (iblk m c 0 t) (iblk m c 1 t)) (View.ld (iblk m c 2 t) (Rect.unit ![0, 5120] ![2048, 1024] inb_S2048x7168_S2048x1024_0_5120))) (ix2 r q) = pj m c i ⟨5120 + q.val, by omega⟩ :=
    fun q => pay31_at m c t r q i ⟨5120 + q.val, by omega⟩ hi rfl
  refine Eq.trans ?_ (Cert.InRefIdeal.Proved.g5_at (xs m c) (gm m c) (ws m c) (hl m c) (qg m c) (kg m c) i n 6 z hn).symm
  show _ = head (pj m c i) 5888 (by omega) z * kg m c (ix2 0 z)
  pointwise [k0_pay42, k0_pay32, hp, read5 m c t]
  simp only [← Nat.add_assoc, Nat.reduceAdd]

/-- Head 7 of the keys. -/
theorem k7_at (c : Dev nD) (t : Fin grid0.N) (r : Fin 256) (z : Fin 128) (i : Fin 16384) (n : Fin 7168) (hi : i.val = t.val * 256 + r.val)
    (hn : n.val = 6016 + z.val) :
    k0_pay1 (k0_pay32 (iblk m c 5 t)) (k0_pay43 (k0_pay31 (k0_pay3 (iblk m c 0 t) (iblk m c 1 t)) (View.ld (iblk m c 2 t) (Rect.unit ![0, 5120] ![2048, 1024] inb_S2048x7168_S2048x1024_0_5120)))) (k0_pay44 (k0_pay31 (k0_pay3 (iblk m c 0 t) (iblk m c 1 t)) (View.ld (iblk m c 2 t) (Rect.unit ![0, 5120] ![2048, 1024] inb_S2048x7168_S2048x1024_0_5120)))) (ix2 r z) = G6 m c (ix2 i n) := by
  have hp : ∀ q : Fin 1024, (k0_pay31 (k0_pay3 (iblk m c 0 t) (iblk m c 1 t)) (View.ld (iblk m c 2 t) (Rect.unit ![0, 5120] ![2048, 1024] inb_S2048x7168_S2048x1024_0_5120))) (ix2 r q) = pj m c i ⟨5120 + q.val, by omega⟩ :=
    fun q => pay31_at m c t r q i ⟨5120 + q.val, by omega⟩ hi rfl
  refine Eq.trans ?_ (Cert.InRefIdeal.Proved.g5_at (xs m c) (gm m c) (ws m c) (hl m c) (qg m c) (kg m c) i n 7 z hn).symm
  show _ = head (pj m c i) 6016 (by omega) z * kg m c (ix2 0 z)
  pointwise [k0_pay1, k0_pay44, k0_pay43, k0_pay32, hp, read5 m c t]
  simp only [← Nat.add_assoc, Nat.reduceAdd]

/-- The side conditions of the precondition's operations. -/
instance facts_pre : Cert.Pre_lower_bound_finite.Facts := ⟨by decide⟩

/-- The precondition at an index: the lower bound's parameters are real numbers. -/
theorem pre_real (x0 x1 x2 x3 x4 x5) (h : Cert.Pre_lower_bound_finite.fn (F := Ideal) x0 x1 x2 x3 x4 x5 = fun _ => 1#1) (j) : ∃ r : ℝ, x3 j = (r : EReal) := by
  have h' := congrFun h j
  pointwise [Cert.Pre_lower_bound_finite.fn] at h'
  rw [show Ideal.ofBits .f32 0x7F800000#32 = ⊤ from by simp [Ideal.ofBits, Ideal.ieee]] at h'
  have h'' : max (x3 j) (-(x3 j)) < (⊤ : EReal) := by
    by_contra hn
    rw [Ideal.absf_def, decide_eq_false hn] at h'
    exact absurd h' (by decide)
  obtain ⟨h1, h2⟩ := max_lt_iff.1 h''
  exact ⟨(x3 j).toReal, (EReal.coe_toReal h1.ne fun hb => by rw [hb, EReal.neg_bot] at h2; exact lt_irrefl _ h2).symm⟩

/-- The blocks of the first result written back tile it. -/
theorem covers6 : (cfg0.win 6).Covers := by decide +kernel

/-- The blocks of the second result written back tile it. -/
theorem covers7 : (cfg0.win 7).Covers := by decide +kernel

/-- The second result. -/
theorem final7 (c : Dev nD) (hx : ∀ j, ∃ r : ℝ, hl m c j = (r : EReal)) : (dats m 0 c).arrAt 7 cfg0.N = G7 m c := by
  refine (dats m 0 c).arrAt_eq_of_covers 7 _ covers7 fun t hf y => ?_
  have ht : t.val < 64 := t.isLt
  blk_simp
  rw [after0_7]
  unfold outsAt0
  frame_out
  obtain ⟨r, q, rfl⟩ : ∃ (r : Fin 256) (q : Fin 1024), y = ix2 r q := ⟨y 0, y 1, eq_ix2 y⟩
  refine (pay10_at m c t r q ⟨t.val * 256 + r.val, by omega⟩ ⟨1024 + q.val, by omega⟩ rfl rfl hx).trans (congrArg (G7 m c) (funext fun a => Fin.ext ?_))
  match a with
  | ⟨0, _⟩ => blk_simp [idx t]
  | ⟨1, _⟩ => blk_simp [idx t]

/-- The first result's block: the stores' contents are the reference's, piece by piece. -/
abbrev block6 (c : Dev nD) (t : Fin grid0.N) : S256x7168.Idx → EReal := fun y =>
  G6 m c (ix2 ⟨t.val * 256 + (y 0).val, by have ht : t.val < 64 := t.isLt; have hy : (y 0).val < 256 := (y 0).isLt; omega⟩ ⟨(y 1).val, (y 1).isLt⟩)

/-- The first result. -/
theorem final6 (c : Dev nD) (hx : ∀ j, ∃ r : ℝ, hl m c j = (r : EReal)) : (dats m 0 c).arrAt 6 cfg0.N = G6 m c := by
  refine (dats m 0 c).arrAt_eq_of_covers 6 _ covers6 fun t hf y => ?_
  have ht : t.val < 64 := t.isLt
  blk_simp
  rw [after0_6]
  unfold outsAt0
  frame_out
  refine Eq.trans (b := block6 m c t y) ?_ (congrArg (G6 m c) (funext fun a => Fin.ext (by
    match a with
    | ⟨0, _⟩ => blk_simp [idx t]; rfl
    | ⟨1, _⟩ => blk_simp [idx t]; rfl)))
  refine View.canon_apply_of_pieces (Val := Elt Ideal) (S := S256x7168) (e := .bf16) (block6 m c t) _ ?_ y (View.cover_of_tiledBy _ ![256, 128] (by sl_kernel_rfl) y)
  refine List.forall_mem_cons.2 ⟨fun z => ?_, ?_⟩
  · obtain ⟨r, q, rfl⟩ : ∃ (r : Fin 256) (q : Fin 1024), z = ix2 r q := ⟨z 0, z 1, eq_ix2 z⟩
    exact ((pay2_at m c t r q ⟨t.val * 256 + r.val, by omega⟩ ⟨6144 + q.val, by omega⟩ rfl rfl).trans (Cert.InRefIdeal.Proved.g6_at (xs m c) (gm m c) (ws m c) (hl m c) (qg m c) (kg m c) ⟨t.val * 256 + r.val, by omega⟩ ⟨6144 + q.val, by omega⟩ q rfl).symm).trans (congrArg (G6 m c) (funext fun a => Fin.ext (by
      match a with
      | ⟨0, _⟩ => show t.val * 256 + r.val = t.val * 256 + (0 + 1 * r.val); omega
      | ⟨1, _⟩ => show 6144 + q.val = 6144 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (k7_at m c t r q ⟨t.val * 256 + r.val, by omega⟩ ⟨6016 + q.val, by omega⟩ rfl rfl).trans (congrArg (G6 m c) (funext fun a => Fin.ext (by
      match a with
      | ⟨0, _⟩ => show t.val * 256 + r.val = t.val * 256 + (0 + 1 * r.val); omega
      | ⟨1, _⟩ => show 6016 + q.val = 6016 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (k6_at m c t r q ⟨t.val * 256 + r.val, by omega⟩ ⟨5888 + q.val, by omega⟩ rfl rfl).trans (congrArg (G6 m c) (funext fun a => Fin.ext (by
      match a with
      | ⟨0, _⟩ => show t.val * 256 + r.val = t.val * 256 + (0 + 1 * r.val); omega
      | ⟨1, _⟩ => show 5888 + q.val = 5888 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (k5_at m c t r q ⟨t.val * 256 + r.val, by omega⟩ ⟨5760 + q.val, by omega⟩ rfl rfl).trans (congrArg (G6 m c) (funext fun a => Fin.ext (by
      match a with
      | ⟨0, _⟩ => show t.val * 256 + r.val = t.val * 256 + (0 + 1 * r.val); omega
      | ⟨1, _⟩ => show 5760 + q.val = 5760 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (k4_at m c t r q ⟨t.val * 256 + r.val, by omega⟩ ⟨5632 + q.val, by omega⟩ rfl rfl).trans (congrArg (G6 m c) (funext fun a => Fin.ext (by
      match a with
      | ⟨0, _⟩ => show t.val * 256 + r.val = t.val * 256 + (0 + 1 * r.val); omega
      | ⟨1, _⟩ => show 5632 + q.val = 5632 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (k3_at m c t r q ⟨t.val * 256 + r.val, by omega⟩ ⟨5504 + q.val, by omega⟩ rfl rfl).trans (congrArg (G6 m c) (funext fun a => Fin.ext (by
      match a with
      | ⟨0, _⟩ => show t.val * 256 + r.val = t.val * 256 + (0 + 1 * r.val); omega
      | ⟨1, _⟩ => show 5504 + q.val = 5504 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (k2_at m c t r q ⟨t.val * 256 + r.val, by omega⟩ ⟨5376 + q.val, by omega⟩ rfl rfl).trans (congrArg (G6 m c) (funext fun a => Fin.ext (by
      match a with
      | ⟨0, _⟩ => show t.val * 256 + r.val = t.val * 256 + (0 + 1 * r.val); omega
      | ⟨1, _⟩ => show 5376 + q.val = 5376 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (k1_at m c t r q ⟨t.val * 256 + r.val, by omega⟩ ⟨5248 + q.val, by omega⟩ rfl rfl).trans (congrArg (G6 m c) (funext fun a => Fin.ext (by
      match a with
      | ⟨0, _⟩ => show t.val * 256 + r.val = t.val * 256 + (0 + 1 * r.val); omega
      | ⟨1, _⟩ => show 5248 + q.val = 5248 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (k0_at m c t r q ⟨t.val * 256 + r.val, by omega⟩ ⟨5120 + q.val, by omega⟩ rfl rfl).trans (congrArg (G6 m c) (funext fun a => Fin.ext (by
      match a with
      | ⟨0, _⟩ => show t.val * 256 + r.val = t.val * 256 + (0 + 1 * r.val); omega
      | ⟨1, _⟩ => show 5120 + q.val = 5120 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (q7_at m c t r q ⟨t.val * 256 + r.val, by omega⟩ ⟨4992 + q.val, by omega⟩ rfl rfl).trans (congrArg (G6 m c) (funext fun a => Fin.ext (by
      match a with
      | ⟨0, _⟩ => show t.val * 256 + r.val = t.val * 256 + (0 + 1 * r.val); omega
      | ⟨1, _⟩ => show 4992 + q.val = 4992 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (q6_at m c t r q ⟨t.val * 256 + r.val, by omega⟩ ⟨4864 + q.val, by omega⟩ rfl rfl).trans (congrArg (G6 m c) (funext fun a => Fin.ext (by
      match a with
      | ⟨0, _⟩ => show t.val * 256 + r.val = t.val * 256 + (0 + 1 * r.val); omega
      | ⟨1, _⟩ => show 4864 + q.val = 4864 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (q5_at m c t r q ⟨t.val * 256 + r.val, by omega⟩ ⟨4736 + q.val, by omega⟩ rfl rfl).trans (congrArg (G6 m c) (funext fun a => Fin.ext (by
      match a with
      | ⟨0, _⟩ => show t.val * 256 + r.val = t.val * 256 + (0 + 1 * r.val); omega
      | ⟨1, _⟩ => show 4736 + q.val = 4736 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (q4_at m c t r q ⟨t.val * 256 + r.val, by omega⟩ ⟨4608 + q.val, by omega⟩ rfl rfl).trans (congrArg (G6 m c) (funext fun a => Fin.ext (by
      match a with
      | ⟨0, _⟩ => show t.val * 256 + r.val = t.val * 256 + (0 + 1 * r.val); omega
      | ⟨1, _⟩ => show 4608 + q.val = 4608 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (q3_at m c t r q ⟨t.val * 256 + r.val, by omega⟩ ⟨4480 + q.val, by omega⟩ rfl rfl).trans (congrArg (G6 m c) (funext fun a => Fin.ext (by
      match a with
      | ⟨0, _⟩ => show t.val * 256 + r.val = t.val * 256 + (0 + 1 * r.val); omega
      | ⟨1, _⟩ => show 4480 + q.val = 4480 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (q2_at m c t r q ⟨t.val * 256 + r.val, by omega⟩ ⟨4352 + q.val, by omega⟩ rfl rfl).trans (congrArg (G6 m c) (funext fun a => Fin.ext (by
      match a with
      | ⟨0, _⟩ => show t.val * 256 + r.val = t.val * 256 + (0 + 1 * r.val); omega
      | ⟨1, _⟩ => show 4352 + q.val = 4352 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (q1_at m c t r q ⟨t.val * 256 + r.val, by omega⟩ ⟨4224 + q.val, by omega⟩ rfl rfl).trans (congrArg (G6 m c) (funext fun a => Fin.ext (by
      match a with
      | ⟨0, _⟩ => show t.val * 256 + r.val = t.val * 256 + (0 + 1 * r.val); omega
      | ⟨1, _⟩ => show 4224 + q.val = 4224 + 1 * q.val; omega)))
  refine List.forall_mem_cons.2 ⟨fun z => ?_, ?_⟩
  · obtain ⟨r, q, rfl⟩ : ∃ (r : Fin 256) (q : Fin 128), z = ix2 r q := ⟨z 0, z 1, eq_ix2 z⟩
    exact (q0_at m c t r q ⟨t.val * 256 + r.val, by omega⟩ ⟨4096 + q.val, by omega⟩ rfl rfl).trans (congrArg (G6 m c) (funext fun a => Fin.ext (by
      match a with
      | ⟨0, _⟩ => show t.val * 256 + r.val = t.val * 256 + (0 + 1 * r.val); omega
      | ⟨1, _⟩ => show 4096 + q.val = 4096 + 1 * q.val; omega)))
  refine List.forall_mem_cons.2 ⟨fun z => ?_, ?_⟩
  · obtain ⟨r, q, rfl⟩ : ∃ (r : Fin 256) (q : Fin 1024), z = ix2 r q := ⟨z 0, z 1, eq_ix2 z⟩
    exact (pay15_at m c t r q ⟨t.val * 256 + r.val, by omega⟩ ⟨3072 + q.val, by omega⟩ rfl rfl).trans (congrArg (G6 m c) (funext fun a => Fin.ext (by
      match a with
      | ⟨0, _⟩ => show t.val * 256 + r.val = t.val * 256 + (0 + 1 * r.val); omega
      | ⟨1, _⟩ => show 3072 + q.val = 3072 + 1 * q.val; omega)))
  refine List.forall_mem_cons.2 ⟨fun z => ?_, ?_⟩
  · obtain ⟨r, q, rfl⟩ : ∃ (r : Fin 256) (q : Fin 1024), z = ix2 r q := ⟨z 0, z 1, eq_ix2 z⟩
    exact ((pay12_at m c t r q ⟨t.val * 256 + r.val, by omega⟩ ⟨2048 + q.val, by omega⟩ rfl rfl).trans (Cert.InRefIdeal.Proved.g2_at (xs m c) (gm m c) (ws m c) (hl m c) (qg m c) (kg m c) ⟨t.val * 256 + r.val, by omega⟩ ⟨2048 + q.val, by omega⟩ q rfl).symm).trans (congrArg (G6 m c) (funext fun a => Fin.ext (by
      match a with
      | ⟨0, _⟩ => show t.val * 256 + r.val = t.val * 256 + (0 + 1 * r.val); omega
      | ⟨1, _⟩ => show 2048 + q.val = 2048 + 1 * q.val; omega)))
  refine List.forall_mem_cons.2 ⟨fun z => ?_, ?_⟩
  · obtain ⟨r, q, rfl⟩ : ∃ (r : Fin 256) (q : Fin 1024), z = ix2 r q := ⟨z 0, z 1, eq_ix2 z⟩
    exact (pay11_at m c t r q ⟨t.val * 256 + r.val, by omega⟩ ⟨1024 + q.val, by omega⟩ rfl rfl hx).trans (congrArg (G6 m c) (funext fun a => Fin.ext (by
      match a with
      | ⟨0, _⟩ => show t.val * 256 + r.val = t.val * 256 + (0 + 1 * r.val); omega
      | ⟨1, _⟩ => show 1024 + q.val = 1024 + 1 * q.val; omega)))
  refine List.forall_mem_cons.2 ⟨fun z => ?_, ?_⟩
  · obtain ⟨r, q, rfl⟩ : ∃ (r : Fin 256) (q : Fin 1024), z = ix2 r q := ⟨z 0, z 1, eq_ix2 z⟩
    exact (pay4_at m c t r q ⟨t.val * 256 + r.val, by omega⟩ ⟨0 + q.val, by omega⟩ rfl (Nat.zero_add _)).trans (congrArg (G6 m c) (funext fun a => Fin.ext (by
      match a with
      | ⟨0, _⟩ => show t.val * 256 + r.val = t.val * 256 + (0 + 1 * r.val); omega
      | ⟨1, _⟩ => show 0 + q.val = 0 + 1 * q.val; omega)))
  exact fun p hp => absurd hp List.not_mem_nil

/-- The kernel and the reference end with the same results. -/
theorem algebraic : algebraic_InIdeal_InRefIdeal_pre_lower_bound_finite := fun m ρ m' ρ' hpre hag =>
  have hx : ∀ c j, ∃ r : ℝ, hl m c j = (r : EReal) := fun c => pre_real _ _ _ _ _ _ (hpre c)
  ⟨fun c => G6 m c, fun c => G7 m c,
    (θ_run _ _ _).mono (fun _ h c => ⟨(h c).1.trans (final6 m c (hx c)), (h c).2.1.trans (final7 m c (hx c)), (h c).2.2⟩) (Cert.InIdeal.Value.run_blocks m ρ),
    (θ_run _ _ _).mono (fun _ h c => by
      obtain ⟨a0, a1, a2, a3, a4, a5⟩ := hag c
      exact ⟨(h c).1.trans (by rw [Cert.InRefIdeal.Read.val_main_v98_eq, a0, a1, a2, a3, a4, a5]),
        (h c).2.1.trans (by rw [Cert.InRefIdeal.Read.val_main_v58_eq, a0, a1, a2, a3]), (h c).2.2⟩) (Cert.InRefIdeal.Value.run m' ρ')⟩

/-- The reference changes no argument and leaves every semaphore at zero. -/
theorem frame_ref : quiescent_InRefIdeal := fun m ρ _ =>
  (θ_run Cert.InRefIdeal.defs _ _).mono (fun r h => ⟨fun c => (h c).2.2, Idealize.ShloMosaic.sem_eq_zero_of_no_sems (by decide) r.2⟩)
    (Cert.InRefIdeal.Value.run (F := Ideal) m ρ)

end Cert.InIdeal.Proved

end
-- ==== Proof.lean ====
module

public import proofs.«01_k».proof.Defs
public import proofs.«01_k».proof.Proof.Gen.Attn.Frame
public import proofs.«01_k».proof.Proof.Gen.Rec.Frame
public import proofs.«01_k».proof.Proof.Gen.Down.Frame
public import proofs.«01_k».proof.Proof.Gen.Up.Frame
public import proofs.«01_k».proof.Proof.Gen.Out.Frame
public import proofs.«01_k».proof.Proof.Gen.In.Frame
public import proofs.«01_k».proof.Proof.AttnValue
public import proofs.«01_k».proof.Proof.RecValue
public import proofs.«01_k».proof.Proof.DownValue
public import proofs.«01_k».proof.Proof.UpValue
public import proofs.«01_k».proof.Proof.OutValue
public import proofs.«01_k».proof.Proof.InValue
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Attn.Gen.facts, Cert.AttnIdeal.Gen.facts, Cert.AttnRefIdeal.Gen.facts,
  Cert.Rec.Gen.facts, Cert.RecIdeal.Gen.facts, Cert.RecRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Out.Gen.facts, Cert.OutIdeal.Gen.facts, Cert.OutRefIdeal.Gen.facts,
  Cert.In.Gen.facts, Cert.InIdeal.Gen.facts, Cert.InRefIdeal.Gen.facts,
  Cert.AttnIdeal.Proved.facts_pre,
  Cert.RecIdeal.Proved.facts_pre,
  Cert.InIdeal.Proved.facts_pre,
  fun m ρ _ => Cert.Attn.Gen.frame m ρ,
  fun m ρ _ => Cert.AttnIdeal.Gen.frame m ρ,
  fun m ρ _ => Cert.AttnIdeal.Gen.frame m ρ,
  Cert.AttnIdeal.Proved.frame_ref,
  fun m ρ _ => Cert.AttnIdeal.Proved.frame_ref m ρ trivial,
  fun m ρ _ => Cert.Rec.Gen.frame m ρ,
  fun m ρ _ => Cert.RecIdeal.Gen.frame m ρ,
  fun m ρ _ => Cert.RecIdeal.Gen.frame m ρ,
  Cert.RecIdeal.Proved.frame_ref,
  fun m ρ _ => Cert.RecIdeal.Proved.frame_ref m ρ trivial,
  fun m ρ _ => Cert.Down.Gen.frame m ρ,
  fun m ρ _ => Cert.DownIdeal.Gen.frame m ρ,
  Cert.DownIdeal.Proved.frame_ref,
  fun m ρ _ => Cert.Up.Gen.frame m ρ,
  fun m ρ _ => Cert.UpIdeal.Gen.frame m ρ,
  Cert.UpIdeal.Proved.frame_ref,
  fun m ρ _ => Cert.Out.Gen.frame m ρ,
  fun m ρ _ => Cert.OutIdeal.Gen.frame m ρ,
  Cert.OutIdeal.Proved.frame_ref,
  fun m ρ _ => Cert.In.Gen.frame m ρ,
  fun m ρ _ => Cert.InIdeal.Gen.frame m ρ,
  fun m ρ _ => Cert.InIdeal.Gen.frame m ρ,
  Cert.InIdeal.Proved.frame_ref,
  fun m ρ _ => Cert.InIdeal.Proved.frame_ref m ρ trivial,
  trivial,
  Cert.AttnIdeal.Proved.algebraic,
  trivial,
  Cert.RecIdeal.Proved.algebraic,
  trivial,
  Cert.DownIdeal.Proved.algebraic,
  trivial,
  Cert.UpIdeal.Proved.algebraic,
  trivial,
  Cert.OutIdeal.Proved.algebraic,
  trivial,
  Cert.InIdeal.Proved.algebraic⟩

end Cert.Proof

end
